-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "pad" .f32 0xF149F2CA#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S5000x128 : Shape := ⟨2, ![5000, 128]⟩
abbrev S16x128 : Shape := ⟨2, ![16, 128]⟩
abbrev S5000x5000 : Shape := ⟨2, ![5000, 5000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S5000x5000 : S_.BroadcastsInDim S5000x5000 (![] : Fin 0 → Fin S5000x5000.rank)
  reducesTo_S5000x5000_S_d0_1 : S5000x5000.ReducesTo [0, 1] S_
  h_S_ : 0 < S_.numel
  bcast_S_S5000x128 : S_.BroadcastsInDim S5000x128 (![] : Fin 0 → Fin S5000x128.rank)
  reducesTo_S5000x128_S_d0_1 : S5000x128.ReducesTo [0, 1] S_
  bcast_S_S16x128 : S_.BroadcastsInDim S16x128 (![] : Fin 0 → Fin S16x128.rank)
  reducesTo_S16x128_S_d0_1 : S16x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v50 : IVec S_ 1) : IVec S_ 1 :=
  let main_v51 : FVec F S128 .f32 := Host.absf main_arg11
  let main_cst_19 : FVec F S_ .f32 := constant S_ .f32 0x7F800000#32
  let main_v52 : FVec F S128 .f32 := broadcastInDim S128 ![] bcast_S_S128 main_cst_19
  let main_v53 : IVec S128 1 := cmpf .olt main_v51 main_v52
  let main_c_20 : IVec S_ 1 := constantI S_ 1 1#1
  let main_v54 : IVec S_ 1 := (fun x v => Host.reduce IntOp.andi x v reducesTo_S128_S_d0 h_S_) main_v53 main_c_20
  let main_v55 : IVec S_ 1 := andi main_v50 main_v54
  main_v55

def fn_part2 {F : FTy → Type} [FloatOps F] (main_arg8 : FVec F S128x128 .f32) (main_arg9 : FVec F S128 .f32) (main_arg10 : FVec F S128 .f32) (main_arg11 : FVec F S128 .f32) (main_v30 : IVec S_ 1) (main_v33 : IVec S4x128 1) : IVec S_ 1 :=
  let main_c_12 : IVec S_ 1 := constantI S_ 1 1#1
  let main_v34 : IVec S_ 1 := (fun x v => Host.reduce IntOp.andi x v reducesTo_S4x128_S_d0_1 h_S_) main_v33 main_c_12
  let main_v35 : IVec S_ 1 := andi main_v30 main_v34
  let main_v36 : FVec F S128x128 .f32 := Host.absf main_arg8
  let main_cst_13 : FVec F S_ .f32 := constant S_ .f32 0x7F800000#32
  let main_v37 : FVec F S128x128 .f32 := broadcastInDim S128x128 ![] bcast_S_S128x128 main_cst_13
  let main_v38 : IVec S128x128 1 := cmpf .olt main_v36 main_v37
  let main_c_14 : IVec S_ 1 := constantI S_ 1 1#1
  let main_v39 : IVec S_ 1 := (fun x v => Host.reduce IntOp.andi x v reducesTo_S128x128_S_d0_1 h_S_) main_v38 main_c_14
  let main_v40 : IVec S_ 1 := andi main_v35 main_v39
  let main_v41 : FVec F S128 .f32 := Host.absf main_arg9
  let main_cst_15 : FVec F S_ .f32 := constant S_ .f32 0x7F800000#32
  let main_v42 : FVec F S128 .f32 := broadcastInDim S128 ![] bcast_S_S128 main_cst_15
  let main_v43 : IVec S128 1 := cmpf .olt main_v41 main_v42
  let main_c_16 : IVec S_ 1 := constantI S_ 1 1#1
  let main_v44 : IVec S_ 1 := (fun x v => Host.reduce IntOp.andi x v reducesTo_S128_S_d0 h_S_) main_v43 main_c_16
  let main_v45 : IVec S_ 1 := andi main_v40 main_v44
  let main_v46 : FVec F S128 .f32 := Host.absf main_arg10
  let main_cst_17 : FVec F S_ .f32 := constant S_ .f32 0x7F800000#32
  let main_v47 : FVec F S128 .f32 := broadcastInDim S128 ![] bcast_S_S128 main_cst_17
  let main_v48 : IVec S128 1 := cmpf .olt main_v46 main_v47
  let main_c_18 : IVec S_ 1 := constantI S_ 1 1#1
  let main_v49 : IVec S_ 1 := (fun x v => Host.reduce IntOp.andi x v reducesTo_S128_S_d0 h_S_) main_v48 main_c_18
  let main_v50 : IVec S_ 1 := andi main_v45 main_v49
  fn_part3 (F := F) main_arg11 main_v50

def fn_part1 {F : FTy → Type} [FloatOps F] (main_arg5 : FVec F S4x128 .f32) (main_arg6 : FVec F S4x128 .f32) (main_arg7 : FVec F S4x128 .f32) (main_arg8 : FVec F S128x128 .f32) (main_arg9 : FVec F S128 .f32) (main_arg10 : FVec F S128 .f32) (main_arg11 : FVec F S128 .f32) (main_v15 : IVec S_ 1) (main_v16 : FVec F S4x128x128 .f32) : IVec S_ 1 :=
  let main_cst_5 : FVec F S_ .f32 := constant S_ .f32 0x7F800000#32
  let main_v17 : FVec F S4x128x128 .f32 := broadcastInDim S4x128x128 ![] bcast_S_S4x128x128 main_cst_5
  let main_v18 : IVec S4x128x128 1 := cmpf .olt main_v16 main_v17
  let main_c_6 : IVec S_ 1 := constantI S_ 1 1#1
  let main_v19 : IVec S_ 1 := (fun x v => Host.reduce IntOp.andi x v reducesTo_S4x128x128_S_d0_1_2 h_S_) main_v18 main_c_6
  let main_v20 : IVec S_ 1 := andi main_v15 main_v19
  let main_v21 : FVec F S4x128 .f32 := Host.absf main_arg5
  let main_cst_7 : FVec F S_ .f32 := constant S_ .f32 0x7F800000#32
  let main_v22 : FVec F S4x128 .f32 := broadcastInDim S4x128 ![] bcast_S_S4x128 main_cst_7
  let main_v23 : IVec S4x128 1 := cmpf .olt main_v21 main_v22
  let main_c_8 : IVec S_ 1 := constantI S_ 1 1#1
  let main_v24 : IVec S_ 1 := (fun x v => Host.reduce IntOp.andi x v reducesTo_S4x128_S_d0_1 h_S_) main_v23 main_c_8
  let main_v25 : IVec S_ 1 := andi main_v20 main_v24
  let main_v26 : FVec F S4x128 .f32 := Host.absf main_arg6
  let main_cst_9 : FVec F S_ .f32 := constant S_ .f32 0x7F800000#32
  let main_v27 : FVec F S4x128 .f32 := broadcastInDim S4x128 ![] bcast_S_S4x128 main_cst_9
  let main_v28 : IVec S4x128 1 := cmpf .olt main_v26 main_v27
  let main_c_10 : IVec S_ 1 := constantI S_ 1 1#1
  let main_v29 : IVec S_ 1 := (fun x v => Host.reduce IntOp.andi x v reducesTo_S4x128_S_d0_1 h_S_) main_v28 main_c_10
  let main_v30 : IVec S_ 1 := andi main_v25 main_v29
  let main_v31 : FVec F S4x128 .f32 := Host.absf main_arg7
  let main_cst_11 : FVec F S_ .f32 := constant S_ .f32 0x7F800000#32
  let main_v32 : FVec F S4x128 .f32 := broadcastInDim S4x128 ![] bcast_S_S4x128 main_cst_11
  let main_v33 : IVec S4x128 1 := cmpf .olt main_v31 main_v32
  fn_part2 (F := F) main_arg8 main_arg9 main_arg10 main_arg11 main_v30 main_v33

def fn {F : FTy → Type} [FloatOps F] (main_arg0 : FVec F S5000x128 .f32) (main_arg1 : FVec F S16x128 .f32) (main_arg2 : IVec S5000x5000 32) (main_arg3 : IVec S5000x5000 32) (main_arg4 : FVec F S4x128x128 .f32) (main_arg5 : FVec F S4x128 .f32) (main_arg6 : FVec F S4x128 .f32) (main_arg7 : FVec F S4x128 .f32) (main_arg8 : FVec F S128x128 .f32) (main_arg9 : FVec F S128 .f32) (main_arg10 : FVec F S128 .f32) (main_arg11 : FVec F S128 .f32) (main_arg12 : FVec F S128x64 .f32) (main_arg13 : FVec F S64 .f32) : IVec S_ 1 :=
  let main_c : IVec S_ 32 := constantI S_ 32 0#32
  let main_v0 : IVec S5000x5000 32 := broadcastInDim S5000x5000 ![] bcast_S_S5000x5000 main_c
  let main_v1 : IVec S5000x5000 1 := cmpi .sge main_arg2 main_v0
  let main_c_0 : IVec S_ 32 := constantI S_ 32 16#32
  let main_v2 : IVec S5000x5000 32 := broadcastInDim S5000x5000 ![] bcast_S_S5000x5000 main_c_0
  let main_v3 : IVec S5000x5000 1 := cmpi .slt main_arg2 main_v2
  let main_v4 : IVec S5000x5000 1 := andi main_v1 main_v3
  let main_c_1 : IVec S_ 1 := constantI S_ 1 1#1
  let main_v5 : IVec S_ 1 := (fun x v => Host.reduce IntOp.andi x v reducesTo_S5000x5000_S_d0_1 h_S_) main_v4 main_c_1
  let main_v6 : FVec F S5000x128 .f32 := Host.absf main_arg0
  let main_cst : FVec F S_ .f32 := constant S_ .f32 0x7F800000#32
  let main_v7 : FVec F S5000x128 .f32 := broadcastInDim S5000x128 ![] bcast_S_S5000x128 main_cst
  let main_v8 : IVec S5000x128 1 := cmpf .olt main_v6 main_v7
  let main_c_2 : IVec S_ 1 := constantI S_ 1 1#1
  let main_v9 : IVec S_ 1 := (fun x v => Host.reduce IntOp.andi x v reducesTo_S5000x128_S_d0_1 h_S_) main_v8 main_c_2
  let main_v10 : IVec S_ 1 := andi main_v5 main_v9
  let main_v11 : FVec F S16x128 .f32 := Host.absf main_arg1
  let main_cst_3 : FVec F S_ .f32 := constant S_ .f32 0x7F800000#32
  let main_v12 : FVec F S16x128 .f32 := broadcastInDim S16x128 ![] bcast_S_S16x128 main_cst_3
  let main_v13 : IVec S16x128 1 := cmpf .olt main_v11 main_v12
  let main_c_4 : IVec S_ 1 := constantI S_ 1 1#1
  let main_v14 : IVec S_ 1 := (fun x v => Host.reduce IntOp.andi x v reducesTo_S16x128_S_d0_1 h_S_) main_v13 main_c_4
  let main_v15 : IVec S_ 1 := andi main_v10 main_v14
  let main_v16 : FVec F S4x128x128 .f32 := Host.absf main_arg4
  fn_part1 (F := F) main_arg5 main_arg6 main_arg7 main_arg8 main_arg9 main_arg10 main_arg11 main_v15 main_v16
-- ==== Kernel.lean ====
abbrev S5000x128 : Shape := ⟨2, ![5000, 128]⟩
abbrev S16x128 : Shape := ⟨2, ![16, 128]⟩
abbrev S5000x5000 : Shape := ⟨2, ![5000, 5000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S4x128x1 : Shape := ⟨3, ![4, 128, 1]⟩
abbrev S_ : Shape := ⟨0, ![]⟩
abbrev S8x128 : Shape := ⟨2, ![8, 128]⟩
abbrev S1 : Shape := ⟨1, ![1]⟩
abbrev S128x16 : Shape := ⟨2, ![128, 16]⟩
abbrev S4x5120x128 : Shape := ⟨3, ![4, 5120, 128]⟩
abbrev S4x5120x1 : Shape := ⟨3, ![4, 5120, 1]⟩
abbrev S8x16 : Shape := ⟨2, ![8, 16]⟩
abbrev S1x128x128 : Shape := ⟨3, ![1, 128, 128]⟩
abbrev S1x128x1 : Shape := ⟨3, ![1, 128, 1]⟩
abbrev S1x5120x128 : Shape := ⟨3, ![1, 5120, 128]⟩
abbrev S1x5120x1 : Shape := ⟨3, ![1, 5120, 1]⟩
abbrev S1x5000x128 : Shape := ⟨3, ![1, 5000, 128]⟩
abbrev S128x1 : Shape := ⟨2, ![128, 1]⟩
abbrev S5000x1 : Shape := ⟨2, ![5000, 1]⟩
abbrev S1x5000x1 : Shape := ⟨3, ![1, 5000, 1]⟩
abbrev S120x128 : Shape := ⟨2, ![120, 128]⟩
abbrev S1x120x128 : Shape := ⟨3, ![1, 120, 128]⟩
abbrev S120x1 : Shape := ⟨2, ![120, 1]⟩
abbrev S1x120x1 : Shape := ⟨3, ![1, 120, 1]⟩
abbrev S4x1x5120 : Shape := ⟨3, ![4, 1, 5120]⟩
abbrev S5120x128 : Shape := ⟨2, ![5120, 128]⟩
abbrev S5120x1 : Shape := ⟨2, ![5120, 1]⟩
abbrev S256x512 : Shape := ⟨2, ![256, 512]⟩
abbrev S4x256x1 : Shape := ⟨3, ![4, 256, 1]⟩
abbrev S4x1x512 : Shape := ⟨3, ![4, 1, 512]⟩
abbrev S256x128 : Shape := ⟨2, ![256, 128]⟩
abbrev S256x1 : Shape := ⟨2, ![256, 1]⟩
abbrev S4x256x128 : Shape := ⟨3, ![4, 256, 128]⟩
abbrev S1x512 : Shape := ⟨2, ![1, 512]⟩
abbrev S1x512x128 : Shape := ⟨3, ![1, 512, 128]⟩
abbrev S512x128 : Shape := ⟨2, ![512, 128]⟩
abbrev S1x256x1 : Shape := ⟨3, ![1, 256, 1]⟩
abbrev S1x1x512 : Shape := ⟨3, ![1, 1, 512]⟩
abbrev S1x1 : Shape := ⟨2, ![1, 1]⟩
abbrev S256 : Shape := ⟨1, ![256]⟩
abbrev S1x256x128 : Shape := ⟨3, ![1, 256, 128]⟩
abbrev S1x5120 : Shape := ⟨2, ![1, 5120]⟩
abbrev S1x64 : Shape := ⟨2, ![1, 64]⟩
abbrev S5120x64 : Shape := ⟨2, ![5120, 64]⟩
abbrev S256x64 : Shape := ⟨2, ![256, 64]⟩
abbrev S5000x64 : Shape := ⟨2, ![5000, 64]⟩

abbrev nBuf : Space → Nat
  | .hbm => 39
  | .vmem => 55
  | .smem => 0
  | _ => 0

abbrev bufTy : (tb : Table) → Fin (tcTables nBuf tb) → BufTy
  | .hbm, ⟨0, _⟩ => ⟨S5000x128, .f32⟩
  | .hbm, ⟨1, _⟩ => ⟨S16x128, .f32⟩
  | .hbm, ⟨2, _⟩ => ⟨S5000x5000, .i32⟩
  | .hbm, ⟨3, _⟩ => ⟨S5000x5000, .i32⟩
  | .hbm, ⟨4, _⟩ => ⟨S4x128x128, .f32⟩
  | .hbm, ⟨5, _⟩ => ⟨S4x128, .f32⟩
  | .hbm, ⟨6, _⟩ => ⟨S4x128, .f32⟩
  | .hbm, ⟨7, _⟩ => ⟨S4x128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S4x128x1, .f32⟩
  | .hbm, ⟨15, _⟩ => ⟨S4x128x1, .f32⟩
  | .hbm, ⟨16, _⟩ => ⟨S_, .f32⟩
  | .hbm, ⟨17, _⟩ => ⟨S8x128, .f32⟩
  | .hbm, ⟨18, _⟩ => ⟨S_, .i32⟩
  | .hbm, ⟨19, _⟩ => ⟨S1, .i32⟩
  | .hbm, ⟨20, _⟩ => ⟨S8x128, .f32⟩
  | .hbm, ⟨21, _⟩ => ⟨S_, .i32⟩
  | .hbm, ⟨22, _⟩ => ⟨S1, .i32⟩
  | .hbm, ⟨23, _⟩ => ⟨S8x128, .f32⟩
  | .hbm, ⟨24, _⟩ => ⟨S128x16, .f32⟩
  | .hbm, ⟨25, _⟩ => ⟨S4x5120x128, .f32⟩
  | .hbm, ⟨26, _⟩ => ⟨S4x5120x1, .f32⟩
  | .hbm, ⟨27, _⟩ => ⟨S4x5120x1, .f32⟩
  | .hbm, ⟨28, _⟩ => ⟨S8x16, .f32⟩
  | .hbm, ⟨29, _⟩ => ⟨S4x1x5120, .f32⟩
  | .hbm, ⟨30, _⟩ => ⟨S128x1, .f32⟩
  | .hbm, ⟨31, _⟩ => ⟨S128x1, .f32⟩
  | .hbm, ⟨32, _⟩ => ⟨S5120x128, .f32⟩
  | .hbm, ⟨33, _⟩ => ⟨S5120x1, .f32⟩
  | .hbm, ⟨34, _⟩ => ⟨S5120x1, .f32⟩
  | .hbm, ⟨35, _⟩ => ⟨S1x5120, .f32⟩
  | .hbm, ⟨36, _⟩ => ⟨S1x64, .f32⟩
  | .hbm, ⟨37, _⟩ => ⟨S5120x64, .f32⟩
  | .hbm, ⟨38, _⟩ => ⟨S5000x64, .f32⟩
  | .local _ .vmem, ⟨0, _⟩ => ⟨S5000x128, .f32⟩
  | .local _ .vmem, ⟨1, _⟩ => ⟨S1x128x128, .f32⟩
  | .local _ .vmem, ⟨2, _⟩ => ⟨S1x128x128, .f32⟩
  | .local _ .vmem, ⟨3, _⟩ => ⟨S1x128x1, .f32⟩
  | .local _ .vmem, ⟨4, _⟩ => ⟨S1x128x1, .f32⟩
  | .local _ .vmem, ⟨5, _⟩ => ⟨S1x128x1, .f32⟩
  | .local _ .vmem, ⟨6, _⟩ => ⟨S1x128x1, .f32⟩
  | .local _ .vmem, ⟨7, _⟩ => ⟨S8x128, .f32⟩
  | .local _ .vmem, ⟨8, _⟩ => ⟨S128x16, .f32⟩
  | .local _ .vmem, ⟨9, _⟩ => ⟨S1x5120x128, .f32⟩
  | .local _ .vmem, ⟨10, _⟩ => ⟨S1x5120x128, .f32⟩
  | .local _ .vmem, ⟨11, _⟩ => ⟨S1x5120x1, .f32⟩
  | .local _ .vmem, ⟨12, _⟩ => ⟨S1x5120x1, .f32⟩
  | .local _ .vmem, ⟨13, _⟩ => ⟨S1x5120x1, .f32⟩
  | .local _ .vmem, ⟨14, _⟩ => ⟨S1x5120x1, .f32⟩
  | .local _ .vmem, ⟨15, _⟩ => ⟨S8x16, .f32⟩
  | .local _ .vmem, ⟨16, _⟩ => ⟨S256x512, .i32⟩
  | .local _ .vmem, ⟨17, _⟩ => ⟨S256x512, .i32⟩
  | .local _ .vmem, ⟨18, _⟩ => ⟨S256x512, .i32⟩
  | .local _ .vmem, ⟨19, _⟩ => ⟨S256x512, .i32⟩
  | .local _ .vmem, ⟨20, _⟩ => ⟨S4x5120x128, .f32⟩
  | .local _ .vmem, ⟨21, _⟩ => ⟨S4x256x1, .f32⟩
  | .local _ .vmem, ⟨22, _⟩ => ⟨S4x256x1, .f32⟩
  | .local _ .vmem, ⟨23, _⟩ => ⟨S4x1x512, .f32⟩
  | .local _ .vmem, ⟨24, _⟩ => ⟨S4x1x512, .f32⟩
  | .local _ .vmem, ⟨25, _⟩ => ⟨S8x16, .f32⟩
  | .local _ .vmem, ⟨26, _⟩ => ⟨S128x128, .f32⟩
  | .local _ .vmem, ⟨27, _⟩ => ⟨S128x1, .f32⟩
  | .local _ .vmem, ⟨28, _⟩ => ⟨S128x1, .f32⟩
  | .local _ .vmem, ⟨29, _⟩ => ⟨S256x128, .f32⟩
  | .local _ .vmem, ⟨30, _⟩ => ⟨S256x128, .f32⟩
  | .local _ .vmem, ⟨31, _⟩ => ⟨S256x1, .f32⟩
  | .local _ .vmem, ⟨32, _⟩ => ⟨S256x1, .f32⟩
  | .local _ .vmem, ⟨33, _⟩ => ⟨S256x1, .f32⟩
  | .local _ .vmem, ⟨34, _⟩ => ⟨S256x1, .f32⟩
  | .local _ .vmem, ⟨35, _⟩ => ⟨S4x256x1, .f32⟩
  | .local _ .vmem, ⟨36, _⟩ => ⟨S4x256x1, .f32⟩
  | .local _ .vmem, ⟨37, _⟩ => ⟨S4x256x128, .f32⟩
  | .local _ .vmem, ⟨38, _⟩ => ⟨S256x512, .i32⟩
  | .local _ .vmem, ⟨39, _⟩ => ⟨S256x512, .i32⟩
  | .local _ .vmem, ⟨40, _⟩ => ⟨S256x512, .i32⟩
  | .local _ .vmem, ⟨41, _⟩ => ⟨S256x512, .i32⟩
  | .local _ .vmem, ⟨42, _⟩ => ⟨S5120x128, .f32⟩
  | .local _ .vmem, ⟨43, _⟩ => ⟨S256x1, .f32⟩
  | .local _ .vmem, ⟨44, _⟩ => ⟨S256x1, .f32⟩
  | .local _ .vmem, ⟨45, _⟩ => ⟨S1x512, .f32⟩
  | .local _ .vmem, ⟨46, _⟩ => ⟨S1x512, .f32⟩
  | .local _ .vmem, ⟨47, _⟩ => ⟨S8x16, .f32⟩
  | .local _ .vmem, ⟨48, _⟩ => ⟨S128x64, .f32⟩
  | .local _ .vmem, ⟨49, _⟩ => ⟨S1x64, .f32⟩
  | .local _ .vmem, ⟨50, _⟩ => ⟨S256x64, .f32⟩
  | .local _ .vmem, ⟨51, _⟩ => ⟨S256x64, .f32⟩
  | .local _ .vmem, ⟨52, _⟩ => ⟨S1x256x1, .f32⟩
  | .local _ .vmem, ⟨53, _⟩ => ⟨S1x256x1, .f32⟩
  | .local _ .vmem, ⟨54, _⟩ => ⟨S1x256x128, .f32⟩
  | _, _ => ⟨S5000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_v8_3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12_0 : Ref sig .tc := ⟨.hbm, 32, rfl⟩
abbrev main_v12_1 : Ref sig .tc := ⟨.hbm, 33, rfl⟩
abbrev main_v12_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc1_stg11_1 : Ref sig .tc := ⟨.vmem, 34, rfl⟩
abbrev cc1_scratch0 : Ref sig .tc := ⟨.vmem, 35, rfl⟩
abbrev cc1_scratch1 : Ref sig .tc := ⟨.vmem, 36, rfl⟩
abbrev cc1_scratch2 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg3_0 : Ref sig .tc := ⟨.vmem, 43, rfl⟩
abbrev cc2_stg3_1 : Ref sig .tc := ⟨.vmem, 44, rfl⟩
abbrev cc2_stg4_0 : Ref sig .tc := ⟨.vmem, 45, rfl⟩
abbrev cc2_stg4_1 : Ref sig .tc := ⟨.vmem, 46, rfl⟩
abbrev cc2_stg5_0 : Ref sig .tc := ⟨.vmem, 47, rfl⟩
abbrev cc2_stg6_0 : Ref sig .tc := ⟨.vmem, 48, rfl⟩
abbrev cc2_stg7_0 : Ref sig .tc := ⟨.vmem, 49, rfl⟩
abbrev cc2_stg8_0 : Ref sig .tc := ⟨.vmem, 50, rfl⟩
abbrev cc2_stg8_1 : Ref sig .tc := ⟨.vmem, 51, rfl⟩
abbrev cc2_scratch0 : Ref sig .tc := ⟨.vmem, 52, rfl⟩
abbrev cc2_scratch1 : Ref sig .tc := ⟨.vmem, 53, rfl⟩
abbrev cc2_scratch2 : Ref sig .tc := ⟨.vmem, 54, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem9_1 : DmaSem sig := 30
abbrev cc1_sem10_0 : DmaSem sig := 31
abbrev cc1_sem10_1 : DmaSem sig := 32
abbrev cc1_sem11_0 : DmaSem sig := 33
abbrev cc1_sem11_1 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem3_0 : DmaSem sig := 40
abbrev cc2_sem3_1 : DmaSem sig := 41
abbrev cc2_sem4_0 : DmaSem sig := 42
abbrev cc2_sem4_1 : DmaSem sig := 43
abbrev cc2_sem5_0 : DmaSem sig := 44
abbrev cc2_sem6_0 : DmaSem sig := 45
abbrev cc2_sem7_0 : DmaSem sig := 46
abbrev cc2_sem8_0 : DmaSem sig := 47
abbrev cc2_sem8_1 : DmaSem sig := 48

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x5120x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x5120x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x5120x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨2, ![20, 10], ![false, false]⟩

def k1_off1 (i : grid1.Coords) : Fin 3 → Nat :=
  let c0_11 : Index := 0#32
  let arg1 : BitVec 32 := BitVec.ofNat 32 (i 1).val
  let c512_i32_10 : BitVec 32 := 512#32
  let v34 : BitVec 32 := Scalar.muli arg1 c512_i32_10
  let v35 : Index := Scalar.indexCast v34
  let c0_12 : Index := 0#32
  ![0, v35.toNat, 0]
def k1_off2 (i : grid1.Coords) : Fin 3 → Nat :=
  let c1_59 : Index := 1#32
  let arg1 : BitVec 32 := BitVec.ofNat 32 (i 1).val
  let c512_i32_58 : BitVec 32 := 512#32
  let v146 : BitVec 32 := Scalar.muli arg1 c512_i32_58
  let v147 : Index := Scalar.indexCast v146
  let c0_60 : Index := 0#32
  ![1, v147.toNat, 0]
def k1_off3 (i : grid1.Coords) : Fin 3 → Nat :=
  let c2_122 : Index := 2#32
  let arg1 : BitVec 32 := BitVec.ofNat 32 (i 1).val
  let c512_i32_121 : BitVec 32 := 512#32
  let v258 : BitVec 32 := Scalar.muli arg1 c512_i32_121
  let v259 : Index := Scalar.indexCast v258
  let c0_123 : Index := 0#32
  ![2, v259.toNat, 0]
def k1_off4 (i : grid1.Coords) : Fin 3 → Nat :=
  let c3_185 : Index := 3#32
  let arg1 : BitVec 32 := BitVec.ofNat 32 (i 1).val
  let c512_i32_184 : BitVec 32 := 512#32
  let v370 : BitVec 32 := Scalar.muli arg1 c512_i32_184
  let v371 : Index := Scalar.indexCast v370
  let c0_186 : Index := 0#32
  ![3, v371.toNat, 0]
def k1_cond2 (i : grid1.Coords) : BitVec 1 :=
  let arg1 : BitVec 32 := BitVec.ofNat 32 (i 1).val
  let c9_i32 : BitVec 32 := 9#32
  let v482 : BitVec 1 := Scalar.cmpi .eq arg1 c9_i32
  let v483 : BitVec 32 := Scalar.extui v482
  let c0_i32_247 : BitVec 32 := 0#32
  let v484 : BitVec 1 := Scalar.cmpi .ne v483 c0_i32_247
  v484

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S4x5120x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S4x256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S4x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S8x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S256x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S256x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev grid2 : Pipeline.Grid := ⟨2, ![20, 10], ![false, false]⟩

def k2_off1 (i : grid2.Coords) : Fin 2 → Nat :=
  let arg1 : BitVec 32 := BitVec.ofNat 32 (i 1).val
  let c512_i32_6 : BitVec 32 := 512#32
  let v18 : BitVec 32 := Scalar.muli arg1 c512_i32_6
  let v19 : Index := Scalar.indexCast v18
  let c0_7 : Index := 0#32
  ![v19.toNat, 0]
def k2_cond2 (i : grid2.Coords) : BitVec 1 :=
  let arg1 : BitVec 32 := BitVec.ofNat 32 (i 1).val
  let c9_i32 : BitVec 32 := 9#32
  let v146 : BitVec 1 := Scalar.cmpi .eq arg1 c9_i32
  let v147 : BitVec 32 := Scalar.extui v146
  let c0_i32_55 : BitVec 32 := 0#32
  let v148 : BitVec 1 := Scalar.cmpi .ne v147 c0_i32_55
  v148

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x512 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x512 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S5120x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 1 → Memref sig .tc .vmem S8x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S256x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]
-- ==== KernelIdeal.lean ====
variable {F : FTy → Type} [FloatOps F] [Named F]
def κ : String → Option EReal := fun
  | "pad" => some ⊥
  | _ => none
-- ==== ReferenceIdeal.lean ====
abbrev S5000x128 : Shape := ⟨2, ![5000, 128]⟩
abbrev S16x128 : Shape := ⟨2, ![16, 128]⟩
abbrev S5000x5000 : Shape := ⟨2, ![5000, 5000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128x128 : Shape := ⟨3, ![1, 128, 128]⟩
abbrev S1x128 : Shape := ⟨2, ![1, 128]⟩
abbrev S5000 : Shape := ⟨1, ![5000]⟩
abbrev S16 : Shape := ⟨1, ![16]⟩
abbrev S_ : Shape := ⟨0, ![]⟩
abbrev S5000x5000x1 : Shape := ⟨3, ![5000, 5000, 1]⟩
abbrev S1 : Shape := ⟨1, ![1]⟩
abbrev S1x1x1 : Shape := ⟨3, ![1, 1, 1]⟩
abbrev S5000x1 : Shape := ⟨2, ![5000, 1]⟩
abbrev S1x5000 : Shape := ⟨2, ![1, 5000]⟩
abbrev S1x5000x128 : Shape := ⟨3, ![1, 5000, 128]⟩
abbrev S4x5000x128 : Shape := ⟨3, ![4, 5000, 128]⟩
abbrev S5000x64 : Shape := ⟨2, ![5000, 64]⟩
abbrev S1x64 : Shape := ⟨2, ![1, 64]⟩

abbrev nBuf : Space → Nat
  | .hbm => 440
  | .vmem => 0
  | .smem => 0
  | _ => 0

abbrev hbmTy0_0 (i : Nat) : BufTy := match i % 128 with
  | 0 => ⟨S5000x128, .f32⟩
  | 1 => ⟨S16x128, .f32⟩
  | 2 => ⟨S5000x5000, .i32⟩
  | 3 => ⟨S5000x5000, .i32⟩
  | 4 => ⟨S4x128x128, .f32⟩
  | 5 => ⟨S4x128, .f32⟩
  | 6 => ⟨S4x128, .f32⟩
  | 7 => ⟨S4x128, .f32⟩
  | 8 => ⟨S128x128, .f32⟩
  | 9 => ⟨S128, .f32⟩
  | 10 => ⟨S128, .f32⟩
  | 11 => ⟨S128, .f32⟩
  | 12 => ⟨S128x64, .f32⟩
  | 13 => ⟨S64, .f32⟩
  | 14 => ⟨S1x128x128, .f32⟩
  | 15 => ⟨S128x128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S128, .f32⟩
  | 22 => ⟨S5000x128, .f32⟩
  | 23 => ⟨S5000, .f32⟩
  | 24 => ⟨S5000, .f32⟩
  | 25 => ⟨S16, .f32⟩
  | 26 => ⟨S_, .i32⟩
  | 27 => ⟨S5000x5000, .i32⟩
  | 28 => ⟨S5000x5000, .i1⟩
  | 29 => ⟨S_, .i32⟩
  | 30 => ⟨S5000x5000, .i32⟩
  | 31 => ⟨S5000x5000, .i32⟩
  | 32 => ⟨S5000x5000, .i32⟩
  | 33 => ⟨S5000x5000x1, .i32⟩
  | 34 => ⟨S1, .i32⟩
  | 35 => ⟨S_, .i32⟩
  | 36 => ⟨S5000x5000x1, .i32⟩
  | 37 => ⟨S5000x5000x1, .i1⟩
  | 38 => ⟨S1x1x1, .i32⟩
  | 39 => ⟨S5000x5000x1, .i32⟩
  | 40 => ⟨S5000x5000x1, .i1⟩
  | 41 => ⟨S5000x5000x1, .i1⟩
  | 42 => ⟨S_, .i1⟩
  | 43 => ⟨S5000x5000, .i1⟩
  | 44 => ⟨S5000x5000, .f32⟩
  | 45 => ⟨S_, .f32⟩
  | 46 => ⟨S5000x5000, .f32⟩
  | 47 => ⟨S5000x5000, .f32⟩
  | 48 => ⟨S5000x1, .f32⟩
  | 49 => ⟨S1x5000, .f32⟩
  | 50 => ⟨S5000x5000, .f32⟩
  | 51 => ⟨S5000x5000, .f32⟩
  | 52 => ⟨S5000x5000, .f32⟩
  | 53 => ⟨S5000x5000, .f32⟩
  | 54 => ⟨S_, .f32⟩
  | 55 => ⟨S_, .f32⟩
  | 56 => ⟨S5000x5000, .f32⟩
  | 57 => ⟨S5000x5000, .i1⟩
  | 58 => ⟨S_, .f32⟩
  | 59 => ⟨S5000x5000, .f32⟩
  | 60 => ⟨S5000x5000, .f32⟩
  | 61 => ⟨S5000x5000, .f32⟩
  | 62 => ⟨S_, .i32⟩
  | 63 => ⟨S5000x5000, .i32⟩
  | 64 => ⟨S5000x5000, .i1⟩
  | 65 => ⟨S_, .f32⟩
  | 66 => ⟨S5000x5000, .f32⟩
  | 67 => ⟨S5000x5000, .f32⟩
  | 68 => ⟨S_, .f32⟩
  | 69 => ⟨S5000, .f32⟩
  | 70 => ⟨S_, .f32⟩
  | 71 => ⟨S5000, .f32⟩
  | 72 => ⟨S5000, .f32⟩
  | 73 => ⟨S5000x1, .f32⟩
  | 74 => ⟨S5000x5000, .f32⟩
  | 75 => ⟨S5000x5000, .f32⟩
  | 76 => ⟨S5000x5000, .f32⟩
  | 77 => ⟨S_, .f32⟩
  | 78 => ⟨S5000, .f32⟩
  | 79 => ⟨S5000x1, .f32⟩
  | 80 => ⟨S5000x5000, .f32⟩
  | 81 => ⟨S5000x5000, .f32⟩
  | 82 => ⟨S5000x128, .f32⟩
  | 83 => ⟨S_, .f32⟩
  | 84 => ⟨S5000x128, .f32⟩
  | 85 => ⟨S5000x128, .i1⟩
  | 86 => ⟨S_, .f32⟩
  | 87 => ⟨S5000x128, .f32⟩
  | 88 => ⟨S5000x128, .i1⟩
  | 89 => ⟨S_, .f32⟩
  | 90 => ⟨S_, .f32⟩
  | 91 => ⟨S5000x128, .f32⟩
  | 92 => ⟨S5000x128, .f32⟩
  | 93 => ⟨S5000x128, .f32⟩
  | 94 => ⟨S_, .f32⟩
  | 95 => ⟨S5000x128, .f32⟩
  | 96 => ⟨S5000x128, .f32⟩
  | 97 => ⟨S5000x128, .f32⟩
  | 98 => ⟨S1x128x128, .f32⟩
  | 99 => ⟨S128x128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S128, .f32⟩
  | 106 => ⟨S5000x128, .f32⟩
  | 107 => ⟨S5000, .f32⟩
  | 108 => ⟨S5000, .f32⟩
  | 109 => ⟨S16, .f32⟩
  | 110 => ⟨S_, .i32⟩
  | 111 => ⟨S5000x5000, .i32⟩
  | 112 => ⟨S5000x5000, .i1⟩
  | 113 => ⟨S_, .i32⟩
  | 114 => ⟨S5000x5000, .i32⟩
  | 115 => ⟨S5000x5000, .i32⟩
  | 116 => ⟨S5000x5000, .i32⟩
  | 117 => ⟨S5000x5000x1, .i32⟩
  | 118 => ⟨S1, .i32⟩
  | 119 => ⟨S_, .i32⟩
  | 120 => ⟨S5000x5000x1, .i32⟩
  | 121 => ⟨S5000x5000x1, .i1⟩
  | 122 => ⟨S1x1x1, .i32⟩
  | 123 => ⟨S5000x5000x1, .i32⟩
  | 124 => ⟨S5000x5000x1, .i1⟩
  | 125 => ⟨S5000x5000x1, .i1⟩
  | 126 => ⟨S_, .i1⟩
  | 127 => ⟨S5000x5000, .i1⟩
  | _ => ⟨S5000x128, .f32⟩

abbrev hbmTy0_1 (i : Nat) : BufTy := match i % 128 with
  | 0 => ⟨S5000x5000, .f32⟩
  | 1 => ⟨S_, .f32⟩
  | 2 => ⟨S5000x5000, .f32⟩
  | 3 => ⟨S5000x5000, .f32⟩
  | 4 => ⟨S5000x1, .f32⟩
  | 5 => ⟨S1x5000, .f32⟩
  | 6 => ⟨S5000x5000, .f32⟩
  | 7 => ⟨S5000x5000, .f32⟩
  | 8 => ⟨S5000x5000, .f32⟩
  | 9 => ⟨S5000x5000, .f32⟩
  | 10 => ⟨S_, .f32⟩
  | 11 => ⟨S_, .f32⟩
  | 12 => ⟨S5000x5000, .f32⟩
  | 13 => ⟨S5000x5000, .i1⟩
  | 14 => ⟨S_, .f32⟩
  | 15 => ⟨S5000x5000, .f32⟩
  | 16 => ⟨S5000x5000, .f32⟩
  | 17 => ⟨S5000x5000, .f32⟩
  | 18 => ⟨S_, .i32⟩
  | 19 => ⟨S5000x5000, .i32⟩
  | 20 => ⟨S5000x5000, .i1⟩
  | 21 => ⟨S_, .f32⟩
  | 22 => ⟨S5000x5000, .f32⟩
  | 23 => ⟨S5000x5000, .f32⟩
  | 24 => ⟨S_, .f32⟩
  | 25 => ⟨S5000, .f32⟩
  | 26 => ⟨S_, .f32⟩
  | 27 => ⟨S5000, .f32⟩
  | 28 => ⟨S5000, .f32⟩
  | 29 => ⟨S5000x1, .f32⟩
  | 30 => ⟨S5000x5000, .f32⟩
  | 31 => ⟨S5000x5000, .f32⟩
  | 32 => ⟨S5000x5000, .f32⟩
  | 33 => ⟨S_, .f32⟩
  | 34 => ⟨S5000, .f32⟩
  | 35 => ⟨S5000x1, .f32⟩
  | 36 => ⟨S5000x5000, .f32⟩
  | 37 => ⟨S5000x5000, .f32⟩
  | 38 => ⟨S5000x128, .f32⟩
  | 39 => ⟨S_, .f32⟩
  | 40 => ⟨S5000x128, .f32⟩
  | 41 => ⟨S5000x128, .i1⟩
  | 42 => ⟨S_, .f32⟩
  | 43 => ⟨S5000x128, .f32⟩
  | 44 => ⟨S5000x128, .i1⟩
  | 45 => ⟨S_, .f32⟩
  | 46 => ⟨S_, .f32⟩
  | 47 => ⟨S5000x128, .f32⟩
  | 48 => ⟨S5000x128, .f32⟩
  | 49 => ⟨S5000x128, .f32⟩
  | 50 => ⟨S_, .f32⟩
  | 51 => ⟨S5000x128, .f32⟩
  | 52 => ⟨S5000x128, .f32⟩
  | 53 => ⟨S5000x128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S128, .f32⟩
  | 62 => ⟨S5000x128, .f32⟩
  | 63 => ⟨S5000, .f32⟩
  | 64 => ⟨S5000, .f32⟩
  | 65 => ⟨S16, .f32⟩
  | 66 => ⟨S_, .i32⟩
  | 67 => ⟨S5000x5000, .i32⟩
  | 68 => ⟨S5000x5000, .i1⟩
  | 69 => ⟨S_, .i32⟩
  | 70 => ⟨S5000x5000, .i32⟩
  | 71 => ⟨S5000x5000, .i32⟩
  | 72 => ⟨S5000x5000, .i32⟩
  | 73 => ⟨S5000x5000x1, .i32⟩
  | 74 => ⟨S1, .i32⟩
  | 75 => ⟨S_, .i32⟩
  | 76 => ⟨S5000x5000x1, .i32⟩
  | 77 => ⟨S5000x5000x1, .i1⟩
  | 78 => ⟨S1x1x1, .i32⟩
  | 79 => ⟨S5000x5000x1, .i32⟩
  | 80 => ⟨S5000x5000x1, .i1⟩
  | 81 => ⟨S5000x5000x1, .i1⟩
  | 82 => ⟨S_, .i1⟩
  | 83 => ⟨S5000x5000, .i1⟩
  | 84 => ⟨S5000x5000, .f32⟩
  | 85 => ⟨S_, .f32⟩
  | 86 => ⟨S5000x5000, .f32⟩
  | 87 => ⟨S5000x5000, .f32⟩
  | 88 => ⟨S5000x1, .f32⟩
  | 89 => ⟨S1x5000, .f32⟩
  | 90 => ⟨S5000x5000, .f32⟩
  | 91 => ⟨S5000x5000, .f32⟩
  | 92 => ⟨S5000x5000, .f32⟩
  | 93 => ⟨S5000x5000, .f32⟩
  | 94 => ⟨S_, .f32⟩
  | 95 => ⟨S_, .f32⟩
  | 96 => ⟨S5000x5000, .f32⟩
  | 97 => ⟨S5000x5000, .i1⟩
  | 98 => ⟨S_, .f32⟩
  | 99 => ⟨S5000x5000, .f32⟩
  | 100 => ⟨S5000x5000, .f32⟩
  | 101 => ⟨S5000x5000, .f32⟩
  | 102 => ⟨S_, .i32⟩
  | 103 => ⟨S5000x5000, .i32⟩
  | 104 => ⟨S5000x5000, .i1⟩
  | 105 => ⟨S_, .f32⟩
  | 106 => ⟨S5000x5000, .f32⟩
  | 107 => ⟨S5000x5000, .f32⟩
  | 108 => ⟨S_, .f32⟩
  | 109 => ⟨S5000, .f32⟩
  | 110 => ⟨S_, .f32⟩
  | 111 => ⟨S5000, .f32⟩
  | 112 => ⟨S5000, .f32⟩
  | 113 => ⟨S5000x1, .f32⟩
  | 114 => ⟨S5000x5000, .f32⟩
  | 115 => ⟨S5000x5000, .f32⟩
  | 116 => ⟨S5000x5000, .f32⟩
  | 117 => ⟨S_, .f32⟩
  | 118 => ⟨S5000, .f32⟩
  | 119 => ⟨S5000x1, .f32⟩
  | 120 => ⟨S5000x5000, .f32⟩
  | 121 => ⟨S5000x5000, .f32⟩
  | 122 => ⟨S5000x128, .f32⟩
  | 123 => ⟨S_, .f32⟩
  | 124 => ⟨S5000x128, .f32⟩
  | 125 => ⟨S5000x128, .i1⟩
  | 126 => ⟨S_, .f32⟩
  | 127 => ⟨S5000x128, .f32⟩
  | _ => ⟨S5000x128, .f32⟩

abbrev hbmTy0_2 (i : Nat) : BufTy := match i % 128 with
  | 0 => ⟨S5000x128, .i1⟩
  | 1 => ⟨S_, .f32⟩
  | 2 => ⟨S_, .f32⟩
  | 3 => ⟨S5000x128, .f32⟩
  | 4 => ⟨S5000x128, .f32⟩
  | 5 => ⟨S5000x128, .f32⟩
  | 6 => ⟨S_, .f32⟩
  | 7 => ⟨S5000x128, .f32⟩
  | 8 => ⟨S5000x128, .f32⟩
  | 9 => ⟨S5000x128, .f32⟩
  | 10 => ⟨S1x128x128, .f32⟩
  | 11 => ⟨S128x128, .f32⟩
  | 12 => ⟨S1x128, .f32⟩
  | 13 => ⟨S128, .f32⟩
  | 14 => ⟨S1x128, .f32⟩
  | 15 => ⟨S128, .f32⟩
  | 16 => ⟨S1x128, .f32⟩
  | 17 => ⟨S128, .f32⟩
  | 18 => ⟨S5000x128, .f32⟩
  | 19 => ⟨S5000, .f32⟩
  | 20 => ⟨S5000, .f32⟩
  | 21 => ⟨S16, .f32⟩
  | 22 => ⟨S_, .i32⟩
  | 23 => ⟨S5000x5000, .i32⟩
  | 24 => ⟨S5000x5000, .i1⟩
  | 25 => ⟨S_, .i32⟩
  | 26 => ⟨S5000x5000, .i32⟩
  | 27 => ⟨S5000x5000, .i32⟩
  | 28 => ⟨S5000x5000, .i32⟩
  | 29 => ⟨S5000x5000x1, .i32⟩
  | 30 => ⟨S1, .i32⟩
  | 31 => ⟨S_, .i32⟩
  | 32 => ⟨S5000x5000x1, .i32⟩
  | 33 => ⟨S5000x5000x1, .i1⟩
  | 34 => ⟨S1x1x1, .i32⟩
  | 35 => ⟨S5000x5000x1, .i32⟩
  | 36 => ⟨S5000x5000x1, .i1⟩
  | 37 => ⟨S5000x5000x1, .i1⟩
  | 38 => ⟨S_, .i1⟩
  | 39 => ⟨S5000x5000, .i1⟩
  | 40 => ⟨S5000x5000, .f32⟩
  | 41 => ⟨S_, .f32⟩
  | 42 => ⟨S5000x5000, .f32⟩
  | 43 => ⟨S5000x5000, .f32⟩
  | 44 => ⟨S5000x1, .f32⟩
  | 45 => ⟨S1x5000, .f32⟩
  | 46 => ⟨S5000x5000, .f32⟩
  | 47 => ⟨S5000x5000, .f32⟩
  | 48 => ⟨S5000x5000, .f32⟩
  | 49 => ⟨S5000x5000, .f32⟩
  | 50 => ⟨S_, .f32⟩
  | 51 => ⟨S_, .f32⟩
  | 52 => ⟨S5000x5000, .f32⟩
  | 53 => ⟨S5000x5000, .i1⟩
  | 54 => ⟨S_, .f32⟩
  | 55 => ⟨S5000x5000, .f32⟩
  | 56 => ⟨S5000x5000, .f32⟩
  | 57 => ⟨S5000x5000, .f32⟩
  | 58 => ⟨S_, .i32⟩
  | 59 => ⟨S5000x5000, .i32⟩
  | 60 => ⟨S5000x5000, .i1⟩
  | 61 => ⟨S_, .f32⟩
  | 62 => ⟨S5000x5000, .f32⟩
  | 63 => ⟨S5000x5000, .f32⟩
  | 64 => ⟨S_, .f32⟩
  | 65 => ⟨S5000, .f32⟩
  | 66 => ⟨S_, .f32⟩
  | 67 => ⟨S5000, .f32⟩
  | 68 => ⟨S5000, .f32⟩
  | 69 => ⟨S5000x1, .f32⟩
  | 70 => ⟨S5000x5000, .f32⟩
  | 71 => ⟨S5000x5000, .f32⟩
  | 72 => ⟨S5000x5000, .f32⟩
  | 73 => ⟨S_, .f32⟩
  | 74 => ⟨S5000, .f32⟩
  | 75 => ⟨S5000x1, .f32⟩
  | 76 => ⟨S5000x5000, .f32⟩
  | 77 => ⟨S5000x5000, .f32⟩
  | 78 => ⟨S5000x128, .f32⟩
  | 79 => ⟨S_, .f32⟩
  | 80 => ⟨S5000x128, .f32⟩
  | 81 => ⟨S5000x128, .i1⟩
  | 82 => ⟨S_, .f32⟩
  | 83 => ⟨S5000x128, .f32⟩
  | 84 => ⟨S5000x128, .i1⟩
  | 85 => ⟨S_, .f32⟩
  | 86 => ⟨S_, .f32⟩
  | 87 => ⟨S5000x128, .f32⟩
  | 88 => ⟨S5000x128, .f32⟩
  | 89 => ⟨S5000x128, .f32⟩
  | 90 => ⟨S_, .f32⟩
  | 91 => ⟨S5000x128, .f32⟩
  | 92 => ⟨S5000x128, .f32⟩
  | 93 => ⟨S5000x128, .f32⟩
  | 94 => ⟨S1x5000x128, .f32⟩
  | 95 => ⟨S1x5000x128, .f32⟩
  | 96 => ⟨S1x5000x128, .f32⟩
  | 97 => ⟨S1x5000x128, .f32⟩
  | 98 => ⟨S4x5000x128, .f32⟩
  | 99 => ⟨S_, .f32⟩
  | 100 => ⟨S5000x128, .f32⟩
  | 101 => ⟨S_, .f32⟩
  | 102 => ⟨S5000x128, .f32⟩
  | 103 => ⟨S5000x128, .f32⟩
  | 104 => ⟨S5000x128, .f32⟩
  | 105 => ⟨S5000, .f32⟩
  | 106 => ⟨S5000, .f32⟩
  | 107 => ⟨S16, .f32⟩
  | 108 => ⟨S_, .i32⟩
  | 109 => ⟨S5000x5000, .i32⟩
  | 110 => ⟨S5000x5000, .i1⟩
  | 111 => ⟨S_, .i32⟩
  | 112 => ⟨S5000x5000, .i32⟩
  | 113 => ⟨S5000x5000, .i32⟩
  | 114 => ⟨S5000x5000, .i32⟩
  | 115 => ⟨S5000x5000x1, .i32⟩
  | 116 => ⟨S1, .i32⟩
  | 117 => ⟨S_, .i32⟩
  | 118 => ⟨S5000x5000x1, .i32⟩
  | 119 => ⟨S5000x5000x1, .i1⟩
  | 120 => ⟨S1x1x1, .i32⟩
  | 121 => ⟨S5000x5000x1, .i32⟩
  | 122 => ⟨S5000x5000x1, .i1⟩
  | 123 => ⟨S5000x5000x1, .i1⟩
  | 124 => ⟨S_, .i1⟩
  | 125 => ⟨S5000x5000, .i1⟩
  | 126 => ⟨S5000x5000, .f32⟩
  | 127 => ⟨S_, .f32⟩
  | _ => ⟨S5000x128, .f32⟩

abbrev hbmTy0_3 (i : Nat) : BufTy := match i % 128 with
  | 0 => ⟨S5000x5000, .f32⟩
  | 1 => ⟨S5000x5000, .f32⟩
  | 2 => ⟨S5000x1, .f32⟩
  | 3 => ⟨S1x5000, .f32⟩
  | 4 => ⟨S5000x5000, .f32⟩
  | 5 => ⟨S5000x5000, .f32⟩
  | 6 => ⟨S5000x5000, .f32⟩
  | 7 => ⟨S5000x5000, .f32⟩
  | 8 => ⟨S_, .f32⟩
  | 9 => ⟨S_, .f32⟩
  | 10 => ⟨S5000x5000, .f32⟩
  | 11 => ⟨S5000x5000, .i1⟩
  | 12 => ⟨S_, .f32⟩
  | 13 => ⟨S5000x5000, .f32⟩
  | 14 => ⟨S5000x5000, .f32⟩
  | 15 => ⟨S5000x5000, .f32⟩
  | 16 => ⟨S_, .i32⟩
  | 17 => ⟨S5000x5000, .i32⟩
  | 18 => ⟨S5000x5000, .i1⟩
  | 19 => ⟨S_, .f32⟩
  | 20 => ⟨S5000x5000, .f32⟩
  | 21 => ⟨S5000x5000, .f32⟩
  | 22 => ⟨S_, .f32⟩
  | 23 => ⟨S5000, .f32⟩
  | 24 => ⟨S_, .f32⟩
  | 25 => ⟨S5000, .f32⟩
  | 26 => ⟨S5000, .f32⟩
  | 27 => ⟨S5000x1, .f32⟩
  | 28 => ⟨S5000x5000, .f32⟩
  | 29 => ⟨S5000x5000, .f32⟩
  | 30 => ⟨S5000x5000, .f32⟩
  | 31 => ⟨S_, .f32⟩
  | 32 => ⟨S5000, .f32⟩
  | 33 => ⟨S5000x1, .f32⟩
  | 34 => ⟨S5000x5000, .f32⟩
  | 35 => ⟨S5000x5000, .f32⟩
  | 36 => ⟨S5000x128, .f32⟩
  | 37 => ⟨S5000x64, .f32⟩
  | 38 => ⟨S1x64, .f32⟩
  | 39 => ⟨S5000x64, .f32⟩
  | 40 => ⟨S5000x64, .f32⟩
  | 41 => ⟨S_, .f32⟩
  | 42 => ⟨S5000, .f32⟩
  | 43 => ⟨S_, .f32⟩
  | 44 => ⟨S5000, .f32⟩
  | 45 => ⟨S5000, .f32⟩
  | 46 => ⟨S5000x1, .f32⟩
  | 47 => ⟨S5000x64, .f32⟩
  | 48 => ⟨S5000x64, .f32⟩
  | 49 => ⟨S5000x64, .f32⟩
  | 50 => ⟨S_, .f32⟩
  | 51 => ⟨S5000, .f32⟩
  | 52 => ⟨S5000x1, .f32⟩
  | 53 => ⟨S5000x1, .f32⟩
  | 54 => ⟨S5000x64, .f32⟩
  | 55 => ⟨S5000x64, .f32⟩
  | _ => ⟨S5000x128, .f32⟩

abbrev hbmTy (i : Nat) : BufTy := match i / 128 with
  | 0 => hbmTy0_0 i
  | 1 => hbmTy0_1 i
  | 2 => hbmTy0_2 i
  | 3 => hbmTy0_3 i
  | _ => ⟨S5000x128, .f32⟩

abbrev bufTy : (tb : Table) → Fin (tcTables nBuf tb) → BufTy
  | .hbm, ⟨i, _⟩ => hbmTy i
  | _, _ => ⟨S5000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_cst : Ref sig .tc := ⟨.hbm, 45, rfl⟩
abbrev main_call0_v14 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v19 : Ref sig .tc := ⟨.hbm, 61, rfl⟩
abbrev main_c : Ref sig .tc := ⟨.hbm, 62, rfl⟩
abbrev main_v20 : Ref sig .tc := ⟨.hbm, 63, rfl⟩
abbrev main_v21 : Ref sig .tc := ⟨.hbm, 64, rfl⟩
abbrev main_cst_0 : Ref sig .tc := ⟨.hbm, 65, rfl⟩
abbrev main_v22 : Ref sig .tc := ⟨.hbm, 66, rfl⟩
abbrev main_v23 : Ref sig .tc := ⟨.hbm, 67, rfl⟩
abbrev main_cst_1 : Ref sig .tc := ⟨.hbm, 68, rfl⟩
abbrev main_v24 : Ref sig .tc := ⟨.hbm, 69, rfl⟩
abbrev main_cst_2 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_cst_3 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_call3_cst : Ref sig .tc := ⟨.hbm, 83, rfl⟩
abbrev main_call3_v0 : Ref sig .tc := ⟨.hbm, 84, rfl⟩
abbrev main_call3_v1 : Ref sig .tc := ⟨.hbm, 85, rfl⟩
abbrev main_call3_cst_0 : Ref sig .tc := ⟨.hbm, 86, rfl⟩
abbrev main_call3_v2 : Ref sig .tc := ⟨.hbm, 87, rfl⟩
abbrev main_call3_v3 : Ref sig .tc := ⟨.hbm, 88, rfl⟩
abbrev main_call3_cst_1 : Ref sig .tc := ⟨.hbm, 89, rfl⟩
abbrev main_call3_call0_v0 : Ref sig .tc := ⟨.hbm, 90, rfl⟩
abbrev main_call3_call0_v1 : Ref sig .tc := ⟨.hbm, 91, rfl⟩
abbrev main_call3_v4 : Ref sig .tc := ⟨.hbm, 92, rfl⟩
abbrev main_call3_v5 : Ref sig .tc := ⟨.hbm, 93, rfl⟩
abbrev main_call3_cst_2 : Ref sig .tc := ⟨.hbm, 94, rfl⟩
abbrev main_call3_v6 : Ref sig .tc := ⟨.hbm, 95, rfl⟩
abbrev main_call3_v7 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_cst : Ref sig .tc := ⟨.hbm, 129, rfl⟩
abbrev main_call4_v14 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_cst_4 : Ref sig .tc := ⟨.hbm, 138, rfl⟩
abbrev main_call5_cst : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_v56 : Ref sig .tc := ⟨.hbm, 145, rfl⟩
abbrev main_c_5 : Ref sig .tc := ⟨.hbm, 146, rfl⟩
abbrev main_v57 : Ref sig .tc := ⟨.hbm, 147, rfl⟩
abbrev main_v58 : Ref sig .tc := ⟨.hbm, 148, rfl⟩
abbrev main_cst_6 : Ref sig .tc := ⟨.hbm, 149, rfl⟩
abbrev main_v59 : Ref sig .tc := ⟨.hbm, 150, rfl⟩
abbrev main_v60 : Ref sig .tc := ⟨.hbm, 151, rfl⟩
abbrev main_cst_7 : Ref sig .tc := ⟨.hbm, 152, rfl⟩
abbrev main_v61 : Ref sig .tc := ⟨.hbm, 153, rfl⟩
abbrev main_cst_8 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_cst_9 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_call7_cst : Ref sig .tc := ⟨.hbm, 167, rfl⟩
abbrev main_call7_v0 : Ref sig .tc := ⟨.hbm, 168, rfl⟩
abbrev main_call7_v1 : Ref sig .tc := ⟨.hbm, 169, rfl⟩
abbrev main_call7_cst_0 : Ref sig .tc := ⟨.hbm, 170, rfl⟩
abbrev main_call7_v2 : Ref sig .tc := ⟨.hbm, 171, rfl⟩
abbrev main_call7_v3 : Ref sig .tc := ⟨.hbm, 172, rfl⟩
abbrev main_call7_cst_1 : Ref sig .tc := ⟨.hbm, 173, rfl⟩
abbrev main_call7_call0_v0 : Ref sig .tc := ⟨.hbm, 174, rfl⟩
abbrev main_call7_call0_v1 : Ref sig .tc := ⟨.hbm, 175, rfl⟩
abbrev main_call7_v4 : Ref sig .tc := ⟨.hbm, 176, rfl⟩
abbrev main_call7_v5 : Ref sig .tc := ⟨.hbm, 177, rfl⟩
abbrev main_call7_cst_2 : Ref sig .tc := ⟨.hbm, 178, rfl⟩
abbrev main_call7_v6 : Ref sig .tc := ⟨.hbm, 179, rfl⟩
abbrev main_call7_v7 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_v77 : Ref sig .tc := ⟨.hbm, 185, rfl⟩
abbrev main_v78 : Ref sig .tc := ⟨.hbm, 186, rfl⟩
abbrev main_v79 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_call8_c : Ref sig .tc := ⟨.hbm, 194, rfl⟩
abbrev main_call8_v0 : Ref sig .tc := ⟨.hbm, 195, rfl⟩
abbrev main_call8_v1 : Ref sig .tc := ⟨.hbm, 196, rfl⟩
abbrev main_call8_c_0 : Ref sig .tc := ⟨.hbm, 197, rfl⟩
abbrev main_call8_v2 : Ref sig .tc := ⟨.hbm, 198, rfl⟩
abbrev main_call8_v3 : Ref sig .tc := ⟨.hbm, 199, rfl⟩
abbrev main_call8_v4 : Ref sig .tc := ⟨.hbm, 200, rfl⟩
abbrev main_call8_v5 : Ref sig .tc := ⟨.hbm, 201, rfl⟩
abbrev main_call8_c_1 : Ref sig .tc := ⟨.hbm, 202, rfl⟩
abbrev main_call8_c_2 : Ref sig .tc := ⟨.hbm, 203, rfl⟩
abbrev main_call8_v6 : Ref sig .tc := ⟨.hbm, 204, rfl⟩
abbrev main_call8_v7 : Ref sig .tc := ⟨.hbm, 205, rfl⟩
abbrev main_call8_v8 : Ref sig .tc := ⟨.hbm, 206, rfl⟩
abbrev main_call8_v9 : Ref sig .tc := ⟨.hbm, 207, rfl⟩
abbrev main_call8_v10 : Ref sig .tc := ⟨.hbm, 208, rfl⟩
abbrev main_call8_v11 : Ref sig .tc := ⟨.hbm, 209, rfl⟩
abbrev main_call8_c_3 : Ref sig .tc := ⟨.hbm, 210, rfl⟩
abbrev main_call8_v12 : Ref sig .tc := ⟨.hbm, 211, rfl⟩
abbrev main_call8_v13 : Ref sig .tc := ⟨.hbm, 212, rfl⟩
abbrev main_call8_cst : Ref sig .tc := ⟨.hbm, 213, rfl⟩
abbrev main_call8_v14 : Ref sig .tc := ⟨.hbm, 214, rfl⟩
abbrev main_v86 : Ref sig .tc := ⟨.hbm, 215, rfl⟩
abbrev main_v87 : Ref sig .tc := ⟨.hbm, 216, rfl⟩
abbrev main_v88 : Ref sig .tc := ⟨.hbm, 217, rfl⟩
abbrev main_v89 : Ref sig .tc := ⟨.hbm, 218, rfl⟩
abbrev main_v90 : Ref sig .tc := ⟨.hbm, 219, rfl⟩
abbrev main_v91 : Ref sig .tc := ⟨.hbm, 220, rfl⟩
abbrev main_v92 : Ref sig .tc := ⟨.hbm, 221, rfl⟩
abbrev main_cst_10 : Ref sig .tc := ⟨.hbm, 222, rfl⟩
abbrev main_call9_cst : Ref sig .tc := ⟨.hbm, 223, rfl⟩
abbrev main_call9_v0 : Ref sig .tc := ⟨.hbm, 224, rfl⟩
abbrev main_call9_v1 : Ref sig .tc := ⟨.hbm, 225, rfl⟩
abbrev main_call9_v2 : Ref sig .tc := ⟨.hbm, 226, rfl⟩
abbrev main_call9_v3 : Ref sig .tc := ⟨.hbm, 227, rfl⟩
abbrev main_call9_v4 : Ref sig .tc := ⟨.hbm, 228, rfl⟩
abbrev main_v93 : Ref sig .tc := ⟨.hbm, 229, rfl⟩
abbrev main_c_11 : Ref sig .tc := ⟨.hbm, 230, rfl⟩
abbrev main_v94 : Ref sig .tc := ⟨.hbm, 231, rfl⟩
abbrev main_v95 : Ref sig .tc := ⟨.hbm, 232, rfl⟩
abbrev main_cst_12 : Ref sig .tc := ⟨.hbm, 233, rfl⟩
abbrev main_v96 : Ref sig .tc := ⟨.hbm, 234, rfl⟩
abbrev main_v97 : Ref sig .tc := ⟨.hbm, 235, rfl⟩
abbrev main_cst_13 : Ref sig .tc := ⟨.hbm, 236, rfl⟩
abbrev main_v98 : Ref sig .tc := ⟨.hbm, 237, rfl⟩
abbrev main_cst_14 : Ref sig .tc := ⟨.hbm, 238, rfl⟩
abbrev main_v99 : Ref sig .tc := ⟨.hbm, 239, rfl⟩
abbrev main_v100 : Ref sig .tc := ⟨.hbm, 240, rfl⟩
abbrev main_v101 : Ref sig .tc := ⟨.hbm, 241, rfl⟩
abbrev main_v102 : Ref sig .tc := ⟨.hbm, 242, rfl⟩
abbrev main_v103 : Ref sig .tc := ⟨.hbm, 243, rfl⟩
abbrev main_v104 : Ref sig .tc := ⟨.hbm, 244, rfl⟩
abbrev main_cst_15 : Ref sig .tc := ⟨.hbm, 245, rfl⟩
abbrev main_v105 : Ref sig .tc := ⟨.hbm, 246, rfl⟩
abbrev main_v106 : Ref sig .tc := ⟨.hbm, 247, rfl⟩
abbrev main_v107 : Ref sig .tc := ⟨.hbm, 248, rfl⟩
abbrev main_v108 : Ref sig .tc := ⟨.hbm, 249, rfl⟩
abbrev main_v109 : Ref sig .tc := ⟨.hbm, 250, rfl⟩
abbrev main_call11_cst : Ref sig .tc := ⟨.hbm, 251, rfl⟩
abbrev main_call11_v0 : Ref sig .tc := ⟨.hbm, 252, rfl⟩
abbrev main_call11_v1 : Ref sig .tc := ⟨.hbm, 253, rfl⟩
abbrev main_call11_cst_0 : Ref sig .tc := ⟨.hbm, 254, rfl⟩
abbrev main_call11_v2 : Ref sig .tc := ⟨.hbm, 255, rfl⟩
abbrev main_call11_v3 : Ref sig .tc := ⟨.hbm, 256, rfl⟩
abbrev main_call11_cst_1 : Ref sig .tc := ⟨.hbm, 257, rfl⟩
abbrev main_call11_call0_v0 : Ref sig .tc := ⟨.hbm, 258, rfl⟩
abbrev main_call11_call0_v1 : Ref sig .tc := ⟨.hbm, 259, rfl⟩
abbrev main_call11_v4 : Ref sig .tc := ⟨.hbm, 260, rfl⟩
abbrev main_call11_v5 : Ref sig .tc := ⟨.hbm, 261, rfl⟩
abbrev main_call11_cst_2 : Ref sig .tc := ⟨.hbm, 262, rfl⟩
abbrev main_call11_v6 : Ref sig .tc := ⟨.hbm, 263, rfl⟩
abbrev main_call11_v7 : Ref sig .tc := ⟨.hbm, 264, rfl⟩
abbrev main_v110 : Ref sig .tc := ⟨.hbm, 265, rfl⟩
abbrev main_v111 : Ref sig .tc := ⟨.hbm, 266, rfl⟩
abbrev main_v112 : Ref sig .tc := ⟨.hbm, 267, rfl⟩
abbrev main_v113 : Ref sig .tc := ⟨.hbm, 268, rfl⟩
abbrev main_v114 : Ref sig .tc := ⟨.hbm, 269, rfl⟩
abbrev main_v115 : Ref sig .tc := ⟨.hbm, 270, rfl⟩
abbrev main_v116 : Ref sig .tc := ⟨.hbm, 271, rfl⟩
abbrev main_v117 : Ref sig .tc := ⟨.hbm, 272, rfl⟩
abbrev main_v118 : Ref sig .tc := ⟨.hbm, 273, rfl⟩
abbrev main_v119 : Ref sig .tc := ⟨.hbm, 274, rfl⟩
abbrev main_v120 : Ref sig .tc := ⟨.hbm, 275, rfl⟩
abbrev main_v121 : Ref sig .tc := ⟨.hbm, 276, rfl⟩
abbrev main_v122 : Ref sig .tc := ⟨.hbm, 277, rfl⟩
abbrev main_call12_c : Ref sig .tc := ⟨.hbm, 278, rfl⟩
abbrev main_call12_v0 : Ref sig .tc := ⟨.hbm, 279, rfl⟩
abbrev main_call12_v1 : Ref sig .tc := ⟨.hbm, 280, rfl⟩
abbrev main_call12_c_0 : Ref sig .tc := ⟨.hbm, 281, rfl⟩
abbrev main_call12_v2 : Ref sig .tc := ⟨.hbm, 282, rfl⟩
abbrev main_call12_v3 : Ref sig .tc := ⟨.hbm, 283, rfl⟩
abbrev main_call12_v4 : Ref sig .tc := ⟨.hbm, 284, rfl⟩
abbrev main_call12_v5 : Ref sig .tc := ⟨.hbm, 285, rfl⟩
abbrev main_call12_c_1 : Ref sig .tc := ⟨.hbm, 286, rfl⟩
abbrev main_call12_c_2 : Ref sig .tc := ⟨.hbm, 287, rfl⟩
abbrev main_call12_v6 : Ref sig .tc := ⟨.hbm, 288, rfl⟩
abbrev main_call12_v7 : Ref sig .tc := ⟨.hbm, 289, rfl⟩
abbrev main_call12_v8 : Ref sig .tc := ⟨.hbm, 290, rfl⟩
abbrev main_call12_v9 : Ref sig .tc := ⟨.hbm, 291, rfl⟩
abbrev main_call12_v10 : Ref sig .tc := ⟨.hbm, 292, rfl⟩
abbrev main_call12_v11 : Ref sig .tc := ⟨.hbm, 293, rfl⟩
abbrev main_call12_c_3 : Ref sig .tc := ⟨.hbm, 294, rfl⟩
abbrev main_call12_v12 : Ref sig .tc := ⟨.hbm, 295, rfl⟩
abbrev main_call12_v13 : Ref sig .tc := ⟨.hbm, 296, rfl⟩
abbrev main_call12_cst : Ref sig .tc := ⟨.hbm, 297, rfl⟩
abbrev main_call12_v14 : Ref sig .tc := ⟨.hbm, 298, rfl⟩
abbrev main_v123 : Ref sig .tc := ⟨.hbm, 299, rfl⟩
abbrev main_v124 : Ref sig .tc := ⟨.hbm, 300, rfl⟩
abbrev main_v125 : Ref sig .tc := ⟨.hbm, 301, rfl⟩
abbrev main_v126 : Ref sig .tc := ⟨.hbm, 302, rfl⟩
abbrev main_v127 : Ref sig .tc := ⟨.hbm, 303, rfl⟩
abbrev main_v128 : Ref sig .tc := ⟨.hbm, 304, rfl⟩
abbrev main_v129 : Ref sig .tc := ⟨.hbm, 305, rfl⟩
abbrev main_cst_16 : Ref sig .tc := ⟨.hbm, 306, rfl⟩
abbrev main_call13_cst : Ref sig .tc := ⟨.hbm, 307, rfl⟩
abbrev main_call13_v0 : Ref sig .tc := ⟨.hbm, 308, rfl⟩
abbrev main_call13_v1 : Ref sig .tc := ⟨.hbm, 309, rfl⟩
abbrev main_call13_v2 : Ref sig .tc := ⟨.hbm, 310, rfl⟩
abbrev main_call13_v3 : Ref sig .tc := ⟨.hbm, 311, rfl⟩
abbrev main_call13_v4 : Ref sig .tc := ⟨.hbm, 312, rfl⟩
abbrev main_v130 : Ref sig .tc := ⟨.hbm, 313, rfl⟩
abbrev main_c_17 : Ref sig .tc := ⟨.hbm, 314, rfl⟩
abbrev main_v131 : Ref sig .tc := ⟨.hbm, 315, rfl⟩
abbrev main_v132 : Ref sig .tc := ⟨.hbm, 316, rfl⟩
abbrev main_cst_18 : Ref sig .tc := ⟨.hbm, 317, rfl⟩
abbrev main_v133 : Ref sig .tc := ⟨.hbm, 318, rfl⟩
abbrev main_v134 : Ref sig .tc := ⟨.hbm, 319, rfl⟩
abbrev main_cst_19 : Ref sig .tc := ⟨.hbm, 320, rfl⟩
abbrev main_v135 : Ref sig .tc := ⟨.hbm, 321, rfl⟩
abbrev main_cst_20 : Ref sig .tc := ⟨.hbm, 322, rfl⟩
abbrev main_v136 : Ref sig .tc := ⟨.hbm, 323, rfl⟩
abbrev main_v137 : Ref sig .tc := ⟨.hbm, 324, rfl⟩
abbrev main_v138 : Ref sig .tc := ⟨.hbm, 325, rfl⟩
abbrev main_v139 : Ref sig .tc := ⟨.hbm, 326, rfl⟩
abbrev main_v140 : Ref sig .tc := ⟨.hbm, 327, rfl⟩
abbrev main_v141 : Ref sig .tc := ⟨.hbm, 328, rfl⟩
abbrev main_cst_21 : Ref sig .tc := ⟨.hbm, 329, rfl⟩
abbrev main_v142 : Ref sig .tc := ⟨.hbm, 330, rfl⟩
abbrev main_v143 : Ref sig .tc := ⟨.hbm, 331, rfl⟩
abbrev main_v144 : Ref sig .tc := ⟨.hbm, 332, rfl⟩
abbrev main_v145 : Ref sig .tc := ⟨.hbm, 333, rfl⟩
abbrev main_v146 : Ref sig .tc := ⟨.hbm, 334, rfl⟩
abbrev main_call15_cst : Ref sig .tc := ⟨.hbm, 335, rfl⟩
abbrev main_call15_v0 : Ref sig .tc := ⟨.hbm, 336, rfl⟩
abbrev main_call15_v1 : Ref sig .tc := ⟨.hbm, 337, rfl⟩
abbrev main_call15_cst_0 : Ref sig .tc := ⟨.hbm, 338, rfl⟩
abbrev main_call15_v2 : Ref sig .tc := ⟨.hbm, 339, rfl⟩
abbrev main_call15_v3 : Ref sig .tc := ⟨.hbm, 340, rfl⟩
abbrev main_call15_cst_1 : Ref sig .tc := ⟨.hbm, 341, rfl⟩
abbrev main_call15_call0_v0 : Ref sig .tc := ⟨.hbm, 342, rfl⟩
abbrev main_call15_call0_v1 : Ref sig .tc := ⟨.hbm, 343, rfl⟩
abbrev main_call15_v4 : Ref sig .tc := ⟨.hbm, 344, rfl⟩
abbrev main_call15_v5 : Ref sig .tc := ⟨.hbm, 345, rfl⟩
abbrev main_call15_cst_2 : Ref sig .tc := ⟨.hbm, 346, rfl⟩
abbrev main_call15_v6 : Ref sig .tc := ⟨.hbm, 347, rfl⟩
abbrev main_call15_v7 : Ref sig .tc := ⟨.hbm, 348, rfl⟩
abbrev main_v147 : Ref sig .tc := ⟨.hbm, 349, rfl⟩
abbrev main_v148 : Ref sig .tc := ⟨.hbm, 350, rfl⟩
abbrev main_v149 : Ref sig .tc := ⟨.hbm, 351, rfl⟩
abbrev main_v150 : Ref sig .tc := ⟨.hbm, 352, rfl⟩
abbrev main_v151 : Ref sig .tc := ⟨.hbm, 353, rfl⟩
abbrev main_v152 : Ref sig .tc := ⟨.hbm, 354, rfl⟩
abbrev main_cst_22 : Ref sig .tc := ⟨.hbm, 355, rfl⟩
abbrev main_v153 : Ref sig .tc := ⟨.hbm, 356, rfl⟩
abbrev main_cst_23 : Ref sig .tc := ⟨.hbm, 357, rfl⟩
abbrev main_v154 : Ref sig .tc := ⟨.hbm, 358, rfl⟩
abbrev main_v155 : Ref sig .tc := ⟨.hbm, 359, rfl⟩
abbrev main_v156 : Ref sig .tc := ⟨.hbm, 360, rfl⟩
abbrev main_v157 : Ref sig .tc := ⟨.hbm, 361, rfl⟩
abbrev main_v158 : Ref sig .tc := ⟨.hbm, 362, rfl⟩
abbrev main_v159 : Ref sig .tc := ⟨.hbm, 363, rfl⟩
abbrev main_call16_c : Ref sig .tc := ⟨.hbm, 364, rfl⟩
abbrev main_call16_v0 : Ref sig .tc := ⟨.hbm, 365, rfl⟩
abbrev main_call16_v1 : Ref sig .tc := ⟨.hbm, 366, rfl⟩
abbrev main_call16_c_0 : Ref sig .tc := ⟨.hbm, 367, rfl⟩
abbrev main_call16_v2 : Ref sig .tc := ⟨.hbm, 368, rfl⟩
abbrev main_call16_v3 : Ref sig .tc := ⟨.hbm, 369, rfl⟩
abbrev main_call16_v4 : Ref sig .tc := ⟨.hbm, 370, rfl⟩
abbrev main_call16_v5 : Ref sig .tc := ⟨.hbm, 371, rfl⟩
abbrev main_call16_c_1 : Ref sig .tc := ⟨.hbm, 372, rfl⟩
abbrev main_call16_c_2 : Ref sig .tc := ⟨.hbm, 373, rfl⟩
abbrev main_call16_v6 : Ref sig .tc := ⟨.hbm, 374, rfl⟩
abbrev main_call16_v7 : Ref sig .tc := ⟨.hbm, 375, rfl⟩
abbrev main_call16_v8 : Ref sig .tc := ⟨.hbm, 376, rfl⟩
abbrev main_call16_v9 : Ref sig .tc := ⟨.hbm, 377, rfl⟩
abbrev main_call16_v10 : Ref sig .tc := ⟨.hbm, 378, rfl⟩
abbrev main_call16_v11 : Ref sig .tc := ⟨.hbm, 379, rfl⟩
abbrev main_call16_c_3 : Ref sig .tc := ⟨.hbm, 380, rfl⟩
abbrev main_call16_v12 : Ref sig .tc := ⟨.hbm, 381, rfl⟩
abbrev main_call16_v13 : Ref sig .tc := ⟨.hbm, 382, rfl⟩
abbrev main_call16_cst : Ref sig .tc := ⟨.hbm, 383, rfl⟩
abbrev main_call16_v14 : Ref sig .tc := ⟨.hbm, 384, rfl⟩
abbrev main_v160 : Ref sig .tc := ⟨.hbm, 385, rfl⟩
abbrev main_v161 : Ref sig .tc := ⟨.hbm, 386, rfl⟩
abbrev main_v162 : Ref sig .tc := ⟨.hbm, 387, rfl⟩
abbrev main_v163 : Ref sig .tc := ⟨.hbm, 388, rfl⟩
abbrev main_v164 : Ref sig .tc := ⟨.hbm, 389, rfl⟩
abbrev main_v165 : Ref sig .tc := ⟨.hbm, 390, rfl⟩
abbrev main_v166 : Ref sig .tc := ⟨.hbm, 391, rfl⟩
abbrev main_cst_24 : Ref sig .tc := ⟨.hbm, 392, rfl⟩
abbrev main_call17_cst : Ref sig .tc := ⟨.hbm, 393, rfl⟩
abbrev main_call17_v0 : Ref sig .tc := ⟨.hbm, 394, rfl⟩
abbrev main_call17_v1 : Ref sig .tc := ⟨.hbm, 395, rfl⟩
abbrev main_call17_v2 : Ref sig .tc := ⟨.hbm, 396, rfl⟩
abbrev main_call17_v3 : Ref sig .tc := ⟨.hbm, 397, rfl⟩
abbrev main_call17_v4 : Ref sig .tc := ⟨.hbm, 398, rfl⟩
abbrev main_v167 : Ref sig .tc := ⟨.hbm, 399, rfl⟩
abbrev main_c_25 : Ref sig .tc := ⟨.hbm, 400, rfl⟩
abbrev main_v168 : Ref sig .tc := ⟨.hbm, 401, rfl⟩
abbrev main_v169 : Ref sig .tc := ⟨.hbm, 402, rfl⟩
abbrev main_cst_26 : Ref sig .tc := ⟨.hbm, 403, rfl⟩
abbrev main_v170 : Ref sig .tc := ⟨.hbm, 404, rfl⟩
abbrev main_v171 : Ref sig .tc := ⟨.hbm, 405, rfl⟩
abbrev main_cst_27 : Ref sig .tc := ⟨.hbm, 406, rfl⟩
abbrev main_v172 : Ref sig .tc := ⟨.hbm, 407, rfl⟩
abbrev main_cst_28 : Ref sig .tc := ⟨.hbm, 408, rfl⟩
abbrev main_v173 : Ref sig .tc := ⟨.hbm, 409, rfl⟩
abbrev main_v174 : Ref sig .tc := ⟨.hbm, 410, rfl⟩
abbrev main_v175 : Ref sig .tc := ⟨.hbm, 411, rfl⟩
abbrev main_v176 : Ref sig .tc := ⟨.hbm, 412, rfl⟩
abbrev main_v177 : Ref sig .tc := ⟨.hbm, 413, rfl⟩
abbrev main_v178 : Ref sig .tc := ⟨.hbm, 414, rfl⟩
abbrev main_cst_29 : Ref sig .tc := ⟨.hbm, 415, rfl⟩
abbrev main_v179 : Ref sig .tc := ⟨.hbm, 416, rfl⟩
abbrev main_v180 : Ref sig .tc := ⟨.hbm, 417, rfl⟩
abbrev main_v181 : Ref sig .tc := ⟨.hbm, 418, rfl⟩
abbrev main_v182 : Ref sig .tc := ⟨.hbm, 419, rfl⟩
abbrev main_v183 : Ref sig .tc := ⟨.hbm, 420, rfl⟩
abbrev main_v184 : Ref sig .tc := ⟨.hbm, 421, rfl⟩
abbrev main_v185 : Ref sig .tc := ⟨.hbm, 422, rfl⟩
abbrev main_v186 : Ref sig .tc := ⟨.hbm, 423, rfl⟩
abbrev main_v187 : Ref sig .tc := ⟨.hbm, 424, rfl⟩
abbrev main_call19_cst : Ref sig .tc := ⟨.hbm, 425, rfl⟩
abbrev main_call19_v0 : Ref sig .tc := ⟨.hbm, 426, rfl⟩
abbrev main_call19_cst_0 : Ref sig .tc := ⟨.hbm, 427, rfl⟩
abbrev main_call19_v1 : Ref sig .tc := ⟨.hbm, 428, rfl⟩
abbrev main_call19_v2 : Ref sig .tc := ⟨.hbm, 429, rfl⟩
abbrev main_call19_v3 : Ref sig .tc := ⟨.hbm, 430, rfl⟩
abbrev main_call19_v4 : Ref sig .tc := ⟨.hbm, 431, rfl⟩
abbrev main_call19_v5 : Ref sig .tc := ⟨.hbm, 432, rfl⟩
abbrev main_call19_v6 : Ref sig .tc := ⟨.hbm, 433, rfl⟩
abbrev main_call19_cst_1 : Ref sig .tc := ⟨.hbm, 434, rfl⟩
abbrev main_call19_v7 : Ref sig .tc := ⟨.hbm, 435, rfl⟩
abbrev main_call19_v8 : Ref sig .tc := ⟨.hbm, 436, rfl⟩
abbrev main_call19_v9 : Ref sig .tc := ⟨.hbm, 437, rfl⟩
abbrev main_call19_v10 : Ref sig .tc := ⟨.hbm, 438, rfl⟩
abbrev main_v188 : Ref sig .tc := ⟨.hbm, 439, rfl⟩

abbrev nD : Nat := 1
abbrev τ : Topo := Topo.v7x

variable {F : FTy → Type} [FloatOps F]
-- ==== Proof.Twin.lean ====
/-
  The printed kernel and the idealized one are the same program read at words: the idealized program differs only in the
  one constant it names, and at words a name is its word. So whatever is proved of the idealized program over any floats
  is, at words, a fact about the printed one.
-/
module

public import proofs.«01_k».proof.Defs
public import proofs.«01_k».proof.Proof.Gen.Kernel
public import proofs.«01_k».proof.Proof.Gen.KernelIdeal
public import Idealize.ShloMosaic.Lib.Pipeline.Regions

@[expose] public section

noncomputable section

namespace Cert.Proof

open Idealize.ShloMosaic Idealize.SL.Sem Cert.KernelIdeal

/-- At words a named constant is the word it was printed with. -/
instance namedWord : Named Bits := ⟨fun _ _ _ w => Scalar.ofBits _ w⟩

/-- The frame of the idealized program, over any floats: it terminates, its arguments end as launched, every
    semaphore counter ends at zero. -/
def FrameOver (F : FTy → Type) [FloatOps F] [Named F] [Cert.KernelIdeal.Facts] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0)

/-- At words that frame is the printed kernel's. -/
theorem frame_words [hK : Cert.Kernel.Facts] [hI : Cert.KernelIdeal.Facts] : Cert.quiescent_Kernel = FrameOver Bits := by
  chain_rfl

end Cert.Proof

end
-- ==== Proof.Region.lean ====
/-
  One kernel region of the program, entered with every unscoped buffer at known contents and left with every unscoped buffer at
  SOME contents of which it is known what the body may have written back. The body's data name what it leaves where they can, and
  hold the windows marked in `fg` only to a predicate, since a block that reaches past its array's end is read with whatever words
  the staging buffer held before.
-/
module

public import proofs.«01_k».proof.Proof.Gen.KernelIdeal.Regions
public import Idealize.ShloMosaic.Lib.Pipeline.RegionArraysF
public import Idealize.ShloMosaic.Lib.Pipeline.DatRel
public import Idealize.ShloMosaic.Lib.Pipeline.ArrRel

@[expose] public section

noncomputable section

namespace Cert.Proof

open Idealize.ShloMosaic Idealize.ShloMosaic.TcCoe
open Idealize.SL Idealize.SL.RA
open Idealize.SL.BI (sProp bigSep bigSep_congr bigSep_mono bigSep_sep')
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F] [Named F] {U : Type} [URA U]

local notation "𝕄" => MT nD τ sig Unit (Elt F) ℕ U ℕ

/-- There are buffer contents that differ from `W` at most in the arrays of a region's windows, which they have at `A`. -/
theorem exists_updated {gr n : Nat} {win : Fin n → WinSpec sig gr} (hinj : Function.Injective (arrRef win)) (c : Dev nD)
    (W : Valuation τ sig (Elt F)) (A : (w : Fin n) → Buf (Elt F) ((win w).arr.view.loc (c.tc : Thread nD τ))) :
    ∃ W' : Valuation τ sig (Elt F), (∀ w, A w = W' (Proc.devRef .tc (arrRef win w))) ∧ ∀ d, (∀ w, d ≠ Proc.devRef .tc (arrRef win w)) → W' d = W d := by
  classical
  have hd : Function.Injective fun w => (Proc.devRef .tc (arrRef win w) : DevRef τ sig) := (Proc.devRef_injective _).comp hinj
  let A' : (w : Fin n) → (Proc.devRef .tc (arrRef win w) : DevRef τ sig).ty.Contents (Elt F) := A
  refine ⟨fun d => if h : ∃ w, (Proc.devRef .tc (arrRef win w) : DevRef τ sig) = d then h.choose_spec ▸ A' h.choose else W d, fun w => ?_, fun d hn => dif_neg fun ⟨w, h⟩ => hn w h.symm⟩
  have h : ∃ w', (Proc.devRef .tc (arrRef win w') : DevRef τ sig) = Proc.devRef .tc (arrRef win w) := ⟨w, rfl⟩
  have key : ∀ (w' : Fin n) (e : (Proc.devRef .tc (arrRef win w') : DevRef τ sig) = Proc.devRef .tc (arrRef win w)), e ▸ A' w' = A' w := by
    intro w' e; obtain rfl := hd e; rfl
  show A' w = dite _ _ _
  rw [dif_pos h]
  exact (key _ h.choose_spec).symm

section

variable (dat : (q : Fin 3) → (c : Dev nD) → Dat τ (Elt F) Unit ℕ U ℕ (pin (pcfgs (F := F)) adm q) c)
  (fg : (q : Fin 3) → Fin (pin (pcfgs (F := F)) adm q).W → Bool)
  (Rl : (q : Fin 3) → (c : Dev nD) → (w : Fin (pin (pcfgs (F := F)) adm q).W) → Fin (pin (pcfgs (F := F)) adm q).N
    → (((pin (pcfgs (F := F)) adm q).win w).block.Idx → Elt F ((pin (pcfgs (F := F)) adm q).win w).elt) → Prop)

/-- The three regions' data, the marked windows held to their predicates. -/
abbrev rdats (q : Fin 3) (c : Dev nD) : RDat τ (Elt F) Unit ℕ U ℕ (pin (pcfgs (F := F)) adm q) c := (dat q c).toRRel (fg q) (Rl q c)

/-- What is known of the buffers when region `p`, entered at `W`, is left at `W'`: its windows' arrays are what the write-backs make of
    them for some contents that the body may have left, and no other buffer has changed. -/
def Left (p : Fin 3) (c : Dev nD) (W W' : Valuation τ sig (Elt F)) : Prop :=
  (∃ after : (w : Fin (pin (pcfgs (F := F)) adm p).W) → Fin (pin (pcfgs (F := F)) adm p).N → ((pin (pcfgs (F := F)) adm p).win w).block.Idx → Elt F ((pin (pcfgs (F := F)) adm p).win w).elt,
    (∀ w u, ((pin (pcfgs (F := F)) adm p).win w).flush u = true → (rdats dat fg Rl p c).Leaves w u (after w u))
      ∧ ∀ w, ((rdats dat fg Rl p c).withAfter after).arrAt w (pin (pcfgs (F := F)) adm p).N = W' (Proc.devRef .tc (arrRef (pin (pcfgs (F := F)) adm p).spec w)))
  ∧ ∀ d, (∀ w, d ≠ Proc.devRef .tc (arrRef (pin (pcfgs (F := F)) adm p).spec w)) → W' d = W d

/-- The arrays after a region: at some contents that the write-backs may make of them. -/
theorem arraysAt_some (p : Fin 3) (c : Dev nD) :
    ((rdats dat fg Rl p c).arraysAt (pin (pcfgs (F := F)) adm p).N : sProp 𝕄)
      ⊢ iprop(∃ A : (w : Fin (pin (pcfgs (F := F)) adm p).W) → Buf (Elt F) (((pin (pcfgs (F := F)) adm p).win w).arr.view.loc (c.tc : Thread nD τ)),
        ⌜∀ w, (rdats dat fg Rl p c).ArrAt w (pin (pcfgs (F := F)) adm p).N (A w)⌝ ∗ (dat p c).arrays A) := by
  unfold RDat.arraysAt Dat.arrays
  refine (BI.bigSep_exists_pi Finset.univ _).trans ?_
  iintro ⟨%A, H⟩
  ihave H' := (BI.bigSep_pure_sep Finset.univ (fun w => (rdats dat fg Rl p c).ArrAt w (pin (pcfgs (F := F)) adm p).N (A w)) _) $$ H
  icases H' with ⟨%hF, H⟩
  iexists A
  isplitr
  · ipureintro; exact fun w => hF w (Finset.mem_univ w)
  iexact H

/-- A region's record: entered with the unscoped buffers at `W`, left with them at some `W'` with `Left`. -/
def leaving (p : Fin 3) (kit : LaunchFacts (nD := nD) (τ := τ) cfgs p) (W : Dev nD → Valuation τ sig (Elt F))
    (hbody : ∀ c, BodyObligationRel (dat p c) defs₀ Variants.none () Set.univ (fg p) (Rl p c))
    (howed : ∀ c t, (dat p c).owed t = 0) (hrec : ∀ c, (dat p c).recorded 0 = Set.univ)
    (hshare : ∀ c w, (dat p c).share w = fullShare)
    (hA : ∀ c w, (dat p c).A w = W c (Proc.devRef .tc (arrRef (pin (pcfgs (F := F)) adm p).spec w)))
    (hin : ∀ c : Dev nD, scopedRest (pin (pcfgs (F := F)) adm p).spec c ⊢ (dat p c).Φ 0)
    (hout : ∀ c : Dev nD, (dat p c).Φ (Fin.last (pin (pcfgs (F := F)) adm p).N) ⊢ scopedRest (pin (pcfgs (F := F)) adm p).spec c)
    (L : GSem nD τ sig → Finset Unit) (lv : GSem nD τ sig → Unit → ℕ) :
    RDat.RegionSeg (pcfgs (F := F)) adm (rdats dat fg Rl) () defs₀ Variants.none L lv p where
  win := kit.to₀.win
  block_pos := kit.to₀.block_pos
  stage_whole := kit.to₀.stage_whole
  K := PEmpty
  fK := inferInstance
  osem := PEmpty.elim
  ho := OwnSemFacts.none _
  hbody c := (hbody c).toRRel
  hwaits c := (show (levAts L lv : sProp 𝕄) ⊢ BI.emp from by iintro -; iempintro).trans
    (RDat.cellsWaits_of_owed_zero (pin (pcfgs (F := F)) adm) (rdats dat fg Rl) () p c (howed c))
  pre c := iprop(StableHlo.held (c.tc : Thread nD τ) (ucRefs τ sig) (W c) ∗ ∃ Wd, owes (c : Thread nD τ) (0 : CellTallies nD τ sig Unit) Wd)
  post c := iprop(∃ W', ⌜Left dat fg Rl p c (W c) W'⌝ ∗ StableHlo.held (c.tc : Thread nD τ) (ucRefs τ sig) W'
    ∗ ∃ Wd, owes (c : Thread nD τ) (0 : CellTallies nD τ sig Unit) Wd)
  X _ := iprop(emp)
  Y _ := iprop(emp)
  Z c := StableHlo.held (c.tc : Thread nD τ) (ucRefs τ sig \ arrRefs (pcfgs (F := F) p).spec) (W c)
  hentry c := by
    show _ ⊢ |={Set.univ}=> iprop((dat p c).arrays ((dat p c).A) ∗ prefHeld (pcfgs (F := F) p).pre c (fun _ => fullShare) (adm (F := F) p).1
        ∗ (dat p c).owesAt () 0 ∗ _ ∗ _)
    rw [prefHeld_of_none _ rfl, arrays_held (pcfgs (F := F)) adm dat p kit.toP c (hshare c) ((dat p c).A) (W c) (hA c),
      StableHlo.held_sub_split (c.tc : Thread nD τ) (arrRefs_sub_ucRefs _ kit.win.arr_unscoped) (W c)]
    iintro ⟨⟨⟨Ha, Hr⟩, HO⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitr; · iempintro
    iexact Hr
  hin c := (show _ ⊢ scopedRest (pin (pcfgs (F := F)) adm p).spec c from by
    iintro ⟨-, -, Hr⟩
    iexact Hr).trans (hin c)
  hout c := (hout c).trans (by
    iintro Hr
    isplitr; · iempintro
    isplitr
    · unfold ownSems0
      rw [Finset.univ_eq_empty, BI.bigSep_empty]; iempintro
    iexact Hr)
  hexit c := by
    show iprop((rdats dat fg Rl p c).arraysAt (pin (pcfgs (F := F)) adm p).N ∗ (dat p c).owesAt () (Fin.last (pin (pcfgs (F := F)) adm p).N) ∗ _ ∗ _) ⊢ _
    iintro ⟨Ha, HO, -, Hr⟩
    ihave Ha := (arraysAt_some dat fg Rl p c) $$ Ha
    icases Ha with ⟨%A, %hF, Ha⟩
    obtain ⟨after, hlv, haf⟩ := RDat.ArrAt.exists_exact_all (rd := rdats dat fg Rl p c) (G := A) hF
    obtain ⟨W', hW, hrest⟩ := exists_updated kit.win.arr_inj c (W c) A
    imodintro
    iexists W'
    isplitr
    · ipureintro
      exact ⟨⟨after, fun w u hf => hlv w u u.isLt hf, fun w => (haf w).symm.trans (hW w)⟩, hrest⟩
    rw [StableHlo.held_sub_split (c.tc : Thread nD τ) (arrRefs_sub_ucRefs _ kit.win.arr_unscoped) W',
      ← arrays_held (pcfgs (F := F)) adm dat p kit.toP c (hshare c) A W' hW,
      StableHlo.held_congr (c.tc : Thread nD τ) (S := ucRefs τ sig \ arrRefs (pcfgs (F := F) p).spec) (V := W') (V' := W c) fun d hd => hrest d fun w e =>
        (Finset.mem_sdiff.mp hd).2 (e ▸ Finset.mem_map.mpr ⟨_, Finset.mem_image_of_mem _ (Finset.mem_univ w), rfl⟩)]
    isplitl [Ha Hr]
    · isplitl [Ha]; · iexact Ha
      iexact Hr
    unfold Dat.owesAt owesWithin
    rw [howed c]
    icases HO with ⟨%Wd, -, HO⟩; iexists Wd; iexact HO

end

end Cert.Proof

end
-- ==== Proof.Launch.lean ====
/-
  The whole program, run: the host operations and the three kernel regions one after the other. A region's data are chosen only when the
  contents it is entered at are known, so what a region leaves may be any contents that its bodies may have written.
-/
module

public import proofs.«01_k».proof.Proof.Region

@[expose] public section

noncomputable section

namespace Cert.Proof

open Idealize.ShloMosaic Idealize.ShloMosaic.TcCoe
open Idealize.SL Idealize.SL.RA
open Idealize.SL.BI (sProp bigSep bigSep_congr bigSep_mono bigSep_sep')
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F] [Named F]

/-- The ghost state: the launch's own, and the part that the three regions spend. -/
abbrev UU : Type := UR sig nD τ × UR sig nD τ

local notation "𝕄" => MT nD τ sig Unit (Elt F) ℕ UU ℕ

/-- The data of the three regions at any contents `W` of the buffers they are entered at, with their bodies' proofs. -/
structure Bodies (F : FTy → Type) [FloatOps F] [Named F] where
  dat : Valuation τ sig (Elt F) → (q : Fin 3) → (c : Dev nD) → Dat τ (Elt F) Unit ℕ UU ℕ (pin (pcfgs (F := F)) adm q) c
  fg : (q : Fin 3) → Fin (pin (pcfgs (F := F)) adm q).W → Bool
  Rl : Valuation τ sig (Elt F) → (q : Fin 3) → (c : Dev nD) → (w : Fin (pin (pcfgs (F := F)) adm q).W) → Fin (pin (pcfgs (F := F)) adm q).N
    → (((pin (pcfgs (F := F)) adm q).win w).block.Idx → Elt F ((pin (pcfgs (F := F)) adm q).win w).elt) → Prop
  body : ∀ W q c, BodyObligationRel (dat W q c) defs₀ Variants.none () Set.univ (fg q) (Rl W q c)
  owed : ∀ W q c t, (dat W q c).owed t = 0
  recorded : ∀ W q c, (dat W q c).recorded 0 = Set.univ
  share : ∀ W q c w, (dat W q c).share w = fullShare
  entry : ∀ W q c w, (dat W q c).A w = W (Proc.devRef .tc (arrRef (pin (pcfgs (F := F)) adm q).spec w))
  enter : ∀ W q (c : Dev nD), scopedRest (pin (pcfgs (F := F)) adm q).spec c ⊢ (dat W q c).Φ 0
  leave : ∀ W q (c : Dev nD), (dat W q c).Φ (Fin.last (pin (pcfgs (F := F)) adm q).N) ⊢ scopedRest (pin (pcfgs (F := F)) adm q).spec c

namespace Bodies

variable (B : Bodies F)

/-- What region `q`, entered at `W`, may leave on core `c`. -/
abbrev Leaves (q : Fin 3) (c : Dev nD) (W W' : Valuation τ sig (Elt F)) : Prop := Left (B.dat W) B.fg (B.Rl W) q c W W'

/-- The level facts of a program that waits on nothing but its own staging. -/
abbrev lev0 : GSem nD τ sig → Finset Unit := fun _ => ∅

/-- No level. -/
abbrev lvl0 : GSem nD τ sig → Unit → ℕ := fun _ _ => 0

/-- The ghost state that region `q` spends on core `c`. -/
abbrev ghost (q : Fin 3) (c : Dev nD) : sProp 𝕄 :=
  iprop(cellsGhost (pin (pcfgs (F := F)) adm) embR q c ∗ toksInit (pin (pcfgs (F := F)) adm) embR q c)

/-- A core's thread between two items: the unscoped buffers at `W`, and no debt. -/
abbrev at_ (c : Dev nD) (W : Valuation τ sig (Elt F)) : sProp 𝕄 :=
  iprop(StableHlo.held (c.tc : Thread nD τ) (ucRefs τ sig) W ∗ ∃ Wd, owes (c : Thread nD τ) (0 : CellTallies nD τ sig Unit) Wd)

/-- One region, under any continuation. -/
theorem region (q : Fin 3) (kit : LaunchFacts (nD := nD) (τ := τ) cfgs q) (c : Dev nD) (W : Valuation τ sig (Elt F))
    {α : Type} (k : PUnit → Prog (TpuEff nD τ sig (Elt F) (Pipeline.Sig Λ₀ (Fin 3) fun p => (pcfgs (F := F) p).Adm) .tc) α) (Q : α → sProp 𝕄) :
    iprop((∀ W', ⌜B.Leaves q c W W'⌝ -∗ (boundary (c.tc : Thread nD τ) ∗ at_ c W') -∗ wp frame (wpE (defs (F := F)) (Variants.lift Variants.none) (c.tc : Thread nD τ) none) Set.univ (k ⟨⟩) Q)
        ∗ boundary (c.tc : Thread nD τ) ∗ at_ c W ∗ levAts lev0 lvl0 ∗ ghost q c)
      ⊢ wp frame (wpE (defs (F := F)) (Variants.lift Variants.none) (c.tc : Thread nD τ) none) Set.univ (Prog.lift (.customCall (Pipeline.entry q) ()) >>= k) Q := by
  have key : iprop((iprop(boundary (c.tc : Thread nD τ) ∗ ∃ W', ⌜B.Leaves q c W W'⌝ ∗ at_ c W') -∗ wp frame (wpE (defs (F := F)) (Variants.lift Variants.none) (c.tc : Thread nD τ) none) Set.univ (k ⟨⟩) Q)
        ∗ boundary (c.tc : Thread nD τ) ∗ at_ c W ∗ levAts lev0 lvl0 ∗ ghost q c)
      ⊢ wp frame (wpE (defs (F := F)) (Variants.lift Variants.none) (c.tc : Thread nD τ) none) Set.univ (Prog.lift (.customCall (Pipeline.entry q) ()) >>= k) Q :=
    (leaving (B.dat W) B.fg (B.Rl W) q kit (fun _ => W) (B.body W q) (B.owed W q) (B.recorded W q) (B.share W q) (B.entry W q)
      (B.enter W q) (B.leave W q) lev0 lvl0).wp (pcfgs (F := F)) adm (rdats (B.dat W) B.fg (B.Rl W)) () cellOf_inj embR defs₀ Variants.none lev0 lvl0 c none
      (fun u hu => absurd hu (by simp)) k Q
  refine Idealize.SL.BI.BIBase.Entails.trans ?_ key
  iintro ⟨Hk, Hb, Hp, HL, Hg, Ht⟩
  isplitl [Hk]
  · iintro ⟨Hb, ⟨%W', %hW, Hp⟩⟩
    iapply Hk $$ %W' %hW [Hb Hp]
    isplitl [Hb]; · iexact Hb
    iexact Hp
  isplitl [Hb]; · iexact Hb
  isplitl [Hp]; · iexact Hp
  isplitl [HL]; · iexact HL
  isplitl [Hg]; · iexact Hg
  iexact Ht

/-- One stretch of host operations, under any continuation. -/
theorem stretch (ops : List (HloOp τ sig (Elt F))) (hsub : ops.Forall fun op => op.bufs ⊆ StableHlo.tcRefs τ sig) (hfresh : ops.Forall fun op => op.fresh = ∅)
    (c : Dev nD) (W : Valuation τ sig (Elt F))
    {α : Type} (k : PUnit → Prog (TpuEff nD τ sig (Elt F) (Pipeline.Sig Λ₀ (Fin 3) fun p => (pcfgs (F := F) p).Adm) .tc) α) (Q : α → sProp 𝕄) :
    iprop(((boundary (c.tc : Thread nD τ) ∗ at_ c (StableHlo.after ops W)) -∗ wp frame (wpE (defs (F := F)) (Variants.lift Variants.none) (c.tc : Thread nD τ) none) Set.univ (k ⟨⟩) Q)
        ∗ boundary (c.tc : Thread nD τ) ∗ at_ c W)
      ⊢ wp frame (wpE (defs (F := F)) (Variants.lift Variants.none) (c.tc : Thread nD τ) none) Set.univ (StableHlo.seq ops >>= k) Q := by
  iintro ⟨Hk, Hb, Hh, HO⟩
  iapply (StableHlo.wp_seq Variants.none.lift none Set.univ c (ucRefs τ sig) k ops (fun op h => Pipeline.sub_ucRefs op ((List.forall_iff_forall_mem.mp hsub) op h))
    (fun op h => (List.forall_iff_forall_mem.mp hfresh) op h) W) $$ [Hb Hh]
  · isplitl [Hb] <;> iassumption
  iintro ⟨Hb, Hh⟩
  iapply Hk
  isplitl [Hb]; · iexact Hb
  isplitl [Hh]; · iexact Hh
  iexact HO

variable (m : (ℓ : Loc nD τ sig) → Buf (Elt F) ℓ)

/-- What the whole program may leave on core `c`: the buffers after the last host operations, from contents that the three regions may have
    left one after the other. -/
def Ends (c : Dev nD) (V : Valuation τ sig (Elt F)) : Prop :=
  ∃ W1 W2 W3, B.Leaves 0 c (V1 m c) W1 ∧ B.Leaves 1 c (StableHlo.after hostOps1 W1) W2 ∧ B.Leaves 2 c (StableHlo.after hostOps2 W2) W3
    ∧ V = StableHlo.after hostOps3 W3

/-- The whole program as one segment. -/
def whole (c₀ : Dev nD) : HostSeg (Ix := Unit) (Name := ℕ) (U := UU) (Lvl := ℕ) (pcfgs (F := F)) defs₀ Variants.none lev0 lvl0 where
  prog := main c₀
  pre c := iprop(at_ c (V0 m c) ∗ ghost 0 c ∗ ghost 1 c ∗ ghost 2 c)
  post c := iprop(∃ V, ⌜B.Ends m c V⌝ ∗ at_ c V)
  run c β k K := by
    rw [main_chain c₀]
    simp only [Pipeline.chain_cons, Pipeline.chain_nil, bind_assoc, pure_bind]
    iintro ⟨Hk, Hb, ⟨Hp, Hg0, Hg1, Hg2⟩, #HL⟩
    iapply (stretch hostOps0 hostOps0_sub hostOps0_fresh c (V0 m c))
    isplitr [Hb Hp]
    swap
    · isplitl [Hb] <;> iassumption
    iintro ⟨Hb, Hp⟩
    iapply (B.region 0 launch0 c (V1 m c))
    isplitr [Hb Hp Hg0]
    swap
    · isplitl [Hb]; · iexact Hb
      isplitl [Hp]; · iexact Hp
      isplitr; · iexact HL
      iexact Hg0
    iintro %W1 %h1 ⟨Hb, Hp⟩
    iapply (stretch hostOps1 hostOps1_sub hostOps1_fresh c W1)
    isplitr [Hb Hp]
    swap
    · isplitl [Hb] <;> iassumption
    iintro ⟨Hb, Hp⟩
    iapply (B.region 1 launch1 c (StableHlo.after hostOps1 W1))
    isplitr [Hb Hp Hg1]
    swap
    · isplitl [Hb]; · iexact Hb
      isplitl [Hp]; · iexact Hp
      isplitr; · iexact HL
      iexact Hg1
    iintro %W2 %h2 ⟨Hb, Hp⟩
    iapply (stretch hostOps2 hostOps2_sub hostOps2_fresh c W2)
    isplitr [Hb Hp]
    swap
    · isplitl [Hb] <;> iassumption
    iintro ⟨Hb, Hp⟩
    iapply (B.region 2 launch2 c (StableHlo.after hostOps2 W2))
    isplitr [Hb Hp Hg2]
    swap
    · isplitl [Hb]; · iexact Hb
      isplitl [Hp]; · iexact Hp
      isplitr; · iexact HL
      iexact Hg2
    iintro %W3 %h3 ⟨Hb, Hp⟩
    iapply (stretch hostOps3 hostOps3_sub hostOps3_fresh c W3)
    isplitr [Hb Hp]
    swap
    · isplitl [Hb] <;> iassumption
    iintro ⟨Hb, Hp⟩
    iapply Hk
    isplitl [Hb]; · iexact Hb
    iexists _
    isplitr
    · ipureintro; exact ⟨W1, W2, W3, h1, h2, h3, rfl⟩
    iexact Hp

/-- The launch's ghost state dealt region by region. -/
theorem ghosts : iprop((bigSep Finset.univ fun c : Dev nD => bigSep Finset.univ fun p => cellsGhost cfgs embR p c)
      ∗ (bigSep Finset.univ fun c : Dev nD => bigSep Finset.univ fun p => (toksInit cfgs embR p c : sProp 𝕄)))
    ⊢ bigSep Finset.univ fun c : Dev nD => (iprop(ghost 0 c ∗ ghost 1 c ∗ ghost 2 c) : sProp 𝕄) := by
  rw [← bigSep_sep']
  refine bigSep_mono fun c _ => ?_
  rw [BI.bigSep_univ_eq_bigSepL [(0 : Fin 3), 1, 2] (by decide) (by decide), BI.bigSep_univ_eq_bigSepL [(0 : Fin 3), 1, 2] (by decide) (by decide)]
  show iprop((cellsGhost cfgs embR 0 c ∗ cellsGhost cfgs embR 1 c ∗ cellsGhost cfgs embR 2 c) ∗ (toksInit cfgs embR 0 c ∗ toksInit cfgs embR 1 c ∗ toksInit cfgs embR 2 c)) ⊢
    (iprop((cellsGhost cfgs embR 0 c ∗ toksInit cfgs embR 0 c) ∗ (cellsGhost cfgs embR 1 c ∗ toksInit cfgs embR 1 c) ∗ (cellsGhost cfgs embR 2 c ∗ toksInit cfgs embR 2 c)) : sProp 𝕄)
  iintro ⟨⟨A0, A1, A2⟩, B0, B1, B2⟩
  isplitl [A0 B0]
  · isplitl [A0] <;> iassumption
  isplitl [A1 B1]
  · isplitl [A1] <;> iassumption
  isplitl [A2] <;> iassumption

/-- What the launch hands each core is where its program starts. -/
theorem starts (ρ : Dev nD → PrngReg) : (bigSep Finset.univ fun c : Dev nD => iprop(unscopedBufs c (fun b => m ((c.tc : Thread nD τ).loc b)) ∗ unscopedSems0 c
      ∗ owes (c : Thread nD τ) (0 : CellTallies nD τ sig Unit) ∅ ∗ Pipeline.launchCred (fun _ => (0 : CellTallies nD τ sig Unit)) c ∗ prngReg c (ρ c) ∗ (ghost 0 c ∗ ghost 1 c ∗ ghost 2 c)))
    ⊢ bigSep Finset.univ fun c : Dev nD => (iprop(at_ c (V0 m c) ∗ ghost 0 c ∗ ghost 1 c ∗ ghost 2 c) : sProp 𝕄) := by
  refine bigSep_mono fun c _ => ?_
  rw [show unscopedBufs c (fun b => m ((c.tc : Thread nD τ).loc b)) = (StableHlo.held (c : Thread nD τ) (Pipeline.ucRefs τ sig) (V0 m c) : sProp 𝕄) from
    Pipeline.unscopedBufs_held (Ix := Unit) (Name := ℕ) (U := UU) (Lvl := ℕ) c (V0 m c)]
  show iprop(StableHlo.held (c : Thread nD τ) (Pipeline.ucRefs τ sig) (V0 m c) ∗ unscopedSems0 c
      ∗ owes (c : Thread nD τ) (0 : CellTallies nD τ sig Unit) ∅ ∗ Pipeline.launchCred (fun _ => (0 : CellTallies nD τ sig Unit)) c ∗ prngReg c (ρ c) ∗ (ghost 0 c ∗ ghost 1 c ∗ ghost 2 c))
    ⊢ (iprop(at_ c (V0 m c) ∗ ghost 0 c ∗ ghost 1 c ∗ ghost 2 c) : sProp 𝕄)
  iintro ⟨Hh, -, HO, -, -, HG⟩
  isplitl [Hh HO]
  · isplitl [Hh]; · iexact Hh
    iexists _; iexact HO
  iexact HG

set_option backward.isDefEq.respectTransparency.types false in
/-- Every run of the program from memory `m` ends, with every semaphore at zero, and on each core the unscoped buffers are at contents
    that the three regions and the host operations may leave. -/
theorem launch (ρ : Dev nD → PrngReg) :
    θ_run defs (onTc (τ := τ) (main (F := F))) ⟨m, fun _ => 0, ρ⟩ (fun r => (∀ c : Dev nD, ∃ V, B.Ends m c V
        ∧ ∀ b : Ref sig .tc, b.isScoped = false → r.2.mem ((c.tc : Thread nD τ).loc b) = V (Proc.devRef .tc b))
      ∧ r.2.sem = fun _ => 0) := by
  refine Pipeline.RDat.θ_run_regions_kit_dev_sems (pcfgs (F := F)) adm (fun q c => rdats (B.dat (V0 m c)) B.fg (B.Rl (V0 m c)) q c) () cellOf_inj embL defs₀ Variants.none lev0 lvl0 m ρ main
    (fun c => [.host (B.whole m c)])
    (fun c Q => by
      simp only [Pipeline.RDat.Seg.run]
      have e : ((B.whole m c).prog >>= fun _ => Prog.ret PUnit.unit) = main c := bind_pure _
      rw [e])
    (fun c => List.nodup_nil) (fun _ => 0) (fun _ _ => rfl)
    (fun c => iprop(ghost 0 c ∗ ghost 1 c ∗ ghost 2 c))
    (initOf (Pipeline.cells cfgs cellOf_inj) (Pipeline.launchToks cfgs cellOf_inj), initOf (Pipeline.cells cfgs cellOf_inj) (Pipeline.launchToks cfgs cellOf_inj))
    ?_
    (T₀ := fun c => iprop(at_ c (V0 m c) ∗ ghost 0 c ∗ ghost 1 c ∗ ghost 2 c))
    (Tₙ := fun c => iprop(∃ V, ⌜B.Ends m c V⌝ ∗ StableHlo.held (c.tc : Thread nD τ) (Pipeline.ucRefs τ sig) V))
    (hch := fun c => ?_)
    (hinit := ?_) (QY := fun c s => ∃ V, B.Ends m c V ∧ ∀ b : Ref sig .tc, b.isScoped = false → s.mem ((c.tc : Thread nD τ).loc b) = V (Proc.devRef .tc b))
    (hfin := fun c s' => ?_) (hQ := fun _ h hz => ⟨h, funext fun g => hz g (.inr (regions_no_unscoped g.2))⟩)
  · -- the ghost state: one half is the launch's, the other the regions'
    iintro Hu
    ihave Hu := (ownU_pair _ _) $$ Hu
    icases Hu with ⟨Hl, Hr⟩
    imod (fund_ghost cfgs embR cellOf_inj) $$ Hr with ⟨Hg, Ht⟩
    imodintro
    isplitl [Hl]; · iexact Hl
    iapply (ghosts (F := F))
    isplitl [Hg]; · iexact Hg
    iexact Ht
  · exact ⟨.rfl, by
      show iprop(∃ V, ⌜B.Ends m c V⌝ ∗ at_ c V) ⊢ _
      iintro ⟨%V, %hV, Hh, HO⟩
      isplitl [Hh]
      · iexists V; isplitr; · ipureintro; exact hV
        iexact Hh
      iexact HO⟩
  · iintro ⟨H, -⟩
    imodintro
    iapply (starts (F := F) m ρ)
    iexact H
  · iintro ⟨⟨%V, %hV, Hh⟩, HSI⟩
    unfold StableHlo.held
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro
      exact ⟨V, hV, fun b hb => h (Proc.devRef .tc b) (Finset.mem_filter.mpr ⟨StableHlo.devRef_mem_tcRefs b, by rw [show (Proc.devRef .tc b : DevRef τ sig).isScoped = b.isScoped from rfl, hb]; decide⟩)⟩
    iexact HSI

end Bodies

end Cert.Proof

end
-- ==== Proof.Data.lean ====
/-
  The proof data that the three regions share: every input window's buffer is left as the fetch put it, nothing is owed, and what is
  left in an output window is told by a predicate.
-/
module

public import proofs.«01_k».proof.Proof.Launch

@[expose] public section

noncomputable section

namespace Cert.Proof

open Idealize.ShloMosaic Idealize.ShloMosaic.TcCoe
open Idealize.SL Idealize.SL.RA
open Idealize.SL.BI (sProp bigSep bigSep_congr bigSep_mono bigSep_sep')
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F] [Named F]

local notation "𝕄" => MT nD τ sig Unit (Elt F) ℕ UU ℕ

/-- Data whose windows' arrays are `A`, whose bodies leave every buffer as the fetch put it, and whose invariant is `Φ`. -/
abbrev still (cfg : Pipeline.Cfg sig Λ₀) (c : Dev nD)
    (A : (w : Fin cfg.W) → Buf (Elt F) ((cfg.win w).arr.view.loc (c : Thread nD τ)))
    (Φ : Fin (cfg.N + 1) → sProp 𝕄) : Dat τ (Elt F) Unit ℕ UU ℕ cfg c where
  A := A
  after w t := (cfg.win w).fill (cfg.grid.coords t) (fun _ => Classical.arbitrary _) (((cfg.win w).blk t).view.read (Elt F) (A w))
  Φ := Φ
  q _ := fullShare
  owed _ := 0

/-- Every window is held whole. -/
theorem still_share (cfg : Pipeline.Cfg sig Λ₀) (c : Dev nD)
    (A : (w : Fin cfg.W) → Buf (Elt F) ((cfg.win w).arr.view.loc (c : Thread nD τ)))
    (Φ : Fin (cfg.N + 1) → sProp 𝕄) (w : Fin cfg.W) : (still cfg c A Φ).share w = fullShare := by
  unfold Dat.share; split <;> rfl

/-- A buffer that is whole holds something, which it can be said to hold. -/
theorem owns_some (c : Thread nD τ) (b : Ref sig c.2.kind) :
    iprop(∃ f : Buf (Elt F) (c.loc b), (c.loc b) ↦{fullShare} f) ⊢ (iprop(∃ f, owns c (Memref.whole b) fullShare f) : sProp 𝕄) := by
  iintro ⟨%f, H⟩; iexists f; rw [owns_whole]; iexact H

/-- And back. -/
theorem some_owns (c : Thread nD τ) (b : Ref sig c.2.kind) (f : b.ty.Contents (Elt F)) :
    (owns c (Memref.whole b) fullShare f : sProp 𝕄) ⊢ iprop(∃ f : Buf (Elt F) (c.loc b), (c.loc b) ↦{fullShare} f) := by
  rw [owns_whole]; iintro H; iexists f; iexact H

end Cert.Proof
-- ==== Proof.Block.lean ====
/-
  What one grid point of an attention layer computes for one head, named once for both attention kernels: the masked
  scores of a block of 256 rows and 512 columns, and the four slices of the first kernel's scratch buffers.
-/
module

public import proofs.«01_k».proof.Proof.Gen.KernelIdeal.Skeleton
public import Idealize.ShloMosaic.Lib.Pipeline.FrameBody
public import Idealize.ShloMosaic.Lib.VecWindow

@[expose] public section

set_option maxRecDepth 16384

noncomputable section

namespace Cert.Proof

open Idealize.ShloMosaic Idealize.ShloMosaic.TcCoe
open Cert.KernelIdeal Cert.KernelIdeal.Gen

variable {F : FTy → Type} [FloatOps F] [Named F]

/-- The point is the first of its row block. -/
abbrev isFirst (i : grid2.Coords) : BitVec 1 :=
  Scalar.cmpi .ne (Scalar.extui (Scalar.cmpi .eq (BitVec.ofNat 32 (i 1).val) 0#32) : BitVec 32) 0#32

/-- A whole load of a block. -/
abbrev all2 {e : EltTy} {a b : ℕ} (X : (⟨2, ![a, b]⟩ : Shape).Idx → Elt F e)
    (h : ∀ k, (![0, 0] : Fin 2 → ℕ) k + (⟨2, ![a, b]⟩ : Shape).size k ≤ (⟨2, ![a, b]⟩ : Shape).size k) : (⟨2, ![a, b]⟩ : Shape).Idx → Elt F e :=
  View.ld X (Rect.unit (s := ⟨2, ![a, b]⟩) ![0, 0] (⟨2, ![a, b]⟩ : Shape).size h)

/-- One entry of the relation table lies in it. -/
theorem inb_entry (r : Fin 8) (k : Fin 16) : ∀ a, (![r.val, k.val] : Fin 2 → ℕ) a + S1x1.size a ≤ S8x16.size a := by
  intro a
  fin_cases a
  · show r.val + 1 ≤ 8
    omega
  · show k.val + 1 ≤ 16
    omega

/-- One entry of the relation table, loaded. -/
abbrev entry (sc : Vec F S8x16 .f32) (r : Fin 8) (k : Fin 16) : Vec F S1x1 .f32 :=
  View.ld sc (Rect.unit (s := S8x16) ![r.val, k.val] S1x1.size (inb_entry r k))

/-- The masked scores of one block, from the adjacency and relation blocks, the row and column terms, and row `r` of the
    relation table. -/
def scores (i : grid2.Coords) (r : Fin 8) (adj ids : Vec F S256x512 .i32) (f1 : FVec F S256x1 .f32) (f2 : FVec F S1x512 .f32)
    (sc : Vec F S8x16 .f32) : FVec F S256x512 .f32 :=
  k2_pay27 (k2_pay5 i) (k2_pay6 i (all2 adj inb_S256x512_S256x512_0_0)) (k2_pay8 (all2 ids inb_S256x512_S256x512_0_0))
    (k2_pay9 (all2 ids inb_S256x512_S256x512_0_0)) (k2_pay10 (all2 ids inb_S256x512_S256x512_0_0))
    (k2_pay12 (k2_pay11 (all2 ids inb_S256x512_S256x512_0_0)) 0#32)
    (k2_pay13 (entry sc r 0)) (k2_pay13 (entry sc r 1)) (k2_pay13 (entry sc r 2)) (k2_pay13 (entry sc r 3))
    (k2_pay13 (entry sc r 4)) (k2_pay13 (entry sc r 5)) (k2_pay13 (entry sc r 6)) (k2_pay13 (entry sc r 7))
    (k2_pay13 (entry sc r 8)) (k2_pay13 (entry sc r 9)) (k2_pay13 (entry sc r 10)) (k2_pay13 (entry sc r 11))
    (k2_pay13 (entry sc r 12)) (k2_pay13 (entry sc r 13)) (entry sc r 14) (entry sc r 15) f1 f2

/-! ## The four slices of a buffer with a leading axis of heads -/

variable {α : Type}

theorem inb_head (h : Fin 4) (b n : ℕ) : ∀ a, (![h.val, 0, 0] : Fin 3 → ℕ) a + (⟨3, ![1, b, n]⟩ : Shape).size a ≤ (⟨3, ![4, b, n]⟩ : Shape).size a := by
  intro a
  fin_cases a
  · show h.val + 1 ≤ 4
    omega
  · show 0 + b ≤ b
    omega
  · show 0 + n ≤ n
    omega

/-- Head `h`'s rectangle. -/
abbrev headRect (h : Fin 4) (b n : ℕ) : Rect ⟨3, ![4, b, n]⟩ := Rect.unit (s := ⟨3, ![4, b, n]⟩) ![h.val, 0, 0] (⟨3, ![1, b, n]⟩ : Shape).size (inb_head h b n)

/-- Head `h`'s slice. -/
def slice {b n : ℕ} (h : Fin 4) (X : (⟨3, ![4, b, n]⟩ : Shape).Idx → α) : (⟨3, ![1, b, n]⟩ : Shape).Idx → α :=
  fun x => X ((headRect h b n).idx x)

/-- The place an index has within its head's slice. -/
def within {b n : ℕ} (x : (⟨3, ![4, b, n]⟩ : Shape).Idx) : (⟨3, ![1, b, n]⟩ : Shape).Idx
  | 0 => (0 : Fin 1)
  | 1 => x 1
  | 2 => x 2

/-- The head an index belongs to. -/
def headOf {b n : ℕ} (x : (⟨3, ![4, b, n]⟩ : Shape).Idx) : Fin 4 := x 0

/-- The buffer with the four slices given. -/
def stack {b n : ℕ} (w : Fin 4 → (⟨3, ![1, b, n]⟩ : Shape).Idx → α) : (⟨3, ![4, b, n]⟩ : Shape).Idx → α :=
  fun x => w (headOf x) (within x)

theorem within_idx {b n : ℕ} (h : Fin 4) (x : (⟨3, ![1, b, n]⟩ : Shape).Idx) : within ((headRect h b n).idx x) = x := by
  funext a
  apply Fin.ext
  fin_cases a
  · have : (x 0).val < 1 := (x 0).isLt
    show 0 = (x 0).val
    omega
  · show 0 + 1 * (x 1).val = (x 1).val
    omega
  · show 0 + 1 * (x 2).val = (x 2).val
    omega

theorem head_idx {b n : ℕ} (h : Fin 4) (x : (⟨3, ![1, b, n]⟩ : Shape).Idx) : headOf ((headRect h b n).idx x) = h := by
  apply Fin.ext
  have : (x 0).val < 1 := (x 0).isLt
  show h.val + 1 * (x 0).val = h.val
  omega

theorem idx_within {b n : ℕ} (x : (⟨3, ![4, b, n]⟩ : Shape).Idx) : (headRect (headOf x) b n).idx (within x) = x := by
  funext a
  apply Fin.ext
  fin_cases a
  · show (x 0).val + 1 * 0 = (x 0).val
    omega
  · show 0 + 1 * (x 1).val = (x 1).val
    omega
  · show 0 + 1 * (x 2).val = (x 2).val
    omega

/-- A slice of a stack is the slice given. -/
theorem slice_stack {b n : ℕ} (h : Fin 4) (w : Fin 4 → (⟨3, ![1, b, n]⟩ : Shape).Idx → α) : slice h (stack w) = w h := by
  funext x
  show w (headOf ((headRect h b n).idx x)) (within ((headRect h b n).idx x)) = w h x
  rw [within_idx, head_idx]

section Views

variable {sig : RefSig} {κ : Kind} {sp : Space} {e : EltTy} {Val : EltTy → Type} {b n : ℕ}

/-- A read after a store to a head's slice: at that head, what was stored; elsewhere what was there. -/
theorem read_head (v : View sig κ sp (⟨3, ![4, b, n]⟩ : Shape) e) (f : v.ty.Contents Val) (h : Fin 4)
    (w : (⟨3, ![1, b, n]⟩ : Shape).Idx → Val e) (L : List (View.Piece Val ⟨3, ![4, b, n]⟩ e)) (x : (⟨3, ![4, b, n]⟩ : Shape).Idx) :
    v.read Val (v.writes Val f (⟨headRect h b n, w⟩ :: L)) x = if headOf x = h then w (within x) else v.read Val (v.writes Val f L) x := by
  split
  · next hx =>
    subst hx
    have := View.read_writes_cons_emb v f (headRect (headOf x) b n) w L (within x)
    rwa [show (headRect (headOf x) b n).emb (within x) = x from idx_within x] at this
  · next hx =>
    refine View.read_writes_cons_miss v f ⟨headRect h b n, w⟩ L x fun hm => hx ?_
    obtain ⟨y, rfl⟩ := (headRect h b n).exists_idx_of_mem hm
    exact head_idx h y

/-- A slice after a store to the same head's slice. -/
theorem slice_same (v : View sig κ sp (⟨3, ![4, b, n]⟩ : Shape) e) (f : v.ty.Contents Val) (h : Fin 4)
    (w : (⟨3, ![1, b, n]⟩ : Shape).Idx → Val e) (L : List (View.Piece Val ⟨3, ![4, b, n]⟩ e)) :
    slice h (v.read Val (v.writes Val f (⟨headRect h b n, w⟩ :: L))) = w := by
  funext x
  show v.read Val (v.writes Val f (⟨headRect h b n, w⟩ :: L)) ((headRect h b n).idx x) = _
  rw [read_head, if_pos (head_idx h x), within_idx]

/-- A slice after a store to another head's slice. -/
theorem slice_other (v : View sig κ sp (⟨3, ![4, b, n]⟩ : Shape) e) (f : v.ty.Contents Val) (h h' : Fin 4) (hh : h ≠ h')
    (w : (⟨3, ![1, b, n]⟩ : Shape).Idx → Val e) (L : List (View.Piece Val ⟨3, ![4, b, n]⟩ e)) :
    slice h (v.read Val (v.writes Val f (⟨headRect h' b n, w⟩ :: L))) = slice h (v.read Val (v.writes Val f L)) := by
  funext x
  show v.read Val (v.writes Val f (⟨headRect h' b n, w⟩ :: L)) ((headRect h b n).idx x) = _
  rw [read_head, if_neg (by rw [head_idx]; exact hh)]
  rfl

/-- Stores to the four heads' slices, one after another, leave the stack of what was stored. -/
theorem read_four (v : View sig κ sp (⟨3, ![4, b, n]⟩ : Shape) e) (f : v.ty.Contents Val)
    (w : Fin 4 → (⟨3, ![1, b, n]⟩ : Shape).Idx → Val e) (L : List (View.Piece Val ⟨3, ![4, b, n]⟩ e)) :
    v.read Val (v.writes Val f (⟨headRect 3 b n, w 3⟩ :: ⟨headRect 2 b n, w 2⟩ :: ⟨headRect 1 b n, w 1⟩ :: ⟨headRect 0 b n, w 0⟩ :: L)) = stack w := by
  funext x
  rw [read_head, read_head, read_head, read_head]
  unfold stack
  generalize headOf x = h
  fin_cases h <;> rfl

/-- The four slices written, each known to be `w`'s. -/
theorem read_four_eq (v : View sig κ sp (⟨3, ![4, b, n]⟩ : Shape) e) (f : v.ty.Contents Val)
    (w : Fin 4 → (⟨3, ![1, b, n]⟩ : Shape).Idx → Val e) (L : List (View.Piece Val ⟨3, ![4, b, n]⟩ e))
    {w0 w1 w2 w3 : (⟨3, ![1, b, n]⟩ : Shape).Idx → Val e} (h0 : w0 = w 0) (h1 : w1 = w 1) (h2 : w2 = w 2) (h3 : w3 = w 3) :
    v.read Val (v.writes Val f (⟨headRect 3 b n, w3⟩ :: ⟨headRect 2 b n, w2⟩ :: ⟨headRect 1 b n, w1⟩ :: ⟨headRect 0 b n, w0⟩ :: L)) = stack w := by
  subst h0 h1 h2 h3
  exact read_four v f w L

/-- A slice after a store to the whole buffer. -/
theorem slice_whole (v : View sig κ sp (⟨3, ![4, b, n]⟩ : Shape) e) (f : v.ty.Contents Val) (h : Fin 4)
    (inb : ∀ a, (![0, 0, 0] : Fin 3 → ℕ) a + (⟨3, ![4, b, n]⟩ : Shape).size a ≤ (⟨3, ![4, b, n]⟩ : Shape).size a)
    (X : (⟨3, ![4, b, n]⟩ : Shape).Idx → Val e) (L : List (View.Piece Val ⟨3, ![4, b, n]⟩ e)) :
    slice h (v.read Val (v.writes Val f (⟨Rect.unit (s := ⟨3, ![4, b, n]⟩) ![0, 0, 0] (⟨3, ![4, b, n]⟩ : Shape).size inb, X⟩ :: L))) = slice h X :=
  congrArg (slice h) (View.read_writes_full v f inb X L)

end Views

end Cert.Proof

end
-- ==== Proof.Body0.lean ====
/-
  The body of the projection kernel, run at one head: the projected features, their two scores, each padded with zero rows, and the
  relations' scores.
-/
module

public import proofs.«01_k».proof.Proof.Block
public import proofs.«01_k».proof.Proof.Gen.KernelIdeal.Launch
public import Idealize.ShloMosaic.Lib.Exec
public import Idealize.ShloMosaic.Lib.Pipeline.Value
public import Idealize.ShloMosaic.Lib.Tactic

@[expose] public section

set_option maxRecDepth 16384

noncomputable section

namespace Cert.Proof.Zero

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

/-- Row `r` of the first 5000. -/
def low {n : ℕ} (x : (⟨3, ![1, 5120, n]⟩ : Shape).Idx) (h : (x 1).val < 5000) : (⟨3, ![1, 5000, n]⟩ : Shape).Idx
  | 0 => (0 : Fin 1)
  | 1 => (⟨(x 1).val, h⟩ : Fin 5000)
  | 2 => x 2

/-- Row `r` of the last 120. -/
def high {n : ℕ} (x : (⟨3, ![1, 5120, n]⟩ : Shape).Idx) (h : ¬ (x 1).val < 5000) : (⟨3, ![1, 120, n]⟩ : Shape).Idx
  | 0 => (0 : Fin 1)
  | 1 => (⟨(x 1).val - 5000, by have : (x 1).val < 5120 := (x 1).isLt; omega⟩ : Fin 120)
  | 2 => x 2

/-- 5000 rows above 120. -/
def rows {α : Type} {n : ℕ} (p : (⟨3, ![1, 5000, n]⟩ : Shape).Idx → α) (q : (⟨3, ![1, 120, n]⟩ : Shape).Idx → α) :
    (⟨3, ![1, 5120, n]⟩ : Shape).Idx → α := fun x => if h : (x 1).val < 5000 then p (low x h) else q (high x h)

section Views

variable {sig : RefSig} {κ : Kind} {sp : Space} {e : EltTy} {Val : EltTy → Type} {n : ℕ}

/-- A store to the first 5000 rows and one to the last 120 leave the one above the other. -/
theorem read_rows (v : View sig κ sp (⟨3, ![1, 5120, n]⟩ : Shape) e) (f : v.ty.Contents Val)
    (il : ∀ a, (![0, 0, 0] : Fin 3 → ℕ) a + (⟨3, ![1, 5000, n]⟩ : Shape).size a ≤ (⟨3, ![1, 5120, n]⟩ : Shape).size a)
    (ih : ∀ a, (![0, 5000, 0] : Fin 3 → ℕ) a + (⟨3, ![1, 120, n]⟩ : Shape).size a ≤ (⟨3, ![1, 5120, n]⟩ : Shape).size a)
    (p : (⟨3, ![1, 5000, n]⟩ : Shape).Idx → Val e) (q : (⟨3, ![1, 120, n]⟩ : Shape).Idx → Val e) :
    v.read Val (v.writes Val f [⟨Rect.unit (s := ⟨3, ![1, 5120, n]⟩) ![0, 5000, 0] (⟨3, ![1, 120, n]⟩ : Shape).size ih, q⟩,
      ⟨Rect.unit (s := ⟨3, ![1, 5120, n]⟩) ![0, 0, 0] (⟨3, ![1, 5000, n]⟩ : Shape).size il, p⟩]) = rows p q := by
  funext x
  unfold rows
  split
  · next hx =>
    refine (View.read_writes_cons_miss v f _ _ x fun hm => ?_).trans ?_
    · obtain ⟨y, rfl⟩ := (Rect.unit (s := ⟨3, ![1, 5120, n]⟩) ![0, 5000, 0] (⟨3, ![1, 120, n]⟩ : Shape).size ih).exists_idx_of_mem hm
      have : 5000 + 1 * (y 1).val < 5000 := hx
      omega
    · have e : (Rect.unit (s := ⟨3, ![1, 5120, n]⟩) ![0, 0, 0] (⟨3, ![1, 5000, n]⟩ : Shape).size il).emb (low x hx) = x := by
        funext a
        apply Fin.ext
        fin_cases a
        · have : (x 0).val < 1 := (x 0).isLt
          show 0 + 1 * 0 = (x 0).val
          omega
        · show 0 + 1 * (x 1).val = (x 1).val
          omega
        · show 0 + 1 * (x 2).val = (x 2).val
          omega
      have := View.read_writes_cons_emb v f (Rect.unit (s := ⟨3, ![1, 5120, n]⟩) ![0, 0, 0] (⟨3, ![1, 5000, n]⟩ : Shape).size il) p [] (low x hx)
      rwa [e] at this
  · next hx =>
    have e : (Rect.unit (s := ⟨3, ![1, 5120, n]⟩) ![0, 5000, 0] (⟨3, ![1, 120, n]⟩ : Shape).size ih).emb (high x hx) = x := by
      funext a
      apply Fin.ext
      fin_cases a
      · have : (x 0).val < 1 := (x 0).isLt
        show 0 + 1 * 0 = (x 0).val
        omega
      · show 5000 + 1 * ((x 1).val - 5000) = (x 1).val
        omega
      · show 0 + 1 * (x 2).val = (x 2).val
        omega
    have := View.read_writes_cons_emb v f (Rect.unit (s := ⟨3, ![1, 5120, n]⟩) ![0, 5000, 0] (⟨3, ![1, 120, n]⟩ : Shape).size ih) q
      [⟨Rect.unit (s := ⟨3, ![1, 5120, n]⟩) ![0, 0, 0] (⟨3, ![1, 5000, n]⟩ : Shape).size il, p⟩] (high x hx)
    rwa [e] at this

end Views

variable {F : FTy → Type} [FloatOps F] [Named F] {U : Type} [URA U]

local notation "𝕄" => MT nD τ sig Unit (Elt F) ℕ U ℕ

/-- The whole of a rank-3 buffer, as the body loads it. -/
abbrev all3 {s : Shape} {α : Type} {o : Fin s.rank → ℕ} (X : s.Idx → α) (h : ∀ a, o a + s.size a ≤ s.size a) : s.Idx → α :=
  fun x => X ((Rect.unit (s := s) o s.size h).idx x)

/-- A head's projected features. -/
def outH (x : Vec F S5000x128 .f32) (w : Vec F S1x128x128 .f32) : FVec F S1x5120x128 .f32 :=
  rows (k0_pay5 (all2 x inb_S5000x128_S5000x128_0_0) (all3 w inb_S1x128x128_S1x128x128_0_0_0)) k0_pay8

/-- A head's row scores. -/
def outF1 (x : Vec F S5000x128 .f32) (w : Vec F S1x128x128 .f32) (a : Vec F S1x128x1 .f32) : FVec F S1x5120x1 .f32 :=
  rows (k0_pay6 (all2 x inb_S5000x128_S5000x128_0_0) (all3 w inb_S1x128x128_S1x128x128_0_0_0) (all3 a inb_S1x128x1_S1x128x1_0_0_0)) (k0_pay1 k0_pay9)

/-- A head's column scores. -/
def outF2 (x : Vec F S5000x128 .f32) (w : Vec F S1x128x128 .f32) (a : Vec F S1x128x1 .f32) : FVec F S1x5120x1 .f32 :=
  rows (k0_pay7 (all2 x inb_S5000x128_S5000x128_0_0) (all3 w inb_S1x128x128_S1x128x128_0_0_0) (all3 a inb_S1x128x1_S1x128x1_0_0_0)) k0_pay2

/-- The relations' scores. -/
def outS (r : Vec F S8x128 .f32) (e : Vec F S128x16 .f32) : FVec F S8x16 .f32 :=
  k0_pay3 (all2 r inb_S8x128_S8x128_0_0) (all2 e inb_S128x16_S128x16_0_0)

set_option maxHeartbeats 2000000 in
/-- The body's triple. -/
theorem body (c : Dev nD) (E : Set ℕ) (i : grid0.Coords)
    (arg1 : Memref sig .tc .vmem S5000x128 .f32) (harg1 : arg1.IsWhole) (arg2 : Memref sig .tc .vmem S1x128x128 .f32) (harg2 : arg2.IsWhole)
    (arg3 : Memref sig .tc .vmem S1x128x1 .f32) (harg3 : arg3.IsWhole) (arg4 : Memref sig .tc .vmem S1x128x1 .f32) (harg4 : arg4.IsWhole)
    (arg5 : Memref sig .tc .vmem S8x128 .f32) (harg5 : arg5.IsWhole) (arg6 : Memref sig .tc .vmem S128x16 .f32) (harg6 : arg6.IsWhole)
    (arg7 : Memref sig .tc .vmem S1x5120x128 .f32) (harg7 : arg7.IsWhole) (arg8 : Memref sig .tc .vmem S1x5120x1 .f32) (harg8 : arg8.IsWhole)
    (arg9 : Memref sig .tc .vmem S1x5120x1 .f32) (harg9 : arg9.IsWhole) (arg10 : Memref sig .tc .vmem S8x16 .f32) (harg10 : arg10.IsWhole)
    (x : Vec F S5000x128 .f32) (w : Vec F S1x128x128 .f32) (a1 a2 : Vec F S1x128x1 .f32) (r : Vec F S8x128 .f32) (e : Vec F S128x16 .f32)
    (d7 : Vec F S1x5120x128 .f32) (d8 d9 : Vec F S1x5120x1 .f32) (d10 : Vec F S8x16 .f32) (K : PUnit → sProp 𝕄) :
    iprop(owns (c : Thread nD τ) arg1 fullShare x ∗ owns (c : Thread nD τ) arg2 fullShare w ∗ owns (c : Thread nD τ) arg3 fullShare a1
        ∗ owns (c : Thread nD τ) arg4 fullShare a2 ∗ owns (c : Thread nD τ) arg5 fullShare r ∗ owns (c : Thread nD τ) arg6 fullShare e
        ∗ owns (c : Thread nD τ) arg7 fullShare d7 ∗ owns (c : Thread nD τ) arg8 fullShare d8 ∗ owns (c : Thread nD τ) arg9 fullShare d9
        ∗ owns (c : Thread nD τ) arg10 fullShare d10
        ∗ (iprop(owns (c : Thread nD τ) arg1 fullShare x ∗ owns (c : Thread nD τ) arg2 fullShare w ∗ owns (c : Thread nD τ) arg3 fullShare a1
          ∗ owns (c : Thread nD τ) arg4 fullShare a2 ∗ owns (c : Thread nD τ) arg5 fullShare r ∗ owns (c : Thread nD τ) arg6 fullShare e
          ∗ owns (c : Thread nD τ) arg7 fullShare (outH x w) ∗ owns (c : Thread nD τ) arg8 fullShare (outF1 x w a1)
          ∗ owns (c : Thread nD τ) arg9 fullShare (outF2 x w a2) ∗ owns (c : Thread nD τ) arg10 fullShare (outS r e)) -∗ K ⟨⟩))
      ⊢ wp frame (wpE (defs₀ (F := F)) Variants.none c none) E
        (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  simp only [k0_part1_eq_skeleton]
  unfold owns
  iintro ⟨⟨%g1, %hf1, H1⟩, ⟨%g2, %hf2, H2⟩, ⟨%g3, %hf3, H3⟩, ⟨%g4, %hf4, H4⟩, ⟨%g5, %hf5, H5⟩, ⟨%g6, %hf6, H6⟩, ⟨%g7, %hf7, H7⟩, ⟨%g8, %hf8, H8⟩,
    ⟨%g9, %hf9, H9⟩, ⟨%g10, %hf10, H10⟩, Hk⟩
  subst hf1 hf2 hf3 hf4 hf5 hf6 hf7 hf8 hf9 hf10
  sl_exec
  sl_step
  iapply Hk
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro; rfl
  isplitl [H6]
  · iexists _; isplitr; swap; iexact H6; ipureintro; rfl
  isplitl [H7]
  · iexists _; isplitr; swap; iexact H7; ipureintro
    exact read_rows _ _ _ _ _ _
  isplitl [H8]
  · iexists _; isplitr; swap; iexact H8; ipureintro
    exact read_rows _ _ _ _ _ _
  isplitl [H9]
  · iexists _; isplitr; swap; iexact H9; ipureintro
    exact read_rows _ _ _ _ _ _
  · iexists _; isplitr; swap; iexact H10; ipureintro
    exact View.read_writes_full _ _ _ _ _

end Cert.Proof.Zero

end
-- ==== Proof.Data0.lean ====
/-
  The projection region's data: at each head the outputs are the kernel's values of the blocks the region is entered with.
-/
module

public import proofs.«01_k».proof.Proof.Data
public import proofs.«01_k».proof.Proof.Body0
public import proofs.«01_k».proof.Proof.Gen.KernelIdeal.Points

@[expose] public section

set_option maxRecDepth 16384

noncomputable section

namespace Cert.Proof.Zero

open Idealize.ShloMosaic Idealize.ShloMosaic.TcCoe
open Idealize.SL Idealize.SL.RA
open Idealize.SL.BI (sProp bigSep bigSep_congr bigSep_mono bigSep_sep')
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F] [Named F]

local notation "𝕄" => MT nD τ sig Unit (Elt F) ℕ UU ℕ

variable (W : Valuation τ sig (Elt F)) (c : Dev nD)

/-- The block of window `w` at head `t`, of the contents the region is entered at. -/
def blk (w : Fin cfg0.W) (t : Fin cfg0.N) : ((cfg0.win w).xblock (cfg0.grid.coords t)).Idx → Elt F (cfg0.win w).elt :=
  ((cfg0.win w).blk t).view.read (Elt F) (W (Proc.devRef .tc (arrRef spec0 w)))

/-- The region's data. -/
def dat : Dat τ (Elt F) Unit ℕ UU ℕ cfg0 c :=
  still cfg0 c (fun w => W (Proc.devRef .tc (arrRef spec0 w))) (fun _ => scopedRest spec0 c)

theorem share (w : Fin cfg0.W) : (dat W c).share w = fullShare := still_share cfg0 c _ _ w

/-- The output windows are told by a predicate. -/
def marks (w : Fin 10) : Bool := decide (6 ≤ w.val)

/-- What is left in an output window at head `t`. -/
def Rl (w : Fin cfg0.W) (t : Fin cfg0.N) : ((cfg0.win w).block.Idx → Elt F (cfg0.win w).elt) → Prop :=
  match w with
  | 6 => fun X => X = outH (blk W 0 t) (blk W 1 t)
  | 7 => fun X => X = outF1 (blk W 0 t) (blk W 1 t) (blk W 2 t)
  | 8 => fun X => X = outF2 (blk W 0 t) (blk W 1 t) (blk W 3 t)
  | 9 => fun X => X = outS (blk W 4 t) (blk W 5 t)
  | _ => fun _ => True

theorem before_eq (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (t : Fin cfg0.N) (d) : (dat W c).before w t d = (cfg0.win w).fill (cfg0.grid.coords t) d (blk W w t) :=
  (dat W c).before_in_eq_fetched w hw hlive hclip (fun _ => (cfg0.win w).cut_fill _ _ _) t d

theorem before0 (t : Fin cfg0.N) (d) : (dat W c).before 0 t d = blk W 0 t := before_eq W c 0 rfl (fun _ => rfl) (fun _ _ _ => rfl) t d
theorem before1 (t : Fin cfg0.N) (d) : (dat W c).before 1 t d = blk W 1 t := before_eq W c 1 rfl (fun _ => rfl) (fun _ _ _ => rfl) t d
theorem before2 (t : Fin cfg0.N) (d) : (dat W c).before 2 t d = blk W 2 t := before_eq W c 2 rfl (fun _ => rfl) (fun _ _ _ => rfl) t d
theorem before3 (t : Fin cfg0.N) (d) : (dat W c).before 3 t d = blk W 3 t := before_eq W c 3 rfl (fun _ => rfl) (fun _ _ _ => rfl) t d
theorem before4 (t : Fin cfg0.N) (d) : (dat W c).before 4 t d = blk W 4 t := before_eq W c 4 rfl (fun _ => rfl) (fun _ _ _ => rfl) t d
theorem before5 (t : Fin cfg0.N) (d) : (dat W c).before 5 t d = blk W 5 t := before_eq W c 5 rfl (fun _ => rfl) (fun _ _ _ => rfl) t d

/-- What the body is handed. -/
def pre (t : Fin cfg0.N) : sProp 𝕄 :=
  iprop(scopedRest spec0 c ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d))
    ∗ (∃ d, owns (c : Thread nD τ) (st0_5 t) fullShare ((dat W c).before 5 t d))
    ∗ (∃ Y, ⌜((dat W c).toRRel marks (Rl W)).Finds 6 t Y⌝ ∗ owns (c : Thread nD τ) (st0_6 t) fullShare Y)
    ∗ (∃ Y, ⌜((dat W c).toRRel marks (Rl W)).Finds 7 t Y⌝ ∗ owns (c : Thread nD τ) (st0_7 t) fullShare Y)
    ∗ (∃ Y, ⌜((dat W c).toRRel marks (Rl W)).Finds 8 t Y⌝ ∗ owns (c : Thread nD τ) (st0_8 t) fullShare Y)
    ∗ (∃ Y, ⌜((dat W c).toRRel marks (Rl W)).Finds 9 t Y⌝ ∗ owns (c : Thread nD τ) (st0_9 t) fullShare Y))

/-- What it leaves. -/
def post (t : Fin cfg0.N) : sProp 𝕄 :=
  iprop(scopedRest spec0 c ∗ (dat W c).owesAt () t.succ
    ∗ owns (c : Thread nD τ) (st0_0 t) fullShare (blk W 0 t)
    ∗ owns (c : Thread nD τ) (st0_1 t) fullShare (blk W 1 t)
    ∗ owns (c : Thread nD τ) (st0_2 t) fullShare (blk W 2 t)
    ∗ owns (c : Thread nD τ) (st0_3 t) fullShare (blk W 3 t)
    ∗ owns (c : Thread nD τ) (st0_4 t) fullShare (blk W 4 t)
    ∗ owns (c : Thread nD τ) (st0_5 t) fullShare (blk W 5 t)
    ∗ (∃ X, ⌜Rl W 6 t X⌝ ∗ owns (c : Thread nD τ) (st0_6 t) fullShare X)
    ∗ (∃ X, ⌜Rl W 7 t X⌝ ∗ owns (c : Thread nD τ) (st0_7 t) fullShare X)
    ∗ (∃ X, ⌜Rl W 8 t X⌝ ∗ owns (c : Thread nD τ) (st0_8 t) fullShare X)
    ∗ (∃ X, ⌜Rl W 9 t X⌝ ∗ owns (c : Thread nD τ) (st0_9 t) fullShare X))

theorem sound (t : Fin cfg0.N) :
    pre W c t ⊢ wp frame (wpE (defs₀ (F := F)) Variants.none c none) Set.univ (bodyAt0 t) (fun _ => post W c t) := by
  unfold pre post bodyAt0
  simp only [before0, before1, before2, before3, before4, before5]
  rw [show (dat W c).owesAt () t.succ = (dat W c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%Y6, -, H6⟩, ⟨%Y7, -, H7⟩, ⟨%Y8, -, H8⟩, ⟨%Y9, -, H9⟩⟩
  iapply (body c Set.univ (grid0.coords t) _ _ _ _ _ _ _ _ _ _ _ _ _ _ _ _ _ _ _ _
    (blk W 0 t) (blk W 1 t) (blk W 2 t) (blk W 3 t) (blk W 4 t) (blk W 5 t) Y6 Y7 Y8 Y9 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; iexact H6; ipureintro; exact rfl
  isplitl [H7]
  · iexists _; isplitr; swap; iexact H7; ipureintro; exact rfl
  isplitl [H8]
  · iexists _; isplitr; swap; iexact H8; ipureintro; exact rfl
  iexists _; isplitr; swap; iexact H9; ipureintro; exact rfl

theorem row (t : Fin cfg0.N) : (defs₀ (F := F)) .tc cfg0.body (cfg0.bodyArgs t (cfg0.slots t)) = bodyAt0 t := by
  unfold defs₀; rw [Defs.onTc_tc]

theorem obligation : BodyObligationRel (dat W c) (defs₀ (F := F)) Variants.none () Set.univ marks (Rl W) := fun t => by
  rw [bigSep_W0, bigSep_W0, row]
  exact triple_restated (sound W c t) rfl .rfl fun _ => .rfl

theorem enters : (scopedRest spec0 c : sProp 𝕄) ⊢ (dat W c).Φ 0 := by unfold dat; exact .rfl
theorem leaves : (dat W c).Φ (Fin.last cfg0.N) ⊢ (scopedRest spec0 c : sProp 𝕄) := by unfold dat; exact .rfl

end Cert.Proof.Zero
-- ==== Proof.Body1.lean ====
/-
  What the first attention kernel does at one point of its grid, for whole staging buffers at any contents: for each of
  the four heads, the running maximum, sum and accumulator are folded over the column block (reset first at the first
  block); the last block writes the row block of the second layer's hidden array and its row and column terms.
-/
module

public import proofs.«01_k».proof.Proof.Block
public import proofs.«01_k».proof.Proof.Gen.KernelIdeal.Launch
public import Idealize.ShloMosaic.Lib.Exec
public import Idealize.ShloMosaic.Lib.Pipeline.Value
public import Idealize.ShloMosaic.Lib.Tactic

@[expose] public section

set_option maxRecDepth 16384

noncomputable section

namespace Cert.Proof.One

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F] [Named F]

/-- The four heads' copies of the score are the one score. -/
theorem score0 (b : FVec F S1x512 .f32) (k b0 b1 b2 b3 : IVec S256x512 1) (f : FVec F S256x1 .f32) (g : FVec F S1x512 .f32)
    (s0 s1 s2 s3 s4 s5 s6 s7 s8 s9 s10 s11 s12 s13 s14 s15 : Vec F S1x1 .f32) :
    k1_pay32 b k b0 b1 b2 b3 f g (k1_pay21 s0) (k1_pay22 s1) (k1_pay23 s2) (k1_pay24 s3) (k1_pay25 s4) (k1_pay26 s5) (k1_pay27 s6) (k1_pay28 s7) (k1_pay29 s8) (k1_pay30 s9) (k1_pay31 s10) s11 s12 s13 s14 s15
      = k2_pay27 b k b0 b1 b2 b3 (k2_pay13 s0) (k2_pay13 s1) (k2_pay13 s2) (k2_pay13 s3) (k2_pay13 s4) (k2_pay13 s5) (k2_pay13 s6) (k2_pay13 s7) (k2_pay13 s8) (k2_pay13 s9) (k2_pay13 s10) (k2_pay13 s11) (k2_pay13 s12) (k2_pay13 s13) s14 s15 f g := by
  refine Eq.trans (b := k1_pay32 b k b0 b1 b2 b3 (shapeCast S256x1 f shapeCasts_S256x1_S256x1) (shapeCast S1x512 g shapeCasts_S1x512_S1x512)
    (k1_pay21 s0) (k1_pay22 s1) (k1_pay23 s2) (k1_pay24 s3) (k1_pay25 s4) (k1_pay26 s5) (k1_pay27 s6) (k1_pay28 s7) (k1_pay29 s8) (k1_pay30 s9) (k1_pay31 s10) s11 s12 s13 s14 s15) ?_ rfl
  rw [shapeCast_self, shapeCast_self]
theorem score1 (b : FVec F S1x512 .f32) (k b0 b1 b2 b3 : IVec S256x512 1) (f : FVec F S256x1 .f32) (g : FVec F S1x512 .f32)
    (s0 s1 s2 s3 s4 s5 s6 s7 s8 s9 s10 s11 s12 s13 s14 s15 : Vec F S1x1 .f32) :
    k1_pay55 b k b0 b1 b2 b3 f g (k1_pay43 s0) (k1_pay44 s1) (k1_pay45 s2) (k1_pay46 s3) (k1_pay47 s4) (k1_pay48 s5) (k1_pay49 s6) (k1_pay50 s7) (k1_pay51 s8) (k1_pay52 s9) (k1_pay53 s10) (k1_pay54 s11) s12 s13 s14 s15
      = k2_pay27 b k b0 b1 b2 b3 (k2_pay13 s0) (k2_pay13 s1) (k2_pay13 s2) (k2_pay13 s3) (k2_pay13 s4) (k2_pay13 s5) (k2_pay13 s6) (k2_pay13 s7) (k2_pay13 s8) (k2_pay13 s9) (k2_pay13 s10) (k2_pay13 s11) (k2_pay13 s12) (k2_pay13 s13) s14 s15 f g := by
  refine Eq.trans (b := k1_pay55 b k b0 b1 b2 b3 (shapeCast S256x1 f shapeCasts_S256x1_S256x1) (shapeCast S1x512 g shapeCasts_S1x512_S1x512)
    (k1_pay43 s0) (k1_pay44 s1) (k1_pay45 s2) (k1_pay46 s3) (k1_pay47 s4) (k1_pay48 s5) (k1_pay49 s6) (k1_pay50 s7) (k1_pay51 s8) (k1_pay52 s9) (k1_pay53 s10) (k1_pay54 s11) s12 s13 s14 s15) ?_ rfl
  rw [shapeCast_self, shapeCast_self]
theorem score2 (b : FVec F S1x512 .f32) (k b0 b1 b2 b3 : IVec S256x512 1) (f : FVec F S256x1 .f32) (g : FVec F S1x512 .f32)
    (s0 s1 s2 s3 s4 s5 s6 s7 s8 s9 s10 s11 s12 s13 s14 s15 : Vec F S1x1 .f32) :
    k1_pay78 b k b0 b1 b2 b3 f g (k1_pay66 s0) (k1_pay67 s1) (k1_pay68 s2) (k1_pay69 s3) (k1_pay70 s4) (k1_pay71 s5) (k1_pay72 s6) (k1_pay73 s7) (k1_pay74 s8) (k1_pay75 s9) (k1_pay76 s10) (k1_pay77 s11) s12 s13 s14 s15
      = k2_pay27 b k b0 b1 b2 b3 (k2_pay13 s0) (k2_pay13 s1) (k2_pay13 s2) (k2_pay13 s3) (k2_pay13 s4) (k2_pay13 s5) (k2_pay13 s6) (k2_pay13 s7) (k2_pay13 s8) (k2_pay13 s9) (k2_pay13 s10) (k2_pay13 s11) (k2_pay13 s12) (k2_pay13 s13) s14 s15 f g := by
  refine Eq.trans (b := k1_pay78 b k b0 b1 b2 b3 (shapeCast S256x1 f shapeCasts_S256x1_S256x1) (shapeCast S1x512 g shapeCasts_S1x512_S1x512)
    (k1_pay66 s0) (k1_pay67 s1) (k1_pay68 s2) (k1_pay69 s3) (k1_pay70 s4) (k1_pay71 s5) (k1_pay72 s6) (k1_pay73 s7) (k1_pay74 s8) (k1_pay75 s9) (k1_pay76 s10) (k1_pay77 s11) s12 s13 s14 s15) ?_ rfl
  rw [shapeCast_self, shapeCast_self]
theorem score3 (b : FVec F S1x512 .f32) (k b0 b1 b2 b3 : IVec S256x512 1) (f : FVec F S256x1 .f32) (g : FVec F S1x512 .f32)
    (s0 s1 s2 s3 s4 s5 s6 s7 s8 s9 s10 s11 s12 s13 s14 s15 : Vec F S1x1 .f32) :
    k1_pay102 b k b0 b1 b2 b3 f g (k1_pay89 s0) (k1_pay90 s1) (k1_pay91 s2) (k1_pay92 s3) (k1_pay93 s4) (k1_pay94 s5) (k1_pay95 s6) (k1_pay96 s7) (k1_pay97 s8) (k1_pay98 s9) (k1_pay99 s10) (k1_pay100 s11) (k1_pay101 s12) s13 s14 s15
      = k2_pay27 b k b0 b1 b2 b3 (k2_pay13 s0) (k2_pay13 s1) (k2_pay13 s2) (k2_pay13 s3) (k2_pay13 s4) (k2_pay13 s5) (k2_pay13 s6) (k2_pay13 s7) (k2_pay13 s8) (k2_pay13 s9) (k2_pay13 s10) (k2_pay13 s11) (k2_pay13 s12) (k2_pay13 s13) s14 s15 f g := by
  refine Eq.trans (b := k1_pay102 b k b0 b1 b2 b3 (shapeCast S256x1 f shapeCasts_S256x1_S256x1) (shapeCast S1x512 g shapeCasts_S1x512_S1x512)
    (k1_pay89 s0) (k1_pay90 s1) (k1_pay91 s2) (k1_pay92 s3) (k1_pay93 s4) (k1_pay94 s5) (k1_pay95 s6) (k1_pay96 s7) (k1_pay97 s8) (k1_pay98 s9) (k1_pay99 s10) (k1_pay100 s11) (k1_pay101 s12) s13 s14 s15) ?_ rfl
  rw [shapeCast_self, shapeCast_self]

/-- The four heads' copies of the fold are the one fold. -/
theorem foldM0 (e : FVec F S256x512 .f32) (m : Vec F S1x256x1 .f32) : k1_pay39 e m = k2_pay34 e m := rfl
theorem foldM1 (e : FVec F S256x512 .f32) (m : Vec F S1x256x1 .f32) : k1_pay62 e m = k2_pay34 e m := rfl
theorem foldM2 (e : FVec F S256x512 .f32) (m : Vec F S1x256x1 .f32) : k1_pay85 e (k1_pay79 m) = k2_pay34 e m := rfl
theorem foldM3 (e : FVec F S256x512 .f32) (m : Vec F S1x256x1 .f32) : k1_pay109 e (k1_pay103 m) = k2_pay34 e m := rfl
theorem foldL0 (e : FVec F S256x512 .f32) (m l : Vec F S1x256x1 .f32) : k1_pay38 e m l = k2_pay33 e m l := rfl
theorem foldL1 (e : FVec F S256x512 .f32) (m l : Vec F S1x256x1 .f32) : k1_pay61 e m l = k2_pay33 e m l := rfl
theorem foldL2 (e : FVec F S256x512 .f32) (m l : Vec F S1x256x1 .f32) : k1_pay84 e (k1_pay79 m) l = k2_pay33 e m l := rfl
theorem foldL3 (e : FVec F S256x512 .f32) (m l : Vec F S1x256x1 .f32) : k1_pay108 e (k1_pay103 m) l = k2_pay33 e m l := rfl
theorem foldA0 (X : FVec F S512x128 .f32) (e : FVec F S256x512 .f32) (m : Vec F S1x256x1 .f32) (a : Vec F S1x256x128 .f32) :
    k1_pay37 X e m a = k2_pay32 X e m a := rfl
theorem foldA1 (X : FVec F S512x128 .f32) (e : FVec F S256x512 .f32) (m : Vec F S1x256x1 .f32) (a : Vec F S1x256x128 .f32) :
    k1_pay60 X e m a = k2_pay32 X e m a := rfl
theorem foldA2 (X : FVec F S512x128 .f32) (e : FVec F S256x512 .f32) (m : Vec F S1x256x1 .f32) (a : Vec F S1x256x128 .f32) :
    k1_pay83 X e (k1_pay79 m) a = k2_pay32 X e m a := rfl
theorem foldA3 (X : FVec F S512x128 .f32) (e : FVec F S256x512 .f32) (m : Vec F S1x256x1 .f32) (a : Vec F S1x256x128 .f32) :
    k1_pay107 X e (k1_pay103 m) a = k2_pay32 X e m a := rfl

/-- Head `h`'s row terms: one column of the block of row terms. -/
def rowTerm (f1 : Vec F S4x256x1 .f32) (h : Fin 4) : FVec F S256x1 .f32 := k1_pay19 (View.ld f1 (headRect h 256 1))
/-- Head `h`'s column terms. -/
def colTerm (f2 : Vec F S4x1x512 .f32) (h : Fin 4) : FVec F S1x512 .f32 := k1_pay20 (View.ld f2 (headRect h 1 512))

/-- Head `h`'s masked scores of one block. -/
def eblk (i : grid1.Coords) (adj ids : Vec F S256x512 .i32) (f1 : Vec F S4x256x1 .f32) (f2 : Vec F S4x1x512 .f32)
    (sc : Vec F S8x16 .f32) (h : Fin 4) : FVec F S256x512 .f32 :=
  scores i (h.castLE (by decide)) adj ids (rowTerm f1 h) (colTerm f2 h) sc

/-- Head `h`'s 512 rows of the hidden array the point's column block meets. -/
def hblk (i : grid1.Coords) (X : Vec F S4x5120x128 .f32) : Fin 4 → FVec F S512x128 .f32
  | 0 => k1_pay18 (View.ld X (Rect.unit (s := S4x5120x128) (k1_off1 i) S1x512x128.size (k1_off1_inb i)))
  | 1 => k1_pay18 (View.ld X (Rect.unit (s := S4x5120x128) (k1_off2 i) S1x512x128.size (k1_off2_inb i)))
  | 2 => k1_pay18 (View.ld X (Rect.unit (s := S4x5120x128) (k1_off3 i) S1x512x128.size (k1_off3_inb i)))
  | 3 => k1_pay18 (View.ld X (Rect.unit (s := S4x5120x128) (k1_off4 i) S1x512x128.size (k1_off4_inb i)))

/-- The running maxima a point starts from. -/
def startM (i : grid1.Coords) (m : Vec F S4x256x1 .f32) : Vec F S4x256x1 .f32 :=
  if isFirst i = 1#1 then k1_pay8 (F := F) else m
/-- The running sums a point starts from. -/
def startL (i : grid1.Coords) (l : Vec F S4x256x1 .f32) : Vec F S4x256x1 .f32 :=
  if isFirst i = 1#1 then k1_pay9 (F := F) else l
/-- The accumulators a point starts from. -/
def startA (i : grid1.Coords) (a : Vec F S4x256x128 .f32) : Vec F S4x256x128 .f32 :=
  if isFirst i = 1#1 then k1_pay10 (F := F) else a

/-- The running maxima after a point. -/
def newM (i : grid1.Coords) (adj ids : Vec F S256x512 .i32) (f1 : Vec F S4x256x1 .f32) (f2 : Vec F S4x1x512 .f32)
    (sc : Vec F S8x16 .f32) (m : Vec F S4x256x1 .f32) : Vec F S4x256x1 .f32 :=
  stack fun h => k2_pay34 (eblk i adj ids f1 f2 sc h) (slice h (startM i m))
/-- The running sums after a point. -/
def newL (i : grid1.Coords) (adj ids : Vec F S256x512 .i32) (f1 : Vec F S4x256x1 .f32) (f2 : Vec F S4x1x512 .f32)
    (sc : Vec F S8x16 .f32) (m l : Vec F S4x256x1 .f32) : Vec F S4x256x1 .f32 :=
  stack fun h => k2_pay33 (eblk i adj ids f1 f2 sc h) (slice h (startM i m)) (slice h (startL i l))
/-- The accumulators after a point. -/
def newA (i : grid1.Coords) (adj ids : Vec F S256x512 .i32) (X : Vec F S4x5120x128 .f32) (f1 : Vec F S4x256x1 .f32) (f2 : Vec F S4x1x512 .f32)
    (sc : Vec F S8x16 .f32) (m : Vec F S4x256x1 .f32) (a : Vec F S4x256x128 .f32) : Vec F S4x256x128 .f32 :=
  stack fun h => k2_pay32 (hblk i X h) (eblk i adj ids f1 f2 sc h) (slice h (startM i m)) (slice h (startA i a))

/-- The row block of the second layer's hidden array, from the sums and accumulators of the four heads. -/
def outH (i : grid1.Coords) (l : Vec F S4x256x1 .f32) (a : Vec F S4x256x128 .f32) (wo : Vec F S128x128 .f32) : FVec F S256x128 .f32 :=
  k1_pay6 (BitVec.ofNat 32 (i 0).val) (k1_pay2 (slice 0 a) (slice 0 l) (slice 1 a) (slice 1 l)) (k1_pay3 (slice 2 a) (slice 2 l))
    (k1_pay4 (slice 2 a) (slice 2 l)) (k1_pay5 (slice 2 a) (slice 2 l)) (slice 3 a) (slice 3 l) (all2 wo inb_S128x128_S128x128_0_0)

/-- A row or column term of the second layer, from a row block of its hidden array. -/
def outF (h : FVec F S256x128 .f32) (a1 : Vec F S128x1 .f32) : FVec F S256x1 .f32 :=
  k1_pay1 h (all2 a1 inb_S128x1_S128x1_0_0)

variable {U : Type} [URA U]

local notation "𝕄" => MT nD τ sig Unit (Elt F) ℕ U ℕ

set_option maxHeartbeats 2000000 in
/-- All of the body but its end: the scratch buffers go from `m`, `l`, `a` to their folds over the block. -/
theorem fold (c : Dev nD) (E : Set ℕ) (i : grid1.Coords)
    (arg2 : Memref sig .tc .vmem S256x512 .i32) (harg2 : arg2.IsWhole) (arg3 : Memref sig .tc .vmem S256x512 .i32) (harg3 : arg3.IsWhole)
    (arg4 : Memref sig .tc .vmem S4x5120x128 .f32) (harg4 : arg4.IsWhole) (arg5 : Memref sig .tc .vmem S4x256x1 .f32) (harg5 : arg5.IsWhole)
    (arg6 : Memref sig .tc .vmem S4x1x512 .f32) (harg6 : arg6.IsWhole) (arg7 : Memref sig .tc .vmem S8x16 .f32) (harg7 : arg7.IsWhole)
    (arg8 : Memref sig .tc .vmem S128x128 .f32) (harg8 : arg8.IsWhole) (arg9 : Memref sig .tc .vmem S128x1 .f32) (harg9 : arg9.IsWhole)
    (arg10 : Memref sig .tc .vmem S128x1 .f32) (harg10 : arg10.IsWhole) (arg11 : Memref sig .tc .vmem S256x128 .f32) (harg11 : arg11.IsWhole)
    (arg12 : Memref sig .tc .vmem S256x1 .f32) (harg12 : arg12.IsWhole) (arg13 : Memref sig .tc .vmem S256x1 .f32) (harg13 : arg13.IsWhole)
    (arg14 : Memref sig .tc .vmem S4x256x1 .f32) (harg14 : arg14.IsWhole) (arg15 : Memref sig .tc .vmem S4x256x1 .f32) (harg15 : arg15.IsWhole)
    (arg16 : Memref sig .tc .vmem S4x256x128 .f32) (harg16 : arg16.IsWhole)
    (adj : Vec F S256x512 .i32) (ids : Vec F S256x512 .i32) (h : Vec F S4x5120x128 .f32) (f1 : Vec F S4x256x1 .f32) (f2 : Vec F S4x1x512 .f32) (sc : Vec F S8x16 .f32) (m : Vec F S4x256x1 .f32) (l : Vec F S4x256x1 .f32) (a : Vec F S4x256x128 .f32)
    (K : (Σ' (arg0 : BitVec 32), BitVec 32) → sProp 𝕄) :
    iprop(owns (c : Thread nD τ) arg2 fullShare adj
        ∗ owns (c : Thread nD τ) arg3 fullShare ids
        ∗ owns (c : Thread nD τ) arg4 fullShare h
        ∗ owns (c : Thread nD τ) arg5 fullShare f1
        ∗ owns (c : Thread nD τ) arg6 fullShare f2
        ∗ owns (c : Thread nD τ) arg7 fullShare sc
        ∗ owns (c : Thread nD τ) arg14 fullShare m
        ∗ owns (c : Thread nD τ) arg15 fullShare l
        ∗ owns (c : Thread nD τ) arg16 fullShare a
        ∗ (iprop(owns (c : Thread nD τ) arg2 fullShare adj
          ∗ owns (c : Thread nD τ) arg3 fullShare ids
          ∗ owns (c : Thread nD τ) arg4 fullShare h
          ∗ owns (c : Thread nD τ) arg5 fullShare f1
          ∗ owns (c : Thread nD τ) arg6 fullShare f2
          ∗ owns (c : Thread nD τ) arg7 fullShare sc
          ∗ owns (c : Thread nD τ) arg14 fullShare (newM i adj ids f1 f2 sc m)
          ∗ owns (c : Thread nD τ) arg15 fullShare (newL i adj ids f1 f2 sc m l)
          ∗ owns (c : Thread nD τ) arg16 fullShare (newA i adj ids h f1 f2 sc m a)) -∗ K ⟨BitVec.ofNat 32 (i 0).val, BitVec.ofNat 32 (i 1).val⟩))
      ⊢ wp frame (wpE (defs₀ (F := F)) Variants.none c none) E
        (k1_part15 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton]
  unfold k1_part15_skel
  unfold owns
  iintro ⟨⟨%g2, %hf2, H2⟩, ⟨%g3, %hf3, H3⟩, ⟨%g4, %hf4, H4⟩, ⟨%g5, %hf5, H5⟩, ⟨%g6, %hf6, H6⟩, ⟨%g7, %hf7, H7⟩, ⟨%g14, %hf14, H14⟩, ⟨%g15, %hf15, H15⟩, ⟨%g16, %hf16, H16⟩, Hk⟩
  subst hf2 hf3 hf4 hf5 hf6 hf7 hf14 hf15 hf16
  rcases Classical.em (isFirst i = 1#1) with h1 | h1
  all_goals
    sl_exec
    sl_step
    iapply Hk
    isplitl [H2]
    · iexists _; isplitr; swap; iexact H2; ipureintro; rfl
    isplitl [H3]
    · iexists _; isplitr; swap; iexact H3; ipureintro; rfl
    isplitl [H4]
    · iexists _; isplitr; swap; iexact H4; ipureintro; rfl
    isplitl [H5]
    · iexists _; isplitr; swap; iexact H5; ipureintro; rfl
    isplitl [H6]
    · iexists _; isplitr; swap; iexact H6; ipureintro; rfl
    isplitl [H7]
    · iexists _; isplitr; swap; iexact H7; ipureintro; rfl
    isplitl [H14]
    · iexists _; isplitr; swap; iexact H14; ipureintro
      refine read_four_eq _ _ _ _ ?_ ?_ ?_ ?_
      · refine (foldM0 _ _).trans ?_
        refine congr (congrArg k2_pay34 ?_) ?_
        · exact (score0 _ _ _ _ _ _ _ _ _ _ _ _ _ _ _ _ _ _ _ _ _ _ _ _).trans rfl
        · first
            | exact (congrArg (slice 0) (if_neg h1).symm)
            | exact (slice_whole _ _ 0 _ _ _).trans (congrArg (slice 0) (if_pos h1).symm)
      · refine (foldM1 _ _).trans ?_
        refine congr (congrArg k2_pay34 ?_) ?_
        · exact (score1 _ _ _ _ _ _ _ _ _ _ _ _ _ _ _ _ _ _ _ _ _ _ _ _).trans rfl
        · first
            | exact (congrArg (slice 1) (if_neg h1).symm)
            | exact (slice_other _ _ 1 0 (by decide) _ _).trans <| (slice_whole _ _ 1 _ _ _).trans (congrArg (slice 1) (if_pos h1).symm)
      · refine (foldM2 _ _).trans ?_
        refine congr (congrArg k2_pay34 ?_) ?_
        · exact (score2 _ _ _ _ _ _ _ _ _ _ _ _ _ _ _ _ _ _ _ _ _ _ _ _).trans rfl
        · first
            | exact (congrArg (slice 2) (if_neg h1).symm)
            | exact (slice_other _ _ 2 1 (by decide) _ _).trans <| (slice_other _ _ 2 0 (by decide) _ _).trans <| (slice_whole _ _ 2 _ _ _).trans (congrArg (slice 2) (if_pos h1).symm)
      · refine (foldM3 _ _).trans ?_
        refine congr (congrArg k2_pay34 ?_) ?_
        · exact (score3 _ _ _ _ _ _ _ _ _ _ _ _ _ _ _ _ _ _ _ _ _ _ _ _).trans rfl
        · first
            | exact (congrArg (slice 3) (if_neg h1).symm)
            | exact (slice_other _ _ 3 2 (by decide) _ _).trans <| (slice_other _ _ 3 1 (by decide) _ _).trans <| (slice_other _ _ 3 0 (by decide) _ _).trans <| (slice_whole _ _ 3 _ _ _).trans (congrArg (slice 3) (if_pos h1).symm)
    isplitl [H15]
    · iexists _; isplitr; swap; iexact H15; ipureintro
      refine read_four_eq _ _ _ _ ?_ ?_ ?_ ?_
      · refine (foldL0 _ _ _).trans ?_
        refine congr (congr (congrArg k2_pay33 ?_) ?_) ?_
        · exact (score0 _ _ _ _ _ _ _ _ _ _ _ _ _ _ _ _ _ _ _ _ _ _ _ _).trans rfl
        · first
            | exact (congrArg (slice 0) (if_neg h1).symm)
            | exact (slice_whole _ _ 0 _ _ _).trans (congrArg (slice 0) (if_pos h1).symm)
        · first
            | exact (congrArg (slice 0) (if_neg h1).symm)
            | exact (slice_whole _ _ 0 _ _ _).trans (congrArg (slice 0) (if_pos h1).symm)
      · refine (foldL1 _ _ _).trans ?_
        refine congr (congr (congrArg k2_pay33 ?_) ?_) ?_
        · exact (score1 _ _ _ _ _ _ _ _ _ _ _ _ _ _ _ _ _ _ _ _ _ _ _ _).trans rfl
        · first
            | exact (congrArg (slice 1) (if_neg h1).symm)
            | exact (slice_other _ _ 1 0 (by decide) _ _).trans <| (slice_whole _ _ 1 _ _ _).trans (congrArg (slice 1) (if_pos h1).symm)
        · first
            | exact (congrArg (slice 1) (if_neg h1).symm)
            | exact (slice_other _ _ 1 0 (by decide) _ _).trans <| (slice_whole _ _ 1 _ _ _).trans (congrArg (slice 1) (if_pos h1).symm)
      · refine (foldL2 _ _ _).trans ?_
        refine congr (congr (congrArg k2_pay33 ?_) ?_) ?_
        · exact (score2 _ _ _ _ _ _ _ _ _ _ _ _ _ _ _ _ _ _ _ _ _ _ _ _).trans rfl
        · first
            | exact (congrArg (slice 2) (if_neg h1).symm)
            | exact (slice_other _ _ 2 1 (by decide) _ _).trans <| (slice_other _ _ 2 0 (by decide) _ _).trans <| (slice_whole _ _ 2 _ _ _).trans (congrArg (slice 2) (if_pos h1).symm)
        · first
            | exact (congrArg (slice 2) (if_neg h1).symm)
            | exact (slice_other _ _ 2 1 (by decide) _ _).trans <| (slice_other _ _ 2 0 (by decide) _ _).trans <| (slice_whole _ _ 2 _ _ _).trans (congrArg (slice 2) (if_pos h1).symm)
      · refine (foldL3 _ _ _).trans ?_
        refine congr (congr (congrArg k2_pay33 ?_) ?_) ?_
        · exact (score3 _ _ _ _ _ _ _ _ _ _ _ _ _ _ _ _ _ _ _ _ _ _ _ _).trans rfl
        · first
            | exact (congrArg (slice 3) (if_neg h1).symm)
            | exact (slice_other _ _ 3 2 (by decide) _ _).trans <| (slice_other _ _ 3 1 (by decide) _ _).trans <| (slice_other _ _ 3 0 (by decide) _ _).trans <| (slice_whole _ _ 3 _ _ _).trans (congrArg (slice 3) (if_pos h1).symm)
        · first
            | exact (congrArg (slice 3) (if_neg h1).symm)
            | exact (slice_other _ _ 3 2 (by decide) _ _).trans <| (slice_other _ _ 3 1 (by decide) _ _).trans <| (slice_other _ _ 3 0 (by decide) _ _).trans <| (slice_whole _ _ 3 _ _ _).trans (congrArg (slice 3) (if_pos h1).symm)
    · iexists _; isplitr; swap; iexact H16; ipureintro
      refine read_four_eq _ _ _ _ ?_ ?_ ?_ ?_
      · refine (foldA0 _ _ _ _).trans ?_
        refine congr (congr (congr (congrArg k2_pay32 ?_) ?_) ?_) ?_
        · rfl
        · exact (score0 _ _ _ _ _ _ _ _ _ _ _ _ _ _ _ _ _ _ _ _ _ _ _ _).trans rfl
        · first
            | exact (congrArg (slice 0) (if_neg h1).symm)
            | exact (slice_whole _ _ 0 _ _ _).trans (congrArg (slice 0) (if_pos h1).symm)
        · first
            | exact (congrArg (slice 0) (if_neg h1).symm)
            | exact (slice_whole _ _ 0 _ _ _).trans (congrArg (slice 0) (if_pos h1).symm)
      · refine (foldA1 _ _ _ _).trans ?_
        refine congr (congr (congr (congrArg k2_pay32 ?_) ?_) ?_) ?_
        · rfl
        · exact (score1 _ _ _ _ _ _ _ _ _ _ _ _ _ _ _ _ _ _ _ _ _ _ _ _).trans rfl
        · first
            | exact (congrArg (slice 1) (if_neg h1).symm)
            | exact (slice_other _ _ 1 0 (by decide) _ _).trans <| (slice_whole _ _ 1 _ _ _).trans (congrArg (slice 1) (if_pos h1).symm)
        · first
            | exact (congrArg (slice 1) (if_neg h1).symm)
            | exact (slice_other _ _ 1 0 (by decide) _ _).trans <| (slice_whole _ _ 1 _ _ _).trans (congrArg (slice 1) (if_pos h1).symm)
      · refine (foldA2 _ _ _ _).trans ?_
        refine congr (congr (congr (congrArg k2_pay32 ?_) ?_) ?_) ?_
        · rfl
        · exact (score2 _ _ _ _ _ _ _ _ _ _ _ _ _ _ _ _ _ _ _ _ _ _ _ _).trans rfl
        · first
            | exact (congrArg (slice 2) (if_neg h1).symm)
            | exact (slice_other _ _ 2 1 (by decide) _ _).trans <| (slice_other _ _ 2 0 (by decide) _ _).trans <| (slice_whole _ _ 2 _ _ _).trans (congrArg (slice 2) (if_pos h1).symm)
        · first
            | exact (congrArg (slice 2) (if_neg h1).symm)
            | exact (slice_other _ _ 2 1 (by decide) _ _).trans <| (slice_other _ _ 2 0 (by decide) _ _).trans <| (slice_whole _ _ 2 _ _ _).trans (congrArg (slice 2) (if_pos h1).symm)
      · refine (foldA3 _ _ _ _).trans ?_
        refine congr (congr (congr (congrArg k2_pay32 ?_) ?_) ?_) ?_
        · rfl
        · exact (score3 _ _ _ _ _ _ _ _ _ _ _ _ _ _ _ _ _ _ _ _ _ _ _ _).trans rfl
        · first
            | exact (congrArg (slice 3) (if_neg h1).symm)
            | exact (slice_other _ _ 3 2 (by decide) _ _).trans <| (slice_other _ _ 3 1 (by decide) _ _).trans <| (slice_other _ _ 3 0 (by decide) _ _).trans <| (slice_whole _ _ 3 _ _ _).trans (congrArg (slice 3) (if_pos h1).symm)
        · first
            | exact (congrArg (slice 3) (if_neg h1).symm)
            | exact (slice_other _ _ 3 2 (by decide) _ _).trans <| (slice_other _ _ 3 1 (by decide) _ _).trans <| (slice_other _ _ 3 0 (by decide) _ _).trans <| (slice_whole _ _ 3 _ _ _).trans (congrArg (slice 3) (if_pos h1).symm)

set_option maxHeartbeats 2000000 in
/-- The body at a point: the scratch buffers go from `m`, `l`, `a` to their folds over the block, and the output buffers are
    written at the last column block only. -/
theorem body (c : Dev nD) (E : Set ℕ) (i : grid1.Coords)
    (arg2 : Memref sig .tc .vmem S256x512 .i32) (harg2 : arg2.IsWhole) (arg3 : Memref sig .tc .vmem S256x512 .i32) (harg3 : arg3.IsWhole)
    (arg4 : Memref sig .tc .vmem S4x5120x128 .f32) (harg4 : arg4.IsWhole) (arg5 : Memref sig .tc .vmem S4x256x1 .f32) (harg5 : arg5.IsWhole)
    (arg6 : Memref sig .tc .vmem S4x1x512 .f32) (harg6 : arg6.IsWhole) (arg7 : Memref sig .tc .vmem S8x16 .f32) (harg7 : arg7.IsWhole)
    (arg8 : Memref sig .tc .vmem S128x128 .f32) (harg8 : arg8.IsWhole) (arg9 : Memref sig .tc .vmem S128x1 .f32) (harg9 : arg9.IsWhole)
    (arg10 : Memref sig .tc .vmem S128x1 .f32) (harg10 : arg10.IsWhole) (arg11 : Memref sig .tc .vmem S256x128 .f32) (harg11 : arg11.IsWhole)
    (arg12 : Memref sig .tc .vmem S256x1 .f32) (harg12 : arg12.IsWhole) (arg13 : Memref sig .tc .vmem S256x1 .f32) (harg13 : arg13.IsWhole)
    (arg14 : Memref sig .tc .vmem S4x256x1 .f32) (harg14 : arg14.IsWhole) (arg15 : Memref sig .tc .vmem S4x256x1 .f32) (harg15 : arg15.IsWhole)
    (arg16 : Memref sig .tc .vmem S4x256x128 .f32) (harg16 : arg16.IsWhole)
    (adj : Vec F S256x512 .i32) (ids : Vec F S256x512 .i32) (h : Vec F S4x5120x128 .f32) (f1 : Vec F S4x256x1 .f32) (f2 : Vec F S4x1x512 .f32) (sc : Vec F S8x16 .f32) (wo : Vec F S128x128 .f32) (a1 : Vec F S128x1 .f32) (a2 : Vec F S128x1 .f32) (d : Vec F S256x128 .f32) (d1 : Vec F S256x1 .f32) (d2 : Vec F S256x1 .f32) (m : Vec F S4x256x1 .f32) (l : Vec F S4x256x1 .f32) (a : Vec F S4x256x128 .f32) (K : PUnit → sProp 𝕄) :
    iprop(owns (c : Thread nD τ) arg2 fullShare adj
        ∗ owns (c : Thread nD τ) arg3 fullShare ids
        ∗ owns (c : Thread nD τ) arg4 fullShare h
        ∗ owns (c : Thread nD τ) arg5 fullShare f1
        ∗ owns (c : Thread nD τ) arg6 fullShare f2
        ∗ owns (c : Thread nD τ) arg7 fullShare sc
        ∗ owns (c : Thread nD τ) arg8 fullShare wo
        ∗ owns (c : Thread nD τ) arg9 fullShare a1
        ∗ owns (c : Thread nD τ) arg10 fullShare a2
        ∗ owns (c : Thread nD τ) arg11 fullShare d
        ∗ owns (c : Thread nD τ) arg12 fullShare d1
        ∗ owns (c : Thread nD τ) arg13 fullShare d2
        ∗ owns (c : Thread nD τ) arg14 fullShare m
        ∗ owns (c : Thread nD τ) arg15 fullShare l
        ∗ owns (c : Thread nD τ) arg16 fullShare a
        ∗ (iprop(owns (c : Thread nD τ) arg2 fullShare adj
          ∗ owns (c : Thread nD τ) arg3 fullShare ids
          ∗ owns (c : Thread nD τ) arg4 fullShare h
          ∗ owns (c : Thread nD τ) arg5 fullShare f1
          ∗ owns (c : Thread nD τ) arg6 fullShare f2
          ∗ owns (c : Thread nD τ) arg7 fullShare sc
          ∗ owns (c : Thread nD τ) arg8 fullShare wo
          ∗ owns (c : Thread nD τ) arg9 fullShare a1
          ∗ owns (c : Thread nD τ) arg10 fullShare a2
          ∗ owns (c : Thread nD τ) arg11 fullShare (if k1_cond2 i = 1#1 then outH i (newL i adj ids f1 f2 sc m l) (newA i adj ids h f1 f2 sc m a) wo else d)
          ∗ owns (c : Thread nD τ) arg12 fullShare (if k1_cond2 i = 1#1 then outF (outH i (newL i adj ids f1 f2 sc m l) (newA i adj ids h f1 f2 sc m a) wo) a1 else d1)
          ∗ owns (c : Thread nD τ) arg13 fullShare (if k1_cond2 i = 1#1 then outF (outH i (newL i adj ids f1 f2 sc m l) (newA i adj ids h f1 f2 sc m a) wo) a2 else d2)
          ∗ owns (c : Thread nD τ) arg14 fullShare (newM i adj ids f1 f2 sc m)
          ∗ owns (c : Thread nD τ) arg15 fullShare (newL i adj ids f1 f2 sc m l)
          ∗ owns (c : Thread nD τ) arg16 fullShare (newA i adj ids h f1 f2 sc m a)) -∗ K ⟨⟩))
      ⊢ wp frame (wpE (defs₀ (F := F)) Variants.none c none) E
        (cc1__attn1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__attn1_kernel_eq_skeleton]; unfold cc1__attn1_kernel_skel
  rw [wp_bind]
  iintro ⟨H2, H3, H4, H5, H6, H7, H8, H9, H10, H11, H12, H13, H14, H15, H16, Hk⟩
  iapply (fold c E i arg2 harg2 arg3 harg3 arg4 harg4 arg5 harg5 arg6 harg6 arg7 harg7 arg8 harg8 arg9 harg9 arg10 harg10 arg11 harg11 arg12 harg12 arg13 harg13 arg14 harg14 arg15 harg15 arg16 harg16 adj ids h f1 f2 sc m l a _)
  isplitl [H2]; iexact H2
  isplitl [H3]; iexact H3
  isplitl [H4]; iexact H4
  isplitl [H5]; iexact H5
  isplitl [H6]; iexact H6
  isplitl [H7]; iexact H7
  isplitl [H14]; iexact H14
  isplitl [H15]; iexact H15
  isplitl [H16]; iexact H16
  iintro ⟨H2, H3, H4, H5, H6, H7, H14, H15, H16⟩
  generalize newM i adj ids f1 f2 sc m = m'
  generalize newL i adj ids f1 f2 sc m l = l'
  generalize newA i adj ids h f1 f2 sc m a = a'
  simp only [k1_part1_eq_skeleton, k1_part2_eq_skeleton]
  unfold owns
  icases H8 with ⟨%g8, %hf8, H8⟩
  icases H9 with ⟨%g9, %hf9, H9⟩
  icases H10 with ⟨%g10, %hf10, H10⟩
  icases H11 with ⟨%g11, %hf11, H11⟩
  icases H12 with ⟨%g12, %hf12, H12⟩
  icases H13 with ⟨%g13, %hf13, H13⟩
  icases H15 with ⟨%g15, %hf15, H15⟩
  icases H16 with ⟨%g16, %hf16, H16⟩
  subst hf8 hf9 hf10 hf11 hf12 hf13 hf15 hf16
  rcases Classical.em (k1_cond2 i = 1#1) with h2 | h2
  all_goals
    sl_exec
    sl_step
    iapply Hk
    isplitl [H2]; iexact H2
    isplitl [H3]; iexact H3
    isplitl [H4]; iexact H4
    isplitl [H5]; iexact H5
    isplitl [H6]; iexact H6
    isplitl [H7]; iexact H7
    isplitl [H8]
    · iexists _; isplitr; swap; iexact H8; ipureintro; rfl
    isplitl [H9]
    · iexists _; isplitr; swap; iexact H9; ipureintro; rfl
    isplitl [H10]
    · iexists _; isplitr; swap; iexact H10; ipureintro; rfl
    isplitl [H11]
    · iexists _; isplitr; swap; iexact H11; ipureintro
      first | exact (if_neg h2).symm | exact (View.read_writes_full _ _ _ _ _).trans (if_pos h2).symm
    isplitl [H12]
    · iexists _; isplitr; swap; iexact H12; ipureintro
      first | exact (if_neg h2).symm | exact (View.read_writes_full _ _ _ _ _).trans (if_pos h2).symm
    isplitl [H13]
    · iexists _; isplitr; swap; iexact H13; ipureintro
      first | exact (if_neg h2).symm | exact (View.read_writes_full _ _ _ _ _).trans (if_pos h2).symm
    isplitl [H14]; iexact H14
    isplitl [H15]
    · iexists _; isplitr; swap; iexact H15; ipureintro; rfl
    · iexists _; isplitr; swap; iexact H16; ipureintro; rfl

end Cert.Proof.One

end
-- ==== Proof.Data1.lean ====
/-
  The first attention region's data: the running maxima, sums and accumulators after each point, and what is written at the last
  column block of a row block. What lies beside an input block that runs past its array is anything.
-/
module

public import proofs.«01_k».proof.Proof.Data
public import proofs.«01_k».proof.Proof.Body1
public import proofs.«01_k».proof.Proof.Gen.KernelIdeal.Points

@[expose] public section

set_option maxRecDepth 16384

noncomputable section

namespace Cert.Proof.One

open Idealize.ShloMosaic Idealize.ShloMosaic.TcCoe
open Idealize.SL Idealize.SL.RA
open Idealize.SL.BI (sProp bigSep bigSep_congr bigSep_mono bigSep_sep')
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F] [Named F]

local notation "𝕄" => MT nD τ sig Unit (Elt F) ℕ UU ℕ

variable (W : Valuation τ sig (Elt F)) (c : Dev nD)

/-- The part inside the array of window `w`'s block at point `t`, of the contents the region is entered at. -/
def blk (w : Fin cfg1.W) (t : Fin cfg1.N) : ((cfg1.win w).xblock (cfg1.grid.coords t)).Idx → Elt F (cfg1.win w).elt :=
  ((cfg1.win w).blk t).view.read (Elt F) (W (Proc.devRef .tc (arrRef spec1 w)))

/-- The block of the adjacency matrix, with `d` beside it. -/
def adj (t : Fin cfg1.N) (d : Vec F S256x512 .i32) : Vec F S256x512 .i32 := (cfg1.win 0).fill (cfg1.grid.coords t) d (blk W 0 t)
/-- The block of the relation numbers, with `d` beside it. -/
def ids (t : Fin cfg1.N) (d : Vec F S256x512 .i32) : Vec F S256x512 .i32 := (cfg1.win 1).fill (cfg1.grid.coords t) d (blk W 1 t)

/-- What the scratch buffers may hold before point `n`. -/
def Reach : ℕ → Vec F S4x256x1 .f32 → Vec F S4x256x1 .f32 → Vec F S4x256x128 .f32 → Prop
  | 0 => fun _ _ _ => True
  | n + 1 => fun m' l' a' => ∃ (h : n < cfg1.N) (m l : Vec F S4x256x1 .f32) (a : Vec F S4x256x128 .f32) (d e : Vec F S256x512 .i32),
      Reach n m l a
      ∧ m' = newM (grid1.coords ⟨n, h⟩) (adj W ⟨n, h⟩ d) (ids W ⟨n, h⟩ e) (blk W 3 ⟨n, h⟩) (blk W 4 ⟨n, h⟩) (blk W 5 ⟨n, h⟩) m
      ∧ l' = newL (grid1.coords ⟨n, h⟩) (adj W ⟨n, h⟩ d) (ids W ⟨n, h⟩ e) (blk W 3 ⟨n, h⟩) (blk W 4 ⟨n, h⟩) (blk W 5 ⟨n, h⟩) m l
      ∧ a' = newA (grid1.coords ⟨n, h⟩) (adj W ⟨n, h⟩ d) (ids W ⟨n, h⟩ e) (blk W 2 ⟨n, h⟩) (blk W 3 ⟨n, h⟩) (blk W 4 ⟨n, h⟩) (blk W 5 ⟨n, h⟩) m a

/-- The scratch buffers before point `n`. -/
def inv (n : ℕ) : sProp 𝕄 :=
  iprop((∃ m l a, ⌜Reach W n m l a⌝ ∗ owns (c : Thread nD τ) (Memref.whole cc1_scratch0) fullShare m
      ∗ owns (c : Thread nD τ) (Memref.whole cc1_scratch1) fullShare l ∗ owns (c : Thread nD τ) (Memref.whole cc1_scratch2) fullShare a)
    ∗ scopedRestBut spec1 c [cc1_scratch0, cc1_scratch1, cc1_scratch2])

/-- The region's data. -/
def dat : Dat τ (Elt F) Unit ℕ UU ℕ cfg1 c :=
  still cfg1 c (fun w => W (Proc.devRef .tc (arrRef spec1 w))) (fun t => inv W c t.val)

theorem share (w : Fin cfg1.W) : (dat W c).share w = fullShare := still_share cfg1 c _ _ w

/-- The output windows are told by a predicate. -/
def marks (w : Fin 12) : Bool := decide (9 ≤ w.val)

/-- What is left in an output window at point `t`: at a last column block, the row block of the scratch buffers then held. -/
def Rl (w : Fin cfg1.W) (t : Fin cfg1.N) : ((cfg1.win w).block.Idx → Elt F (cfg1.win w).elt) → Prop :=
  match w with
  | 9 => fun X => k1_cond2 (grid1.coords t) = 1#1 → ∃ m l a, Reach W (t.val + 1) m l a ∧ X = outH (grid1.coords t) l a (blk W 6 t)
  | 10 => fun X => k1_cond2 (grid1.coords t) = 1#1 → ∃ m l a, Reach W (t.val + 1) m l a
      ∧ X = outF (outH (grid1.coords t) l a (blk W 6 t)) (blk W 7 t)
  | 11 => fun X => k1_cond2 (grid1.coords t) = 1#1 → ∃ m l a, Reach W (t.val + 1) m l a
      ∧ X = outF (outH (grid1.coords t) l a (blk W 6 t)) (blk W 8 t)
  | _ => fun _ => True

theorem before_eq (w : Fin cfg1.W) (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (t : Fin cfg1.N) (d) : (dat W c).before w t d = (cfg1.win w).fill (cfg1.grid.coords t) d (blk W w t) :=
  (dat W c).before_in_eq_fetched w hw hlive hclip (fun _ => (cfg1.win w).cut_fill _ _ _) t d

theorem before0 (t : Fin cfg1.N) (d) : (dat W c).before 0 t d = adj W t d := (dat W c).before_fetched 0 t (fetch1_0 t) d
theorem before1 (t : Fin cfg1.N) (d) : (dat W c).before 1 t d = ids W t d := (dat W c).before_fetched 1 t (fetch1_1 t) d
theorem before2 (t : Fin cfg1.N) (d) : (dat W c).before 2 t d = blk W 2 t := before_eq W c 2 rfl (fun _ => rfl) (fun _ _ _ => rfl) t d
theorem before3 (t : Fin cfg1.N) (d) : (dat W c).before 3 t d = blk W 3 t := before_eq W c 3 rfl (fun _ => rfl) (fun _ _ _ => rfl) t d
theorem before4 (t : Fin cfg1.N) (d) : (dat W c).before 4 t d = blk W 4 t := before_eq W c 4 rfl (fun _ => rfl) (fun _ _ _ => rfl) t d
theorem before5 (t : Fin cfg1.N) (d) : (dat W c).before 5 t d = blk W 5 t := before_eq W c 5 rfl (fun _ => rfl) (fun _ _ _ => rfl) t d
theorem before6 (t : Fin cfg1.N) (d) : (dat W c).before 6 t d = blk W 6 t := before_eq W c 6 rfl (fun _ => rfl) (fun _ _ _ => rfl) t d
theorem before7 (t : Fin cfg1.N) (d) : (dat W c).before 7 t d = blk W 7 t := before_eq W c 7 rfl (fun _ => rfl) (fun _ _ _ => rfl) t d
theorem before8 (t : Fin cfg1.N) (d) : (dat W c).before 8 t d = blk W 8 t := before_eq W c 8 rfl (fun _ => rfl) (fun _ _ _ => rfl) t d

theorem kept0 (t : Fin cfg1.N) (d : Vec F S256x512 .i32) :
    (cfg1.win 0).fill (grid1.coords t) d ((cfg1.win 0).cut (grid1.coords t) ((dat W c).after 0 t)) = adj W t d :=
  congrArg ((cfg1.win 0).fill (grid1.coords t) d) ((cfg1.win 0).cut_fill _ _ _)
theorem kept1 (t : Fin cfg1.N) (d : Vec F S256x512 .i32) :
    (cfg1.win 1).fill (grid1.coords t) d ((cfg1.win 1).cut (grid1.coords t) ((dat W c).after 1 t)) = ids W t d :=
  congrArg ((cfg1.win 1).fill (grid1.coords t) d) ((cfg1.win 1).cut_fill _ _ _)

/-- What the body is handed. -/
def pre (t : Fin cfg1.N) : sProp 𝕄 :=
  iprop(inv W c t.val ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d))
    ∗ (∃ d, owns (c : Thread nD τ) (st1_6 t) fullShare ((dat W c).before 6 t d))
    ∗ (∃ d, owns (c : Thread nD τ) (st1_7 t) fullShare ((dat W c).before 7 t d))
    ∗ (∃ d, owns (c : Thread nD τ) (st1_8 t) fullShare ((dat W c).before 8 t d))
    ∗ (∃ Y, ⌜((dat W c).toRRel marks (Rl W)).Finds 9 t Y⌝ ∗ owns (c : Thread nD τ) (st1_9 t) fullShare Y)
    ∗ (∃ Y, ⌜((dat W c).toRRel marks (Rl W)).Finds 10 t Y⌝ ∗ owns (c : Thread nD τ) (st1_10 t) fullShare Y)
    ∗ (∃ Y, ⌜((dat W c).toRRel marks (Rl W)).Finds 11 t Y⌝ ∗ owns (c : Thread nD τ) (st1_11 t) fullShare Y))

/-- What it leaves. -/
def post (t : Fin cfg1.N) : sProp 𝕄 :=
  iprop(inv W c (t.val + 1) ∗ (dat W c).owesAt () t.succ
    ∗ (∃ d, owns (c : Thread nD τ) (st1_0 t) fullShare (adj W t d))
    ∗ (∃ d, owns (c : Thread nD τ) (st1_1 t) fullShare (ids W t d))
    ∗ owns (c : Thread nD τ) (st1_2 t) fullShare (blk W 2 t)
    ∗ owns (c : Thread nD τ) (st1_3 t) fullShare (blk W 3 t)
    ∗ owns (c : Thread nD τ) (st1_4 t) fullShare (blk W 4 t)
    ∗ owns (c : Thread nD τ) (st1_5 t) fullShare (blk W 5 t)
    ∗ owns (c : Thread nD τ) (st1_6 t) fullShare (blk W 6 t)
    ∗ owns (c : Thread nD τ) (st1_7 t) fullShare (blk W 7 t)
    ∗ owns (c : Thread nD τ) (st1_8 t) fullShare (blk W 8 t)
    ∗ (∃ X, ⌜Rl W 9 t X⌝ ∗ owns (c : Thread nD τ) (st1_9 t) fullShare X)
    ∗ (∃ X, ⌜Rl W 10 t X⌝ ∗ owns (c : Thread nD τ) (st1_10 t) fullShare X)
    ∗ (∃ X, ⌜Rl W 11 t X⌝ ∗ owns (c : Thread nD τ) (st1_11 t) fullShare X))

/-- The adjacency block, as the data tell what is kept of it. -/
theorem left0 (t : Fin cfg1.N) : (iprop(∃ d, owns (c : Thread nD τ) (st1_0 t) fullShare (adj W t d)) : sProp 𝕄)
    ⊢ iprop(∃ d, owns (c : Thread nD τ) ((cfg1.win 0).stage (cfg1.slots t 0)) fullShare
      ((cfg1.win 0).fill (cfg1.grid.coords t) d ((cfg1.win 0).cut (cfg1.grid.coords t) ((dat W c).after 0 t)))) := by
  iintro ⟨%d, H⟩; iexists d; rw [kept0 W c t d]; iexact H
/-- The relation numbers' block, likewise. -/
theorem left1 (t : Fin cfg1.N) : (iprop(∃ d, owns (c : Thread nD τ) (st1_1 t) fullShare (ids W t d)) : sProp 𝕄)
    ⊢ iprop(∃ d, owns (c : Thread nD τ) ((cfg1.win 1).stage (cfg1.slots t 1)) fullShare
      ((cfg1.win 1).fill (cfg1.grid.coords t) d ((cfg1.win 1).cut (cfg1.grid.coords t) ((dat W c).after 1 t)))) := by
  iintro ⟨%d, H⟩; iexists d; rw [kept1 W c t d]; iexact H

theorem sound (t : Fin cfg1.N) :
    pre W c t ⊢ wp frame (wpE (defs₀ (F := F)) Variants.none c none) Set.univ (bodyAt1 t) (fun _ => post W c t) := by
  unfold pre post bodyAt1 inv
  simp only [before0, before1, before2, before3, before4, before5, before6, before7, before8]
  rw [show (dat W c).owesAt () t.succ = (dat W c).owesAt () t.castSucc from rfl]
  iintro ⟨⟨⟨%m, %l, %a, %hr, Hm, Hl, Ha⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%Y9, -, H9⟩, ⟨%Y10, -, H10⟩, ⟨%Y11, -, H11⟩⟩
  have hs : Reach W (t.val + 1) (newM (grid1.coords t) (adj W t d0) (ids W t d1) (blk W 3 t) (blk W 4 t) (blk W 5 t) m)
      (newL (grid1.coords t) (adj W t d0) (ids W t d1) (blk W 3 t) (blk W 4 t) (blk W 5 t) m l)
      (newA (grid1.coords t) (adj W t d0) (ids W t d1) (blk W 2 t) (blk W 3 t) (blk W 4 t) (blk W 5 t) m a) :=
    ⟨t.isLt, m, l, a, d0, d1, hr, rfl, rfl, rfl⟩
  iapply (body c Set.univ (grid1.coords t) _ _ _ _ _ _ _ _ _ _ _ _ _ _ _ _ _ _ _ _ _ _ _ _ _ _ _ _ _ _
    (adj W t d0) (ids W t d1) (blk W 2 t) (blk W 3 t) (blk W 4 t) (blk W 5 t) (blk W 6 t) (blk W 7 t) (blk W 8 t) Y9 Y10 Y11 m l a _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hm]; · iexact Hm
  isplitl [Hl]; · iexact Hl
  isplitl [Ha]; · iexact Ha
  iintro ⟨H0, H1, H2, H3, H4, H5, H6, H7, H8, H9, H10, H11, Hm, Hl, Ha⟩
  isplitl [HΦ Hm Hl Ha]
  · isplitl [Hm Hl Ha]
    · iexists _; iexists _; iexists _; isplitr; · ipureintro; exact hs
      isplitl [Hm]; · iexact Hm
      isplitl [Hl]; · iexact Hl
      iexact Ha
    iexact HΦ
  isplitl [Ho]; · iexact Ho
  isplitl [H0]; · iexists _; iexact H0
  isplitl [H1]; · iexists _; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; iexact H9; ipureintro; exact fun h => ⟨_, _, _, hs, if_pos h⟩
  isplitl [H10]
  · iexists _; isplitr; swap; iexact H10; ipureintro; exact fun h => ⟨_, _, _, hs, if_pos h⟩
  iexists _; isplitr; swap; iexact H11; ipureintro; exact fun h => ⟨_, _, _, hs, if_pos h⟩

theorem row (t : Fin cfg1.N) : (defs₀ (F := F)) .tc cfg1.body (cfg1.bodyArgs t (cfg1.slots t)) = bodyAt1 t := by
  unfold defs₀; rw [Defs.onTc_tc]

theorem obligation : BodyObligationRel (dat W c) (defs₀ (F := F)) Variants.none () Set.univ marks (Rl W) := fun t => by
  rw [bigSep_W1, bigSep_W1, row]
  exact triple_restated (sound W c t) rfl .rfl fun _ => sep_mono .rfl (sep_mono .rfl (sep_mono (left0 W c t) (sep_mono (left1 W c t) .rfl)))

/-- The region's scratch buffers are found at anything. -/
theorem enter : (scopedRest spec1 c : sProp 𝕄) ⊢ inv W c 0 := by
  rw [scopedRest1_split]; unfold inv
  iintro ⟨⟨⟨%m, Hm⟩, ⟨%l, Hl⟩, ⟨%a, Ha⟩⟩, H⟩
  isplitl [Hm Hl Ha]
  · iexists m; iexists l; iexists a; isplitr; · ipureintro; exact trivial
    rw [owns_whole, owns_whole, owns_whole]
    isplitl [Hm]; · iexact Hm
    isplitl [Hl]; · iexact Hl
    iexact Ha
  iexact H

/-- And left at something. -/
theorem leave (n : ℕ) : inv W c n ⊢ (scopedRest spec1 c : sProp 𝕄) := by
  rw [scopedRest1_split]; unfold inv
  iintro ⟨⟨%m, %l, %a, -, Hm, Hl, Ha⟩, H⟩
  isplitl [Hm Hl Ha]
  · isplitl [Hm]; · iapply (some_owns c cc1_scratch0 m); iexact Hm
    isplitl [Hl]; · iapply (some_owns c cc1_scratch1 l); iexact Hl
    iapply (some_owns c cc1_scratch2 a); iexact Ha
  iexact H

theorem enters : (scopedRest spec1 c : sProp 𝕄) ⊢ (dat W c).Φ 0 := enter W c
theorem leaves : (dat W c).Φ (Fin.last cfg1.N) ⊢ (scopedRest spec1 c : sProp 𝕄) := leave W c _

end Cert.Proof.One
-- ==== Proof.Body2.lean ====
/-
  What the second attention kernel does at one point of its grid, for whole staging buffers at any contents: at the first
  column block the running maximum, sum and accumulator are reset; every block folds its scores into them; the last block
  writes the row block of the result.
-/
module

public import proofs.«01_k».proof.Proof.Block
public import proofs.«01_k».proof.Proof.Gen.KernelIdeal.Launch
public import Idealize.ShloMosaic.Lib.Exec
public import Idealize.ShloMosaic.Lib.Tactic

@[expose] public section

set_option maxRecDepth 16384

noncomputable section

namespace Cert.Proof.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F] [Named F]

/-- The masked scores of one block. -/
def eblk (i : grid2.Coords) (adj ids : Vec F S256x512 .i32) (f1 : Vec F S256x1 .f32) (f2 : Vec F S1x512 .f32)
    (sc : Vec F S8x16 .f32) : FVec F S256x512 .f32 :=
  scores i 4 adj ids (all2 f1 inb_S256x1_S256x1_0_0) (all2 f2 inb_S1x512_S1x512_0_0) sc

/-- The 512 rows of the hidden array the point's column block meets. -/
def hblk (i : grid2.Coords) (h : Vec F S5120x128 .f32) : FVec F S512x128 .f32 :=
  k2_pay7 (View.ld h (Rect.unit (s := S5120x128) (k2_off1 i) S512x128.size (k2_off1_inb i)))

/-- The running maximum a point starts from. -/
def startM (i : grid2.Coords) (m : Vec F S1x256x1 .f32) : Vec F S1x256x1 .f32 :=
  if isFirst i = 1#1 then k2_pay1 (F := F) else m
/-- The running sum a point starts from. -/
def startL (i : grid2.Coords) (l : Vec F S1x256x1 .f32) : Vec F S1x256x1 .f32 :=
  if isFirst i = 1#1 then k2_pay2 (F := F) else l
/-- The accumulator a point starts from. -/
def startA (i : grid2.Coords) (a : Vec F S1x256x128 .f32) : Vec F S1x256x128 .f32 :=
  if isFirst i = 1#1 then k2_pay3 (F := F) else a

variable {U : Type} [URA U]

local notation "𝕄" => MT nD τ sig Unit (Elt F) ℕ U ℕ

set_option maxHeartbeats 2000000 in
/-- The body at a point: the scratch buffers go from `m`, `l`, `a` to their folds over the block, and the output buffer is
    written at the last column block only. -/
theorem body (c : Dev nD) (E : Set ℕ) (i : grid2.Coords)
    (arg2 : Memref sig .tc .vmem S256x512 .i32) (harg2 : arg2.IsWhole) (arg3 : Memref sig .tc .vmem S256x512 .i32) (harg3 : arg3.IsWhole)
    (arg4 : Memref sig .tc .vmem S5120x128 .f32) (harg4 : arg4.IsWhole) (arg5 : Memref sig .tc .vmem S256x1 .f32) (harg5 : arg5.IsWhole)
    (arg6 : Memref sig .tc .vmem S1x512 .f32) (harg6 : arg6.IsWhole) (arg7 : Memref sig .tc .vmem S8x16 .f32) (harg7 : arg7.IsWhole)
    (arg8 : Memref sig .tc .vmem S128x64 .f32) (harg8 : arg8.IsWhole) (arg9 : Memref sig .tc .vmem S1x64 .f32) (harg9 : arg9.IsWhole)
    (arg10 : Memref sig .tc .vmem S256x64 .f32) (harg10 : arg10.IsWhole) (arg11 : Memref sig .tc .vmem S1x256x1 .f32) (harg11 : arg11.IsWhole)
    (arg12 : Memref sig .tc .vmem S1x256x1 .f32) (harg12 : arg12.IsWhole) (arg13 : Memref sig .tc .vmem S1x256x128 .f32) (harg13 : arg13.IsWhole)
    (adj ids : Vec F S256x512 .i32) (h : Vec F S5120x128 .f32) (f1 : Vec F S256x1 .f32) (f2 : Vec F S1x512 .f32)
    (sc : Vec F S8x16 .f32) (lw : Vec F S128x64 .f32) (lb : Vec F S1x64 .f32) (d : Vec F S256x64 .f32)
    (m l : Vec F S1x256x1 .f32) (a : Vec F S1x256x128 .f32) (K : PUnit → sProp 𝕄) :
    iprop(owns (c : Thread nD τ) arg2 fullShare adj ∗ owns (c : Thread nD τ) arg3 fullShare ids ∗ owns (c : Thread nD τ) arg4 fullShare h
        ∗ owns (c : Thread nD τ) arg5 fullShare f1 ∗ owns (c : Thread nD τ) arg6 fullShare f2 ∗ owns (c : Thread nD τ) arg7 fullShare sc
        ∗ owns (c : Thread nD τ) arg8 fullShare lw ∗ owns (c : Thread nD τ) arg9 fullShare lb ∗ owns (c : Thread nD τ) arg10 fullShare d
        ∗ owns (c : Thread nD τ) arg11 fullShare m ∗ owns (c : Thread nD τ) arg12 fullShare l ∗ owns (c : Thread nD τ) arg13 fullShare a
        ∗ (iprop(owns (c : Thread nD τ) arg2 fullShare adj ∗ owns (c : Thread nD τ) arg3 fullShare ids ∗ owns (c : Thread nD τ) arg4 fullShare h
          ∗ owns (c : Thread nD τ) arg5 fullShare f1 ∗ owns (c : Thread nD τ) arg6 fullShare f2 ∗ owns (c : Thread nD τ) arg7 fullShare sc
          ∗ owns (c : Thread nD τ) arg8 fullShare lw ∗ owns (c : Thread nD τ) arg9 fullShare lb
          ∗ owns (c : Thread nD τ) arg10 fullShare (if k2_cond2 i = 1#1 then k2_pay35 (k2_pay32 (hblk i h) (eblk i adj ids f1 f2 sc) (startM i m) (startA i a))
              (k2_pay33 (eblk i adj ids f1 f2 sc) (startM i m) (startL i l)) (all2 lw inb_S128x64_S128x64_0_0) (all2 lb inb_S1x64_S1x64_0_0) else d)
          ∗ owns (c : Thread nD τ) arg11 fullShare (k2_pay34 (eblk i adj ids f1 f2 sc) (startM i m))
          ∗ owns (c : Thread nD τ) arg12 fullShare (k2_pay33 (eblk i adj ids f1 f2 sc) (startM i m) (startL i l))
          ∗ owns (c : Thread nD τ) arg13 fullShare (k2_pay32 (hblk i h) (eblk i adj ids f1 f2 sc) (startM i m) (startA i a))) -∗ K ⟨⟩))
      ⊢ wp frame (wpE (defs₀ (F := F)) Variants.none c none) E
        (cc2__attn2_kernel i arg2 harg2 arg3 harg3 arg4 harg4 arg5 harg5 arg6 harg6 arg7 harg7 arg8 harg8 arg9 harg9 arg10 harg10 arg11 harg11 arg12 harg12 arg13 harg13) K := by
  simp only [cc2__attn2_kernel_eq_skeleton]; unfold cc2__attn2_kernel_skel
  simp only [k2_part1_eq_skeleton, k2_part2_eq_skeleton, k2_part3_eq_skeleton, k2_part4_eq_skeleton]
  unfold owns
  iintro ⟨⟨%g2, %hf2, H2⟩, ⟨%g3, %hf3, H3⟩, ⟨%g4, %hf4, H4⟩, ⟨%g5, %hf5, H5⟩, ⟨%g6, %hf6, H6⟩, ⟨%g7, %hf7, H7⟩, ⟨%g8, %hf8, H8⟩,
    ⟨%g9, %hf9, H9⟩, ⟨%g10, %hf10, H10⟩, ⟨%g11, %hf11, H11⟩, ⟨%g12, %hf12, H12⟩, ⟨%g13, %hf13, H13⟩, Hk⟩
  subst hf2 hf3 hf4 hf5 hf6 hf7 hf8 hf9 hf10 hf11 hf12 hf13
  rcases Classical.em (isFirst i = 1#1) with h1 | h1 <;> rcases Classical.em (k2_cond2 i = 1#1) with h2 | h2
  all_goals
    sl_exec
    sl_step
    iapply Hk
    isplitl [H2]
    · iexists _; isplitr; swap; iexact H2; ipureintro; rfl
    isplitl [H3]
    · iexists _; isplitr; swap; iexact H3; ipureintro; rfl
    isplitl [H4]
    · iexists _; isplitr; swap; iexact H4; ipureintro; rfl
    isplitl [H5]
    · iexists _; isplitr; swap; iexact H5; ipureintro; rfl
    isplitl [H6]
    · iexists _; isplitr; swap; iexact H6; ipureintro; rfl
    isplitl [H7]
    · iexists _; isplitr; swap; iexact H7; ipureintro; rfl
    isplitl [H8]
    · iexists _; isplitr; swap; iexact H8; ipureintro; rfl
    isplitl [H9]
    · iexists _; isplitr; swap; iexact H9; ipureintro; rfl
    isplitl [H10]
    · iexists _; isplitr; swap; iexact H10; ipureintro
      first
        | exact (if_neg h2).symm
        | refine ((View.read_writes_full _ _ _ _ _).trans ?_).trans (if_pos h2).symm
          refine congr (congr (congr (congrArg k2_pay35 ?_) ?_) rfl) rfl
          · refine (View.readCov_full _ _ _ _ _).trans ?_
            refine congr (congr (congr (congrArg k2_pay32 rfl) rfl) ?_) ?_
            all_goals first
              | exact (View.readCov_full _ _ _ _ _).trans (if_pos h1).symm
              | exact (View.readAt_full _ _ _).trans (if_neg h1).symm
          · refine (View.readCov_full _ _ _ _ _).trans ?_
            refine congr (congr (congrArg k2_pay33 rfl) ?_) ?_
            all_goals first
              | exact (View.readCov_full _ _ _ _ _).trans (if_pos h1).symm
              | exact (View.readAt_full _ _ _).trans (if_neg h1).symm
    isplitl [H11]
    · iexists _; isplitr; swap; iexact H11; ipureintro
      refine (View.read_writes_full _ _ _ _ _).trans ?_
      refine congr (congrArg k2_pay34 rfl) ?_
      first
        | exact (View.readCov_full _ _ _ _ _).trans (if_pos h1).symm
        | exact (View.readAt_full _ _ _).trans (if_neg h1).symm
    isplitl [H12]
    · iexists _; isplitr; swap; iexact H12; ipureintro
      refine (View.read_writes_full _ _ _ _ _).trans ?_
      refine congr (congr (congrArg k2_pay33 rfl) ?_) ?_
      all_goals first
        | exact (View.readCov_full _ _ _ _ _).trans (if_pos h1).symm
        | exact (View.readAt_full _ _ _).trans (if_neg h1).symm
    · iexists _; isplitr; swap; iexact H13; ipureintro
      refine (View.read_writes_full _ _ _ _ _).trans ?_
      refine congr (congr (congr (congrArg k2_pay32 rfl) rfl) ?_) ?_
      all_goals first
        | exact (View.readCov_full _ _ _ _ _).trans (if_pos h1).symm
        | exact (View.readAt_full _ _ _).trans (if_neg h1).symm

end Cert.Proof.Two

end
-- ==== Proof.Data2.lean ====
/-
  The second attention region's data: the running maximum, sum and accumulator of each row after each point, and what is written at the last
  column block of a row block. What lies beside an input block that runs past its array is anything.
-/
module

public import proofs.«01_k».proof.Proof.Data
public import proofs.«01_k».proof.Proof.Body2
public import proofs.«01_k».proof.Proof.Gen.KernelIdeal.Points

@[expose] public section

set_option maxRecDepth 16384

noncomputable section

namespace Cert.Proof.Two

open Idealize.ShloMosaic Idealize.ShloMosaic.TcCoe
open Idealize.SL Idealize.SL.RA
open Idealize.SL.BI (sProp bigSep bigSep_congr bigSep_mono bigSep_sep')
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F] [Named F]

local notation "𝕄" => MT nD τ sig Unit (Elt F) ℕ UU ℕ

variable (W : Valuation τ sig (Elt F)) (c : Dev nD)

/-- The part inside the array of window `w`'s block at point `t`, of the contents the region is entered at. -/
def blk (w : Fin cfg2.W) (t : Fin cfg2.N) : ((cfg2.win w).xblock (cfg2.grid.coords t)).Idx → Elt F (cfg2.win w).elt :=
  ((cfg2.win w).blk t).view.read (Elt F) (W (Proc.devRef .tc (arrRef spec2 w)))

/-- The block of the adjacency matrix, with `d` beside it. -/
def adj (t : Fin cfg2.N) (d : Vec F S256x512 .i32) : Vec F S256x512 .i32 := (cfg2.win 0).fill (cfg2.grid.coords t) d (blk W 0 t)
/-- The block of the relation numbers, with `d` beside it. -/
def ids (t : Fin cfg2.N) (d : Vec F S256x512 .i32) : Vec F S256x512 .i32 := (cfg2.win 1).fill (cfg2.grid.coords t) d (blk W 1 t)

/-- The masked scores of point `t`'s block. -/
def escore (t : Fin cfg2.N) (d e : Vec F S256x512 .i32) : FVec F S256x512 .f32 :=
  eblk (grid2.coords t) (adj W t d) (ids W t e) (blk W 3 t) (blk W 4 t) (blk W 5 t)
/-- The running maximum after a point. -/
def newM (t : Fin cfg2.N) (d e : Vec F S256x512 .i32) (m : Vec F S1x256x1 .f32) : Vec F S1x256x1 .f32 :=
  k2_pay34 (escore W t d e) (startM (grid2.coords t) m)
/-- The running sum after a point. -/
def newL (t : Fin cfg2.N) (d e : Vec F S256x512 .i32) (m l : Vec F S1x256x1 .f32) : Vec F S1x256x1 .f32 :=
  k2_pay33 (escore W t d e) (startM (grid2.coords t) m) (startL (grid2.coords t) l)
/-- The accumulator after a point. -/
def newA (t : Fin cfg2.N) (d e : Vec F S256x512 .i32) (m : Vec F S1x256x1 .f32) (a : Vec F S1x256x128 .f32) : Vec F S1x256x128 .f32 :=
  k2_pay32 (hblk (grid2.coords t) (blk W 2 t)) (escore W t d e) (startM (grid2.coords t) m) (startA (grid2.coords t) a)

/-- What the scratch buffers may hold before point `n`. -/
def Reach : ℕ → Vec F S1x256x1 .f32 → Vec F S1x256x1 .f32 → Vec F S1x256x128 .f32 → Prop
  | 0 => fun _ _ _ => True
  | n + 1 => fun m' l' a' => ∃ (h : n < cfg2.N) (m l : Vec F S1x256x1 .f32) (a : Vec F S1x256x128 .f32) (d e : Vec F S256x512 .i32),
      Reach n m l a
      ∧ m' = newM W ⟨n, h⟩ d e m ∧ l' = newL W ⟨n, h⟩ d e m l ∧ a' = newA W ⟨n, h⟩ d e m a

/-- The scratch buffers before point `n`. -/
def inv (n : ℕ) : sProp 𝕄 :=
  iprop((∃ m l a, ⌜Reach W n m l a⌝ ∗ owns (c : Thread nD τ) (Memref.whole cc2_scratch0) fullShare m
      ∗ owns (c : Thread nD τ) (Memref.whole cc2_scratch1) fullShare l ∗ owns (c : Thread nD τ) (Memref.whole cc2_scratch2) fullShare a)
    ∗ scopedRestBut spec2 c [cc2_scratch0, cc2_scratch1, cc2_scratch2])

/-- The region's data. -/
def dat : Dat τ (Elt F) Unit ℕ UU ℕ cfg2 c :=
  still cfg2 c (fun w => W (Proc.devRef .tc (arrRef spec2 w))) (fun t => inv W c t.val)

theorem share (w : Fin cfg2.W) : (dat W c).share w = fullShare := still_share cfg2 c _ _ w

/-- The output windows are told by a predicate. -/
def marks (w : Fin 9) : Bool := decide (8 ≤ w.val)

/-- What is left in an output window at point `t`: at a last column block, the row block of the scratch buffers then held. -/
def Rl (w : Fin cfg2.W) (t : Fin cfg2.N) : ((cfg2.win w).block.Idx → Elt F (cfg2.win w).elt) → Prop :=
  match w with
  | 8 => fun X => k2_cond2 (grid2.coords t) = 1#1 → ∃ m l a, Reach W (t.val + 1) m l a
      ∧ X = k2_pay35 a l (all2 (blk W 6 t) inb_S128x64_S128x64_0_0) (all2 (blk W 7 t) inb_S1x64_S1x64_0_0)
  | _ => fun _ => True

theorem before_eq (w : Fin cfg2.W) (hw : (cfg2.win w).isOut = false) (hlive : ∀ i, cfg2.idle w i = false)
    (hclip : ∀ t t' : Fin cfg2.N, (cfg2.win w).index t = (cfg2.win w).index t' →
      (cfg2.win w).clip (cfg2.grid.coords t) = (cfg2.win w).clip (cfg2.grid.coords t'))
    (t : Fin cfg2.N) (d) : (dat W c).before w t d = (cfg2.win w).fill (cfg2.grid.coords t) d (blk W w t) :=
  (dat W c).before_in_eq_fetched w hw hlive hclip (fun _ => (cfg2.win w).cut_fill _ _ _) t d

theorem before0 (t : Fin cfg2.N) (d) : (dat W c).before 0 t d = adj W t d := (dat W c).before_fetched 0 t (fetch2_0 t) d
theorem before1 (t : Fin cfg2.N) (d) : (dat W c).before 1 t d = ids W t d := (dat W c).before_fetched 1 t (fetch2_1 t) d
theorem before2 (t : Fin cfg2.N) (d) : (dat W c).before 2 t d = blk W 2 t := before_eq W c 2 rfl (fun _ => rfl) (fun _ _ _ => rfl) t d
theorem before3 (t : Fin cfg2.N) (d) : (dat W c).before 3 t d = blk W 3 t := before_eq W c 3 rfl (fun _ => rfl) (fun _ _ _ => rfl) t d
theorem before4 (t : Fin cfg2.N) (d) : (dat W c).before 4 t d = blk W 4 t := before_eq W c 4 rfl (fun _ => rfl) (fun _ _ _ => rfl) t d
theorem before5 (t : Fin cfg2.N) (d) : (dat W c).before 5 t d = blk W 5 t := before_eq W c 5 rfl (fun _ => rfl) (fun _ _ _ => rfl) t d
theorem before6 (t : Fin cfg2.N) (d) : (dat W c).before 6 t d = blk W 6 t := before_eq W c 6 rfl (fun _ => rfl) (fun _ _ _ => rfl) t d
theorem before7 (t : Fin cfg2.N) (d) : (dat W c).before 7 t d = blk W 7 t := before_eq W c 7 rfl (fun _ => rfl) (fun _ _ _ => rfl) t d

theorem kept0 (t : Fin cfg2.N) (d : Vec F S256x512 .i32) :
    (cfg2.win 0).fill (grid2.coords t) d ((cfg2.win 0).cut (grid2.coords t) ((dat W c).after 0 t)) = adj W t d :=
  congrArg ((cfg2.win 0).fill (grid2.coords t) d) ((cfg2.win 0).cut_fill _ _ _)
theorem kept1 (t : Fin cfg2.N) (d : Vec F S256x512 .i32) :
    (cfg2.win 1).fill (grid2.coords t) d ((cfg2.win 1).cut (grid2.coords t) ((dat W c).after 1 t)) = ids W t d :=
  congrArg ((cfg2.win 1).fill (grid2.coords t) d) ((cfg2.win 1).cut_fill _ _ _)

/-- What the body is handed. -/
def pre (t : Fin cfg2.N) : sProp 𝕄 :=
  iprop(inv W c t.val ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d))
    ∗ (∃ d, owns (c : Thread nD τ) (st2_5 t) fullShare ((dat W c).before 5 t d))
    ∗ (∃ d, owns (c : Thread nD τ) (st2_6 t) fullShare ((dat W c).before 6 t d))
    ∗ (∃ d, owns (c : Thread nD τ) (st2_7 t) fullShare ((dat W c).before 7 t d))
    ∗ (∃ Y, ⌜((dat W c).toRRel marks (Rl W)).Finds 8 t Y⌝ ∗ owns (c : Thread nD τ) (st2_8 t) fullShare Y))

/-- What it leaves. -/
def post (t : Fin cfg2.N) : sProp 𝕄 :=
  iprop(inv W c (t.val + 1) ∗ (dat W c).owesAt () t.succ
    ∗ (∃ d, owns (c : Thread nD τ) (st2_0 t) fullShare (adj W t d))
    ∗ (∃ d, owns (c : Thread nD τ) (st2_1 t) fullShare (ids W t d))
    ∗ owns (c : Thread nD τ) (st2_2 t) fullShare (blk W 2 t)
    ∗ owns (c : Thread nD τ) (st2_3 t) fullShare (blk W 3 t)
    ∗ owns (c : Thread nD τ) (st2_4 t) fullShare (blk W 4 t)
    ∗ owns (c : Thread nD τ) (st2_5 t) fullShare (blk W 5 t)
    ∗ owns (c : Thread nD τ) (st2_6 t) fullShare (blk W 6 t)
    ∗ owns (c : Thread nD τ) (st2_7 t) fullShare (blk W 7 t)
    ∗ (∃ X, ⌜Rl W 8 t X⌝ ∗ owns (c : Thread nD τ) (st2_8 t) fullShare X))

/-- The adjacency block, as the data tell what is kept of it. -/
theorem left0 (t : Fin cfg2.N) : (iprop(∃ d, owns (c : Thread nD τ) (st2_0 t) fullShare (adj W t d)) : sProp 𝕄)
    ⊢ iprop(∃ d, owns (c : Thread nD τ) ((cfg2.win 0).stage (cfg2.slots t 0)) fullShare
      ((cfg2.win 0).fill (cfg2.grid.coords t) d ((cfg2.win 0).cut (cfg2.grid.coords t) ((dat W c).after 0 t)))) := by
  iintro ⟨%d, H⟩; iexists d; rw [kept0 W c t d]; iexact H
/-- The relation numbers' block, likewise. -/
theorem left1 (t : Fin cfg2.N) : (iprop(∃ d, owns (c : Thread nD τ) (st2_1 t) fullShare (ids W t d)) : sProp 𝕄)
    ⊢ iprop(∃ d, owns (c : Thread nD τ) ((cfg2.win 1).stage (cfg2.slots t 1)) fullShare
      ((cfg2.win 1).fill (cfg2.grid.coords t) d ((cfg2.win 1).cut (cfg2.grid.coords t) ((dat W c).after 1 t)))) := by
  iintro ⟨%d, H⟩; iexists d; rw [kept1 W c t d]; iexact H

theorem sound (t : Fin cfg2.N) :
    pre W c t ⊢ wp frame (wpE (defs₀ (F := F)) Variants.none c none) Set.univ (bodyAt2 t) (fun _ => post W c t) := by
  unfold pre post bodyAt2 inv
  simp only [before0, before1, before2, before3, before4, before5, before6, before7]
  rw [show (dat W c).owesAt () t.succ = (dat W c).owesAt () t.castSucc from rfl]
  iintro ⟨⟨⟨%m, %l, %a, %hr, Hm, Hl, Ha⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩,
    ⟨%Y8, -, H8⟩⟩
  have hs : Reach W (t.val + 1) (newM W t d0 d1 m) (newL W t d0 d1 m l) (newA W t d0 d1 m a) :=
    ⟨t.isLt, m, l, a, d0, d1, hr, rfl, rfl, rfl⟩
  iapply (body c Set.univ (grid2.coords t) _ _ _ _ _ _ _ _ _ _ _ _ _ _ _ _ _ _ _ _ _ _ _ _
    (adj W t d0) (ids W t d1) (blk W 2 t) (blk W 3 t) (blk W 4 t) (blk W 5 t) (blk W 6 t) (blk W 7 t) Y8 m l a _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hm]; · iexact Hm
  isplitl [Hl]; · iexact Hl
  isplitl [Ha]; · iexact Ha
  iintro ⟨H0, H1, H2, H3, H4, H5, H6, H7, H8, Hm, Hl, Ha⟩
  isplitl [HΦ Hm Hl Ha]
  · isplitl [Hm Hl Ha]
    · iexists _; iexists _; iexists _; isplitr; · ipureintro; exact hs
      isplitl [Hm]; · iexact Hm
      isplitl [Hl]; · iexact Hl
      iexact Ha
    iexact HΦ
  isplitl [Ho]; · iexact Ho
  isplitl [H0]; · iexists _; iexact H0
  isplitl [H1]; · iexists _; iexact H1
  isplitl [H2]; · iexact H2
  isplitl [H3]; · iexact H3
  isplitl [H4]; · iexact H4
  isplitl [H5]; · iexact H5
  isplitl [H6]; · iexact H6
  isplitl [H7]; · iexact H7
  iexists _; isplitr; swap; iexact H8; ipureintro; exact fun h => ⟨_, _, _, hs, if_pos h⟩

theorem row (t : Fin cfg2.N) : (defs₀ (F := F)) .tc cfg2.body (cfg2.bodyArgs t (cfg2.slots t)) = bodyAt2 t := by
  unfold defs₀; rw [Defs.onTc_tc]

theorem obligation : BodyObligationRel (dat W c) (defs₀ (F := F)) Variants.none () Set.univ marks (Rl W) := fun t => by
  rw [bigSep_W2, bigSep_W2, row]
  exact triple_restated (sound W c t) rfl .rfl fun _ => sep_mono .rfl (sep_mono .rfl (sep_mono (left0 W c t) (sep_mono (left1 W c t) .rfl)))

/-- The region's scratch buffers are found at anything. -/
theorem enter : (scopedRest spec2 c : sProp 𝕄) ⊢ inv W c 0 := by
  rw [scopedRest2_split]; unfold inv
  iintro ⟨⟨⟨%m, Hm⟩, ⟨%l, Hl⟩, ⟨%a, Ha⟩⟩, H⟩
  isplitl [Hm Hl Ha]
  · iexists m; iexists l; iexists a; isplitr; · ipureintro; exact trivial
    rw [owns_whole, owns_whole, owns_whole]
    isplitl [Hm]; · iexact Hm
    isplitl [Hl]; · iexact Hl
    iexact Ha
  iexact H

/-- And left at something. -/
theorem leave (n : ℕ) : inv W c n ⊢ (scopedRest spec2 c : sProp 𝕄) := by
  rw [scopedRest2_split]; unfold inv
  iintro ⟨⟨%m, %l, %a, -, Hm, Hl, Ha⟩, H⟩
  isplitl [Hm Hl Ha]
  · isplitl [Hm]; · iapply (some_owns c cc2_scratch0 m); iexact Hm
    isplitl [Hl]; · iapply (some_owns c cc2_scratch1 l); iexact Hl
    iapply (some_owns c cc2_scratch2 a); iexact Ha
  iexact H

theorem enters : (scopedRest spec2 c : sProp 𝕄) ⊢ (dat W c).Φ 0 := enter W c
theorem leaves : (dat W c).Φ (Fin.last cfg2.N) ⊢ (scopedRest spec2 c : sProp 𝕄) := leave W c _

end Cert.Proof.Two
-- ==== Proof.Frame.lean ====
/-
  The frame: the three regions' data put together, what a region leaves alone, and with it the run of the whole program, over any
  floats.
-/
module

public import proofs.«01_k».proof.Proof.Twin
public import proofs.«01_k».proof.Proof.Data0
public import proofs.«01_k».proof.Proof.Data1
public import proofs.«01_k».proof.Proof.Data2

@[expose] public section

set_option maxRecDepth 16384

noncomputable section

namespace Cert.Proof

open Idealize.ShloMosaic Idealize.ShloMosaic.TcCoe
open Idealize.SL Idealize.SL.RA
open Idealize.SL.BI (sProp bigSep bigSep_congr bigSep_mono bigSep_sep')
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F] [Named F]

/-- The three regions' data. -/
def bodies (F : FTy → Type) [FloatOps F] [Named F] : Bodies F where
  dat W := fun | 0 => fun c => Zero.dat W c | 1 => fun c => One.dat W c | 2 => fun c => Two.dat W c
  fg := fun | 0 => Zero.marks | 1 => One.marks | 2 => Two.marks
  Rl W := fun | 0 => fun _ => Zero.Rl W | 1 => fun _ => One.Rl W | 2 => fun _ => Two.Rl W
  body W := fun | 0 => fun c => Zero.obligation W c | 1 => fun c => One.obligation W c | 2 => fun c => Two.obligation W c
  owed W := fun | 0 => fun _ _ => rfl | 1 => fun _ _ => rfl | 2 => fun _ _ => rfl
  recorded W := fun | 0 => fun _ => rfl | 1 => fun _ => rfl | 2 => fun _ => rfl
  share W := fun | 0 => fun c w => Zero.share W c w | 1 => fun c w => One.share W c w | 2 => fun c w => Two.share W c w
  entry W := fun | 0 => fun _ _ => rfl | 1 => fun _ _ => rfl | 2 => fun _ _ => rfl
  enter W := fun | 0 => fun c => Zero.enters W c | 1 => fun c => One.enters W c | 2 => fun c => Two.enters W c
  leave W := fun | 0 => fun c => Zero.leaves W c | 1 => fun c => One.leaves W c | 2 => fun c => Two.leaves W c

namespace Bodies

variable (B : Bodies F)

/-- A region leaves alone every buffer that is no output window's array. -/
theorem Leaves.keep {q : Fin 3} {c : Dev nD} {W W' : Valuation τ sig (Elt F)} (h : B.Leaves q c W W') (d : DevRef τ sig)
    (hd : ∀ w, ((pin (pcfgs (F := F)) adm q).win w).isOut = true → d ≠ Proc.devRef .tc (arrRef (pin (pcfgs (F := F)) adm q).spec w)) :
    W' d = W d := by
  by_cases hw : ∃ w, d = Proc.devRef .tc (arrRef (pin (pcfgs (F := F)) adm q).spec w)
  · obtain ⟨w, rfl⟩ := hw
    have hin : ((pin (pcfgs (F := F)) adm q).win w).isOut = false := by
      cases ho : ((pin (pcfgs (F := F)) adm q).win w).isOut
      · rfl
      · exact absurd rfl (hd w ho)
    obtain ⟨⟨after, -, ha⟩, -⟩ := h
    exact (ha w).symm.trans ((Dat.arrAt_in _ w hin _).trans (B.entry W q c w))
  · exact h.2 d fun w hw' => hw ⟨w, hw'⟩

end Bodies

/-- The arrays of the program's output windows. -/
abbrev written : List (Ref sig .tc) := [main_v8_0, main_v8_1, main_v8_2, main_v8_3, main_v12_0, main_v12_1, main_v12_2, main_v15]

theorem out0 : ∀ w : Fin 10, (spec0 w).isOut = true → arrRef spec0 w ∈ written := by decide
theorem out1 : ∀ w : Fin 12, (spec1 w).isOut = true → arrRef spec1 w ∈ written := by decide
theorem out2 : ∀ w : Fin 9, (spec2 w).isOut = true → arrRef spec2 w ∈ written := by decide

/-- A buffer that nothing writes. -/
def Kept (b : Ref sig .tc) : Prop := b ∉ written ∧ b ∉ hostOps0_W ∧ b ∉ hostOps1_W ∧ b ∉ hostOps2_W ∧ b ∉ hostOps3_W

instance (b : Ref sig .tc) : Decidable (Kept b) := by unfold Kept; infer_instance

theorem out_ne {q : Fin 3} {b : Ref sig .tc} (h : b ∉ written) (w) (ho : ((pin (pcfgs (F := F)) adm q).win w).isOut = true) :
    (Proc.devRef .tc b : DevRef τ sig) ≠ Proc.devRef .tc (arrRef (pin (pcfgs (F := F)) adm q).spec w) :=
  StableHlo.devRef_ne_of_ne fun e => h (e ▸ match q, w, ho with
    | 0, w, ho => out0 w ho
    | 1, w, ho => out1 w ho
    | 2, w, ho => out2 w ho)

/-- What nothing writes ends as launched. -/
theorem ends_kept (m : (ℓ : Loc nD τ sig) → Buf (Elt F) ℓ) (c : Dev nD) (V : Valuation τ sig (Elt F)) (h : (bodies F).Ends m c V)
    (b : Ref sig .tc) (hb : Kept b) : V (Proc.devRef .tc b) = m ((c.tc : Thread nD τ).loc b) := by
  obtain ⟨W1, W2, W3, h1, h2, h3, rfl⟩ := h
  obtain ⟨hw, b0, b1, b2, b3⟩ := hb
  exact (StableHlo.after_of_writes_sub hostOps3 _ hostOps3_writes b3).trans <| (h3.keep _ _ (out_ne hw)).trans <|
    (StableHlo.after_of_writes_sub hostOps2 _ hostOps2_writes b2).trans <| (h2.keep _ _ (out_ne hw)).trans <|
    (StableHlo.after_of_writes_sub hostOps1 _ hostOps1_writes b1).trans <| (h1.keep _ _ (out_ne hw)).trans <|
    (V1_of m c b b0).trans rfl

/-- The frame, over any floats. -/
theorem frame_over : FrameOver F := fun m g _ => by
  refine (θ_run _ _ _).mono (fun r h => ⟨fun c => ?_, h.2⟩) ((bodies F).launch m g)
  obtain ⟨V, hV, hr⟩ := h.1 c
  have key : ∀ b : Ref sig .tc, b.isScoped = false → Kept b → r.2.mem ((c.tc : Thread nD τ).loc b) = m ((c.tc : Thread nD τ).loc b) :=
    fun b hs hb => (hr b hs).trans (ends_kept m c V hV b hb)
  exact ⟨key _ rfl (by decide), key _ rfl (by decide), key _ rfl (by decide), key _ rfl (by decide), key _ rfl (by decide),
    key _ rfl (by decide), key _ rfl (by decide), key _ rfl (by decide), key _ rfl (by decide), key _ rfl (by decide),
    key _ rfl (by decide), key _ rfl (by decide), key _ rfl (by decide), key _ rfl (by decide)⟩

end Cert.Proof
-- ==== Proof.Claims.lean ====
/-
  The claims that hold at every input: the frames of the printed kernel, of its idealization and of the reference, and the one rule.
-/
module

public import proofs.«01_k».proof.Proof.Frame
public import proofs.«01_k».proof.Proof.Gen.Kernel
public import proofs.«01_k».proof.Proof.Gen.ReferenceIdeal.Run

@[expose] public section

noncomputable section

namespace Cert.Proof

open Idealize.ShloMosaic Idealize.SL.Sem

theorem frame_p : Cert.quiescent_Kernel := by
  rw [frame_words]; exact frame_over

theorem frame_pi : Cert.quiescent_KernelIdeal := frame_over

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "pad" .f32 0xF149F2CA#32 ⊥ rfl

end Cert.Proof
-- ==== Proof.Softmax.lean ====
/-
  The mathematics of a softmax folded block by block: real scores `E`, real values `v`, columns taken 512 at a time, the last
  block running past the 5000 columns. What is kept is any real reference point, the sum of exponentials against it, and the
  weighted sum; their quotient is the softmax mean whatever the reference point.
-/
module

public import Idealize.ShloMosaic.PureOps.Ideal
public import Idealize.ShloMosaic.Lib.Pointwise

@[expose] public section

set_option maxRecDepth 16384

noncomputable section

namespace Cert.Proof

open Idealize.ShloMosaic

/-- The sum of the first `n` of 5000 terms. -/
def part (g : Fin 5000 → ℝ) (n : ℕ) : ℝ := ∑ j ∈ Finset.range n, if h : j < 5000 then g ⟨j, h⟩ else 0

theorem part_zero (g : Fin 5000 → ℝ) : part g 0 = 0 := by simp [part]

theorem part_add (g : Fin 5000 → ℝ) (n k : ℕ) :
    part g (n + k) = part g n + ∑ q : Fin k, if h : n + q.val < 5000 then g ⟨n + q.val, h⟩ else 0 := by
  unfold part
  rw [Finset.sum_range_add, Finset.sum_range (n := k)]

theorem part_all (g : Fin 5000 → ℝ) : part g 5120 = ∑ j, g j := by
  rw [show (5120 : ℕ) = 5000 + 120 from rfl, part_add, Finset.sum_eq_zero fun q _ => dif_neg (by omega), add_zero]
  unfold part
  rw [Finset.sum_range]
  exact Finset.sum_congr rfl fun j _ => dif_pos j.isLt

theorem part_mul (g : Fin 5000 → ℝ) (n : ℕ) (c : ℝ) : part g n * c = part (fun j => g j * c) n := by
  unfold part
  rw [Finset.sum_mul]
  refine Finset.sum_congr rfl fun j _ => ?_
  split <;> simp

/-- The softmax mean of `v` under the scores `E`. -/
def att (E v : Fin 5000 → ℝ) : ℝ := (∑ j, Real.exp (E j) * v j) / ∑ j, Real.exp (E j)

theorem sum_exp_pos (E : Fin 5000 → ℝ) : 0 < ∑ j, Real.exp (E j) :=
  Finset.sum_pos (fun j _ => Real.exp_pos _) ⟨0, Finset.mem_univ _⟩

/-- The reference point does not matter. -/
theorem att_shift (E v : Fin 5000 → ℝ) (r : ℝ) :
    att E v = (∑ j, Real.exp (E j - r) * v j) / ∑ j, Real.exp (E j - r) := by
  have h1 : ∀ j, Real.exp (E j - r) = Real.exp (E j) * Real.exp (-r) := fun j => by rw [← Real.exp_add, sub_eq_add_neg]
  have h2 : (∑ j, Real.exp (E j - r) * v j) = (∑ j, Real.exp (E j) * v j) * Real.exp (-r) := by
    rw [Finset.sum_mul]; exact Finset.sum_congr rfl fun j _ => by rw [h1]; ring
  have h3 : (∑ j, Real.exp (E j - r)) = (∑ j, Real.exp (E j)) * Real.exp (-r) := by
    rw [Finset.sum_mul]; exact Finset.sum_congr rfl fun j _ => h1 j
  rw [h2, h3, att, mul_div_mul_right _ _ (Real.exp_pos _).ne']

/-- A finite sum of reals, as extended reals. -/
theorem coe_sum {ι : Type} (s : Finset ι) (g : ι → ℝ) : ((∑ j ∈ s, g j : ℝ) : EReal) = ∑ j ∈ s, (g j : EReal) := by
  classical
  induction s using Finset.induction_on with
  | empty => simp
  | insert a s ha ih => rw [Finset.sum_insert ha, Finset.sum_insert ha, EReal.coe_add, ih]

/-- The quotient of reals. -/
theorem div_coe (x y : ℝ) (hy : y ≠ 0) : Ideal.div (x : EReal) (y : EReal) = ((x / y : ℝ) : EReal) := by
  rw [Ideal.div, if_neg (by exact_mod_cast hy), div_eq_mul_inv, EReal.coe_mul, EReal.coe_inv]

/-- The pattern of minus infinity. -/
theorem negInf : Ideal.ofBits .f32 0xFF800000#32 = ⊥ := by simp [Ideal.ofBits, Ideal.ieee]

/-- The maximum of finitely many numbers is real as soon as none is infinite above and one is real. -/
theorem fold_max_real {ι : Type} [Fintype ι] (s : ι → EReal) (ht : ∀ q, s q ≠ ⊤) (q₀ : ι) (hb : s q₀ ≠ ⊥) :
    ∃ r : ℝ, Finset.univ.fold max (⊥ : EReal) s = r := by
  have e : Finset.univ.fold max (⊥ : EReal) s = Finset.univ.sup s := rfl
  rw [e]
  have h1 : Finset.univ.sup s ≠ ⊤ := by
    refine ne_of_lt ((Finset.sup_lt_iff (by exact bot_lt_top)).2 fun q _ => lt_top_iff_ne_top.2 (ht q))
  have h2 : Finset.univ.sup s ≠ ⊥ := fun h => hb (le_bot_iff.1 (h ▸ Finset.le_sup (f := s) (Finset.mem_univ q₀)))
  exact ⟨_, (EReal.coe_toReal h1 h2).symm⟩

/-- What is kept of the first `n` columns: a real reference point, the sum of exponentials, the weighted sum. -/
def Held (E v : Fin 5000 → ℝ) (n : ℕ) (m l a : EReal) : Prop :=
  ∃ r : ℝ, m = r ∧ l = ((part (fun j => Real.exp (E j - r)) n : ℝ) : EReal)
    ∧ a = ((part (fun j => Real.exp (E j - r) * v j) n : ℝ) : EReal)

/-- One block of 512 columns. -/
theorem Held.step {E v : Fin 5000 → ℝ} {n : ℕ} (hn : n < 5000) {m l a : EReal} {s h : Fin 512 → EReal}
    (hs : ∀ (q : Fin 512) (hq : n + q.val < 5000), s q = (E ⟨n + q.val, hq⟩ : EReal))
    (hp : ∀ q : Fin 512, 5000 ≤ n + q.val → s q = ⊥)
    (hv : ∀ (q : Fin 512) (hq : n + q.val < 5000), h q = (v ⟨n + q.val, hq⟩ : EReal))
    (H : (n = 0 ∧ m = ⊥ ∧ l = 0 ∧ a = 0) ∨ Held E v n m l a) :
    Held E v (n + 512) (max m (Finset.univ.fold max ⊥ s))
      (l * Ideal.exp (m - max m (Finset.univ.fold max ⊥ s)) + ∑ q, Ideal.exp (s q - max m (Finset.univ.fold max ⊥ s)))
      (a * Ideal.exp (m - max m (Finset.univ.fold max ⊥ s)) + ∑ q, Ideal.exp (s q - max m (Finset.univ.fold max ⊥ s)) * h q) := by
  obtain ⟨M, hM⟩ : ∃ r : ℝ, Finset.univ.fold max (⊥ : EReal) s = r := by
    refine fold_max_real s (fun q => ?_) 0 ?_
    · rcases lt_or_ge (n + q.val) 5000 with hq | hq
      · rw [hs q hq]; exact EReal.coe_ne_top _
      · rw [hp q hq]; exact bot_ne_top
    · rw [hs 0 (by simpa using hn)]; exact EReal.coe_ne_bot _
  obtain ⟨r, hr⟩ : ∃ r : ℝ, max m (Finset.univ.fold max ⊥ s) = r := by
    rw [hM]
    rcases H with ⟨_, hm, _⟩ | ⟨r, hm, _⟩
    · exact ⟨M, by rw [hm]; exact max_eq_right bot_le⟩
    · exact ⟨max r M, by rw [hm]; exact (EReal.coe_strictMono.monotone.map_max (a := r) (b := M)).symm⟩
  rw [hr]
  have p1 : ∀ q : Fin 512, Ideal.exp (s q - r) = ((if hq : n + q.val < 5000 then Real.exp (E ⟨n + q.val, hq⟩ - r) else 0 : ℝ) : EReal) := by
    intro q
    split
    · next hq => rw [hs q hq, ← EReal.coe_sub, Ideal.exp_coe]
    · next hq => rw [hp q (by omega), EReal.bot_sub, Ideal.exp_bot]; simp
  have p2 : ∀ q : Fin 512, Ideal.exp (s q - r) * h q
      = ((if hq : n + q.val < 5000 then Real.exp (E ⟨n + q.val, hq⟩ - r) * v ⟨n + q.val, hq⟩ else 0 : ℝ) : EReal) := by
    intro q
    rw [p1]
    split
    · next hq => rw [hv q hq, EReal.coe_mul]
    · simp
  refine ⟨r, rfl, ?_, ?_⟩
  · rw [part_add, EReal.coe_add, coe_sum, Finset.sum_congr rfl fun q _ => p1 q]
    congr 1
    rcases H with ⟨h0, _, hl, _⟩ | ⟨r₀, hm, hl, _⟩
    · rw [hl, h0, part_zero]; simp
    · rw [hm, hl, ← EReal.coe_sub, Ideal.exp_coe, ← EReal.coe_mul, part_mul]
      congr 2; funext j; rw [← Real.exp_add]; congr 1; ring
  · rw [part_add, EReal.coe_add, coe_sum, Finset.sum_congr rfl fun q _ => p2 q]
    congr 1
    rcases H with ⟨h0, _, _, ha⟩ | ⟨r₀, hm, _, ha⟩
    · rw [ha, h0, part_zero]; simp
    · rw [hm, ha, ← EReal.coe_sub, Ideal.exp_coe, ← EReal.coe_mul, part_mul]
      congr 2; funext j; rw [mul_right_comm, ← Real.exp_add]; congr 2; ring

/-- After all the columns the quotient is the softmax mean. -/
theorem Held.out {E v : Fin 5000 → ℝ} {m l a : EReal} (H : Held E v 5120 m l a) : Ideal.div a l = (att E v : EReal) := by
  obtain ⟨r, _, hl, ha⟩ := H
  rw [hl, ha, part_all, part_all, div_coe _ _ (sum_exp_pos fun j => E j - r).ne', ← att_shift]

/-- The softmax mean as written with each weight divided first. -/
theorem att_divided (E v : Fin 5000 → ℝ) (e h : Fin 5000 → EReal) (he : ∀ j, e j = E j) (hh : ∀ j, h j = v j) :
    (∑ j, Ideal.div (Ideal.exp (e j - max ⊥ (Finset.univ.fold max ⊥ e)))
      (∑ k, Ideal.exp (e k - max ⊥ (Finset.univ.fold max ⊥ e))) * h j) = (att E v : EReal) := by
  obtain ⟨r, hr⟩ := fold_max_real e (fun q => by rw [he]; exact EReal.coe_ne_top _) 0 (by rw [he]; exact EReal.coe_ne_bot _)
  rw [hr, max_eq_right bot_le]
  have p : ∀ j, Ideal.exp (e j - r) = ((Real.exp (E j - r) : ℝ) : EReal) := fun j => by rw [he, ← EReal.coe_sub, Ideal.exp_coe]
  simp only [p, hh]
  rw [← coe_sum, att_shift E v r, Finset.sum_div]
  refine Eq.trans ?_ (coe_sum _ _).symm
  refine Finset.sum_congr rfl fun j _ => ?_
  rw [div_coe _ _ (sum_exp_pos fun j => E j - r).ne', ← EReal.coe_mul]
  congr 1; ring

end Cert.Proof
-- ==== Proof.Spec.lean ====
/-
  The graph attention network over the reals: one attention layer, the four heads, and what is handed to the last linear layer.
-/
module

public import proofs.«01_k».proof.Proof.Softmax

@[expose] public section

set_option maxRecDepth 16384

noncomputable section

namespace Cert.Proof

open Idealize.ShloMosaic

/-- The slope of the leaky rectifier. -/
def slope : ℝ := 13421773 / 67108864

/-- The score of a pair that is not adjacent. -/
def low : ℝ := -(16763806 * 536870912)

theorem slope_eq : Ideal.ofBits .f32 0x3E4CCCCD#32 = (slope : EReal) := by
  simp [Ideal.ofBits, Ideal.ieee, -EReal.coe_mul, slope]; norm_num
theorem low_eq : Ideal.ofBits .f32 0xD9FFCB9E#32 = (low : EReal) := by
  simp [Ideal.ofBits, Ideal.ieee, -EReal.coe_mul, low]; norm_num
theorem four_eq : Ideal.ofBits .f32 0x40800000#32 = ((4 : ℝ) : EReal) := by
  simp [Ideal.ofBits, Ideal.ieee, -EReal.coe_mul]; norm_num
theorem quarter_eq : Ideal.ofBits .f32 0x3E800000#32 = ((1 / 4 : ℝ) : EReal) := by
  simp [Ideal.ofBits, Ideal.ieee, -EReal.coe_mul]; norm_num

/-- The leaky rectifier. -/
def leak (z : ℝ) : ℝ := max z (slope * z)

theorem leak_of_nonneg {z : ℝ} (h : 0 ≤ z) : leak z = z := by
  unfold leak slope; exact max_eq_left (by linarith)
theorem leak_of_neg {z : ℝ} (h : z < 0) : leak z = slope * z := by
  unfold leak slope; exact max_eq_right (by linarith)

/-- The exponential linear unit. -/
def elu (z : ℝ) : ℝ := if 0 < z then z else Real.exp z - 1

/-- A row of numbers against a column. -/
def dot {n : ℕ} (x y : Fin n → ℝ) : ℝ := ∑ k, x k * y k

/-- A word read as one of the sixteen relations. -/
def relOf (w : BitVec 32) : Fin 16 := ⟨w.toNat % 16, Nat.mod_lt _ (by decide)⟩

/-- The score of a pair, from its adjacency word and the sum of its three terms. -/
def logit (a : BitVec 32) (z : ℝ) : ℝ := if (0#32).slt a then leak z else low

/-- The scores of a layer. -/
def score (h : Fin 5000 → Fin 128 → ℝ) (a1 a2 : Fin 128 → ℝ) (rb : Fin 16 → ℝ) (ids adj : Fin 5000 → Fin 5000 → BitVec 32)
    (i j : Fin 5000) : ℝ :=
  logit (adj i j) (dot (h i) a1 + dot (h j) a2 + rb (relOf (ids i j)))

/-- An attention layer. -/
def layer (h : Fin 5000 → Fin 128 → ℝ) (a1 a2 : Fin 128 → ℝ) (rb : Fin 16 → ℝ) (ids adj : Fin 5000 → Fin 5000 → BitVec 32)
    (i : Fin 5000) (d : Fin 128) : ℝ :=
  att (score h a1 a2 rb ids adj i) fun j => h j d

/-- The arguments the attention layers read, as reals. -/
structure Args where
  x : Fin 5000 → Fin 128 → ℝ
  rel : Fin 16 → Fin 128 → ℝ
  ids : Fin 5000 → Fin 5000 → BitVec 32
  adj : Fin 5000 → Fin 5000 → BitVec 32
  W : Fin 4 → Fin 128 → Fin 128 → ℝ
  a1 : Fin 4 → Fin 128 → ℝ
  a2 : Fin 4 → Fin 128 → ℝ
  ar : Fin 4 → Fin 128 → ℝ
  Wo : Fin 128 → Fin 128 → ℝ
  a1o : Fin 128 → ℝ
  a2o : Fin 128 → ℝ
  aro : Fin 128 → ℝ

namespace Args

variable (A : Args)

/-- A head's features. -/
def h1 (k : Fin 4) (i : Fin 5000) (d : Fin 128) : ℝ := dot (A.x i) fun c => A.W k c d
/-- A head's relation bias. -/
def rb (k : Fin 4) (r : Fin 16) : ℝ := dot (A.rel r) (A.ar k)
/-- A head's output. -/
def head (k : Fin 4) : Fin 5000 → Fin 128 → ℝ := layer (A.h1 k) (A.a1 k) (A.a2 k) (A.rb k) A.ids A.adj
/-- The mean of the four rectified heads. -/
def mean (i : Fin 5000) (d : Fin 128) : ℝ := (∑ k, elu (A.head k i d)) / 4
/-- The second layer's features. -/
def h2 (i : Fin 5000) (d : Fin 128) : ℝ := dot (A.mean i) fun c => A.Wo c d
/-- The second layer's relation bias. -/
def rbo (r : Fin 16) : ℝ := dot (A.rel r) A.aro
/-- The second layer's output. -/
def out : Fin 5000 → Fin 128 → ℝ := layer A.h2 A.a1o A.a2o A.rbo A.ids A.adj

end Args

/-- The log-softmax of a row of 64 numbers. -/
def logSoft (y : Fin 64 → EReal) (d : Fin 64) : EReal :=
  (y d - Finset.fold max ⊥ y Finset.univ) - Ideal.log (∑ x, Ideal.exp (y x - Finset.fold max ⊥ y Finset.univ))

/-- A dot product of extended reals that are real. -/
theorem dot_coe {n : ℕ} {x y : Fin n → EReal} {a b : Fin n → ℝ} (hx : ∀ k, x k = a k) (hy : ∀ k, y k = b k) :
    ∑ k, x k * y k = (dot a b : EReal) := by
  refine Eq.trans ?_ (coe_sum _ _).symm
  exact Finset.sum_congr rfl fun k _ => by rw [hx, hy, EReal.coe_mul]

theorem dot_comm {n : ℕ} (x y : Fin n → ℝ) : dot x y = dot y x := Finset.sum_congr rfl fun k _ => mul_comm _ _

/-- The leaky rectifier as the larger of a number and its multiple. -/
theorem leak_max (z : ℝ) : max (z : EReal) (Ideal.ofBits .f32 0x3E4CCCCD#32 * z) = (leak z : EReal) := by
  rw [slope_eq, ← EReal.coe_mul]
  exact (EReal.coe_strictMono.monotone.map_max (a := z) (b := slope * z)).symm

end Cert.Proof
-- ==== Proof.Range.lean ====
/-
  The precondition, read: every relation id is below sixteen, and every float argument of the attention layers is a real number.
-/
module

public import proofs.«01_k».proof.Proof.Spec
public import proofs.«01_k».proof.Proof.Gen.Pre_in_range
public import Idealize.ShloMosaic.Lib.ReduceAll
public import Idealize.ShloMosaic.Lib.WordCmp

@[expose] public section

set_option maxRecDepth 16384

noncomputable section

namespace Cert.Proof

open Idealize.ShloMosaic
open Cert.Pre_in_range

/-- What is smaller in size than infinity is real. -/
theorem real_of_abs_lt {a : EReal} (h : max a (-a) < ⊤) : a = (a.toReal : EReal) := by
  have h1 : a ≠ ⊤ := fun e => by rw [e, max_eq_left le_top] at h; exact lt_irrefl _ h
  have h2 : a ≠ ⊥ := fun e => by rw [e, EReal.neg_bot, max_eq_right le_top] at h; exact lt_irrefl _ h
  exact (EReal.coe_toReal h1 h2).symm

theorem infinity : Ideal.ofBits .f32 0x7F800000#32 = ⊤ := by simp [Ideal.ofBits, Ideal.ieee]

theorem both (x y : IVec S_ 1) (z : S_.Idx) (h : andi x y z = 1#1) : x z = 1#1 ∧ y z = 1#1 := IntOp.andi_eq_one.1 h

instance : Subsingleton S_.Idx := ⟨fun a b => funext fun k => k.elim0⟩

/-- An array that passes the test of finiteness holds reals. -/
theorem reals {s : Shape} {axes : List (Fin s.rank)} (x : FVec Ideal s .f32) (hb : S_.BroadcastsInDim s (![] : Fin 0 → Fin s.rank)) (hr : s.ReducesTo axes S_)
    (hu : 0 < S_.numel) (z : S_.Idx)
    (h : Host.reduce IntOp.andi (cmpf .olt (Host.absf x) (broadcastInDim s ![] hb (constant S_ .f32 0x7F800000#32))) (constantI S_ 1 1#1) hr hu z = 1#1)
    (i : s.Idx) : x i = ((x i).toReal : EReal) := by
  have h1 := Host.reduce_andi_all _ _ hr hu z h i
  have h2 : Ideal.cmp .olt (max (x i) (-(x i))) (Ideal.ofBits .f32 0x7F800000#32) = 1#1 := h1
  rw [infinity] at h2
  exact real_of_abs_lt (of_decide_eq_true ((WordCmp.ofBool_eq_one_iff _).1 h2))

/-- An array of words that passes the test of range holds words below sixteen. -/
theorem below {s : Shape} {axes : List (Fin s.rank)} (x : IVec s 32) (hb : S_.BroadcastsInDim s (![] : Fin 0 → Fin s.rank)) (hr : s.ReducesTo axes S_)
    (hu : 0 < S_.numel) (z : S_.Idx)
    (h : Host.reduce IntOp.andi (andi (cmpi .sge x (broadcastInDim s ![] hb (constantI S_ 32 0#32))) (cmpi .slt x (broadcastInDim s ![] hb (constantI S_ 32 16#32))))
      (constantI S_ 1 1#1) hr hu z = 1#1)
    (i : s.Idx) : (x i).toNat < 16 := by
  have h1 := Host.reduce_andi_all _ _ hr hu z h i
  have h2 : IntOp.cmpi .sge (x i) 0#32 = 1#1 ∧ IntOp.cmpi .slt (x i) 16#32 = 1#1 := IntOp.andi_eq_one.1 h1
  rw [WordCmp.cmpi_sge_eq, WordCmp.cmpi_slt_eq, WordCmp.ofBool_eq_one_iff, WordCmp.ofBool_eq_one_iff] at h2
  have h3 := of_decide_eq_true h2.1
  have h4 := of_decide_eq_true h2.2
  have e0 : (0#32 : BitVec 32).toInt = 0 := rfl
  have e16 : (16#32 : BitVec 32).toInt = 16 := rfl
  rw [e0] at h3
  rw [e16] at h4
  have := BitVec.toInt_eq_toNat_cond (x i)
  have := (x i).isLt
  split at * <;> omega

variable (x0 : FVec Ideal S5000x128 .f32) (x1 : FVec Ideal S16x128 .f32) (x2 x3 : IVec S5000x5000 32) (x4 : FVec Ideal S4x128x128 .f32)
  (x5 x6 x7 : FVec Ideal S4x128 .f32) (x8 : FVec Ideal S128x128 .f32) (x9 x10 x11 : FVec Ideal S128 .f32) (x12 : FVec Ideal S128x64 .f32) (x13 : FVec Ideal S64 .f32)

/-- The precondition, decoded. -/
structure Fine : Prop where
  small : ∀ i, (x2 i).toNat < 16
  r0 : ∀ i, x0 i = ((x0 i).toReal : EReal)
  r1 : ∀ i, x1 i = ((x1 i).toReal : EReal)
  r4 : ∀ i, x4 i = ((x4 i).toReal : EReal)
  r5 : ∀ i, x5 i = ((x5 i).toReal : EReal)
  r6 : ∀ i, x6 i = ((x6 i).toReal : EReal)
  r7 : ∀ i, x7 i = ((x7 i).toReal : EReal)
  r8 : ∀ i, x8 i = ((x8 i).toReal : EReal)
  r9 : ∀ i, x9 i = ((x9 i).toReal : EReal)
  r10 : ∀ i, x10 i = ((x10 i).toReal : EReal)
  r11 : ∀ i, x11 i = ((x11 i).toReal : EReal)

theorem fine (h : fn (F := Ideal) x0 x1 x2 x3 x4 x5 x6 x7 x8 x9 x10 x11 x12 x13 = fun _ => 1#1) : Fine x0 x1 x2 x4 x5 x6 x7 x8 x9 x10 x11 := by
  have h := congrFun h fun k => k.elim0
  unfold fn fn_part1 fn_part2 fn_part3 at h
  dsimp only at h
  obtain ⟨h, e11⟩ := both _ _ _ h
  obtain ⟨h, e10⟩ := both _ _ _ h
  obtain ⟨h, e9⟩ := both _ _ _ h
  obtain ⟨h, e8⟩ := both _ _ _ h
  obtain ⟨h, e7⟩ := both _ _ _ h
  obtain ⟨h, e6⟩ := both _ _ _ h
  obtain ⟨h, e5⟩ := both _ _ _ h
  obtain ⟨h, e4⟩ := both _ _ _ h
  obtain ⟨h, e1⟩ := both _ _ _ h
  obtain ⟨e2, e0⟩ := both _ _ _ h
  exact ⟨below _ _ _ _ _ e2, reals _ _ _ _ _ e0, reals _ _ _ _ _ e1, reals _ _ _ _ _ e4, reals _ _ _ _ _ e5, reals _ _ _ _ _ e6, reals _ _ _ _ _ e7,
    reals _ _ _ _ _ e8, reals _ _ _ _ _ e9, reals _ _ _ _ _ e10, reals _ _ _ _ _ e11⟩

/-- The arguments the arrays hold, as reals and words. -/
def argsOf : Args where
  x i c := (x0 (ix2 i c)).toReal
  rel r c := (x1 (ix2 r c)).toReal
  ids i j := x2 (ix2 i j)
  adj i j := x3 (ix2 i j)
  W k c d := (x4 (ix3 k c d)).toReal
  a1 k c := (x5 (ix2 k c)).toReal
  a2 k c := (x6 (ix2 k c)).toReal
  ar k c := (x7 (ix2 k c)).toReal
  Wo c d := (x8 (ix2 c d)).toReal
  a1o c := (x9 (ix1 c)).toReal
  a2o c := (x10 (ix1 c)).toReal
  aro c := (x11 (ix1 c)).toReal

end Cert.Proof
-- ==== Proof.Fold.lean ====
/-
  One block of the attention kernels at an index, over the extended reals: a block's masked scores, and the step of the
  running maximum, sum and accumulator of one row.
-/
module

public import proofs.«01_k».proof.Proof.Spec
public import proofs.«01_k».proof.Proof.Block
public import Idealize.ShloMosaic.Lib.Pointwise

@[expose] public section

set_option maxRecDepth 16384

noncomputable section

namespace Cert.Proof

open Idealize.ShloMosaic Idealize.ShloMosaic.TcCoe
open Cert.KernelIdeal Cert.KernelIdeal.Gen

/-- The number standing beside the columns is minus infinity. -/
theorem pad_bot : (Named.named (F := Ideal) Cert.KernelIdeal.κ "pad" (φ := .f32) 4048155338#32 : EReal) = ⊥ := rfl

/-- The choice among the sixteen relations by the four low bits of a word. -/
def tree {α : Type} (w : BitVec 32) (s : Fin 16 → α) : α :=
  Scalar.select (IntOp.cmpi .ne (IntOp.andi w 8#32) 0#32)
    (Scalar.select (IntOp.cmpi .ne (IntOp.andi w 4#32) 0#32)
      (Scalar.select (IntOp.cmpi .ne (IntOp.andi w 2#32) 0#32)
        (Scalar.select (IntOp.cmpi .ne (IntOp.andi w 1#32) 0#32) (s 15) (s 14))
        (Scalar.select (IntOp.cmpi .ne (IntOp.andi w 1#32) 0#32) (s 13) (s 12)))
      (Scalar.select (IntOp.cmpi .ne (IntOp.andi w 2#32) 0#32)
        (Scalar.select (IntOp.cmpi .ne (IntOp.andi w 1#32) 0#32) (s 11) (s 10))
        (Scalar.select (IntOp.cmpi .ne (IntOp.andi w 1#32) 0#32) (s 9) (s 8))))
    (Scalar.select (IntOp.cmpi .ne (IntOp.andi w 4#32) 0#32)
      (Scalar.select (IntOp.cmpi .ne (IntOp.andi w 2#32) 0#32)
        (Scalar.select (IntOp.cmpi .ne (IntOp.andi w 1#32) 0#32) (s 7) (s 6))
        (Scalar.select (IntOp.cmpi .ne (IntOp.andi w 1#32) 0#32) (s 5) (s 4)))
      (Scalar.select (IntOp.cmpi .ne (IntOp.andi w 2#32) 0#32)
        (Scalar.select (IntOp.cmpi .ne (IntOp.andi w 1#32) 0#32) (s 3) (s 2))
        (Scalar.select (IntOp.cmpi .ne (IntOp.andi w 1#32) 0#32) (s 1) (s 0))))

theorem tree_eq {α : Type} (w : BitVec 32) (hw : w.toNat < 16) (s : Fin 16 → α) : tree w s = s (relOf w) := by
  have key : ∀ k : Fin 16, ∀ s : Fin 16 → α, tree (BitVec.ofNat 32 k) s = s k := by
    intro k s
    fin_cases k <;> rfl
  have e : w = BitVec.ofNat 32 (⟨w.toNat, hw⟩ : Fin 16).val := by simp
  have e2 : relOf w = ⟨w.toNat, hw⟩ := Fin.ext (Nat.mod_eq_of_lt hw)
  rw [e2]
  conv_lhs => rw [e]
  exact key _ s

/-- A block's scores, as the operations give them. -/
theorem scores_raw (g : grid2.Coords) (r : Fin 8) (adj ids : Vec Ideal S256x512 .i32) (f1 : FVec Ideal S256x1 .f32) (f2 : FVec Ideal S1x512 .f32)
    (sc : Vec Ideal S8x16 .f32) (i : Fin 256) (j : Fin 512) (q : EReal)
    (hq : Scalar.select (IntOp.andi (IntOp.cmpi .sgt (adj (ix2 i j)) 0#32) (IntOp.cmpi .slt (IntOp.addi (Scalar.muli (BitVec.ofNat 32 (g 1).val) 512#32) (BitVec.ofNat 32 j.val)) 5000#32))
        (max (f1 (ix2 i 0) + f2 (ix2 0 j) + tree (ids (ix2 i j)) fun n => sc (ix2 r n))
          (Ideal.ofBits FTy.f32 1045220557#32 * (f1 (ix2 i 0) + f2 (ix2 0 j) + tree (ids (ix2 i j)) fun n => sc (ix2 r n))))
        (Scalar.select (IntOp.cmpi .slt (IntOp.addi (Scalar.muli (BitVec.ofNat 32 (g 1).val) 512#32) (BitVec.ofNat 32 j.val)) 5000#32)
          (Ideal.ofBits FTy.f32 3657419678#32) (Named.named (F := Ideal) Cert.KernelIdeal.κ "pad" (φ := .f32) 4048155338#32)) = q) :
    scores g r adj ids f1 f2 sc (ix2 i j) = q := by
  unfold tree at hq
  pointwise [scores, k2_pay27, k2_pay5, k2_pay4, k2_pay6, k2_pay8, k2_pay9, k2_pay10, k2_pay11, k2_pay12, k2_pay13, entry, all2]
  exact hq

/-- The column number's test, for the grid's column blocks. -/
theorem col_bit (b : Fin 10) (j : Fin 512) :
    IntOp.cmpi .slt (IntOp.addi (Scalar.muli (BitVec.ofNat 32 b.val) 512#32) (BitVec.ofNat 32 j.val)) 5000#32
      = if 512 * b.val + j.val < 5000 then 1#1 else 0#1 := by
  have hb := b.isLt
  have hj := j.isLt
  have e : IntOp.addi (Scalar.muli (BitVec.ofNat 32 b.val) 512#32) (BitVec.ofNat 32 j.val) = BitVec.ofNat 32 (512 * b.val + j.val) := by
    apply BitVec.eq_of_toNat_eq
    simp [IntOp.addi, Scalar.muli, IntOp.muli, BitVec.toNat_add, BitVec.toNat_mul]
    omega
  rw [e]
  have e2 : (BitVec.ofNat 32 (512 * b.val + j.val)).slt 5000#32 = decide (512 * b.val + j.val < 5000) := by
    rw [BitVec.slt_eq_decide, BitVec.toInt_eq_toNat_of_lt (by simp; omega), BitVec.toInt_eq_toNat_of_lt (by decide)]
    simp
    omega
  show BitVec.ofBool ((BitVec.ofNat 32 (512 * b.val + j.val)).slt 5000#32) = _
  rw [e2]
  by_cases h : 512 * b.val + j.val < 5000 <;> simp [h]

/-- A block's score at a column of the matrix. -/
theorem scores_in (g : grid2.Coords) (b : Fin 10) (hg : (g 1).val = b.val) (r : Fin 8) (adj ids : Vec Ideal S256x512 .i32) (f1 : FVec Ideal S256x1 .f32) (f2 : FVec Ideal S1x512 .f32)
    (sc : Vec Ideal S8x16 .f32) (i : Fin 256) (j : Fin 512) (hc : 512 * b.val + j.val < 5000) {u v : ℝ} {rb : Fin 16 → ℝ} {w a : BitVec 32}
    (hu : f1 (ix2 i 0) = (u : EReal)) (hv : f2 (ix2 0 j) = (v : EReal)) (hr : ∀ n, sc (ix2 r n) = (rb n : EReal))
    (hw : ids (ix2 i j) = w) (hs : w.toNat < 16) (ha : adj (ix2 i j) = a) :
    scores g r adj ids f1 f2 sc (ix2 i j) = (logit a (u + v + rb (relOf w)) : EReal) := by
  refine scores_raw _ _ _ _ _ _ _ _ _ _ ?_
  rw [hg, col_bit, if_pos hc, hu, hv, hw, ha, tree_eq _ hs, hr, ← EReal.coe_add, ← EReal.coe_add, leak_max, low_eq]
  unfold logit
  have e : IntOp.cmpi .sgt a 0#32 = BitVec.ofBool ((0#32).slt a) := rfl
  rw [e]
  cases (0#32).slt a <;> rfl

/-- A block's score beside the matrix. -/
theorem scores_out (g : grid2.Coords) (b : Fin 10) (hg : (g 1).val = b.val) (r : Fin 8) (adj ids : Vec Ideal S256x512 .i32) (f1 : FVec Ideal S256x1 .f32) (f2 : FVec Ideal S1x512 .f32)
    (sc : Vec Ideal S8x16 .f32) (i : Fin 256) (j : Fin 512) (hc : 5000 ≤ 512 * b.val + j.val) : scores g r adj ids f1 f2 sc (ix2 i j) = ⊥ := by
  refine scores_raw _ _ _ _ _ _ _ _ _ _ ?_
  rw [hg, col_bit, if_neg (by omega)]
  have e : ∀ x : BitVec 1, IntOp.andi x 0#1 = 0#1 := by decide
  rw [e]
  exact pad_bot

/-- One row of the scratch buffers holds the first `n` columns of a row of scores `E` over the features `H`. -/
def HeldRow (E : Fin 5000 → ℝ) (H : Fin 5000 → Fin 128 → ℝ) (n : ℕ) (m l : Vec Ideal S1x256x1 .f32) (a : Vec Ideal S1x256x128 .f32) (i : Fin 256) : Prop :=
  ∀ d, Held E (fun j => H j d) n (m (ix3 0 i 0)) (l (ix3 0 i 0)) (a (ix3 0 i d))

theorem max_raw (e : FVec Ideal S256x512 .f32) (m : Vec Ideal S1x256x1 .f32) (i : Fin 256) :
    k2_pay34 e m (ix3 0 i 0) = max (m (ix3 0 i 0)) (Finset.univ.fold max ⊥ fun x => e (ix2 i x)) := by
  have key : ∀ q, max (m (ix3 0 i 0)) (Finset.fold max (Ideal.ofBits FTy.f32 4286578688#32) (fun x => e (ix2 i x)) Finset.univ) = q → k2_pay34 e m (ix3 0 i 0) = q := by
    intro q hq
    pointwise [k2_pay34, k2_pay29, k2_pay28]
    exact hq
  exact key _ (by rw [negInf])

theorem sum_raw (e : FVec Ideal S256x512 .f32) (m l : Vec Ideal S1x256x1 .f32) (i : Fin 256) (M : EReal)
    (hM : max (m (ix3 0 i 0)) (Finset.univ.fold max ⊥ fun x => e (ix2 i x)) = M) :
    k2_pay33 e m l (ix3 0 i 0) = l (ix3 0 i 0) * Ideal.exp (m (ix3 0 i 0) - M) + ∑ x, Ideal.exp (e (ix2 i x) - M) := by
  rw [← hM, ← negInf]
  have key : ∀ q, l (ix3 0 i 0) * Ideal.exp (m (ix3 0 i 0) - max (m (ix3 0 i 0)) (Finset.fold max (Ideal.ofBits FTy.f32 4286578688#32) (fun x => e (ix2 i x)) Finset.univ))
      + ∑ x, Ideal.exp (e (ix2 i x) - max (m (ix3 0 i 0)) (Finset.fold max (Ideal.ofBits FTy.f32 4286578688#32) (fun x => e (ix2 i x)) Finset.univ)) = q →
      k2_pay33 e m l (ix3 0 i 0) = q := by
    intro q hq
    pointwise [k2_pay33, k2_pay30, k2_pay31, k2_pay29, k2_pay28]
    exact hq
  exact key _ rfl

theorem acc_raw (h : FVec Ideal S512x128 .f32) (e : FVec Ideal S256x512 .f32) (m : Vec Ideal S1x256x1 .f32) (a : Vec Ideal S1x256x128 .f32) (i : Fin 256) (d : Fin 128) (M : EReal)
    (hM : max (m (ix3 0 i 0)) (Finset.univ.fold max ⊥ fun x => e (ix2 i x)) = M) :
    k2_pay32 h e m a (ix3 0 i d) = a (ix3 0 i d) * Ideal.exp (m (ix3 0 i 0) - M) + ∑ x, Ideal.exp (e (ix2 i x) - M) * h (ix2 x d) := by
  rw [← hM, ← negInf]
  have key : ∀ q, a (ix3 0 i d) * Ideal.exp (m (ix3 0 i 0) - max (m (ix3 0 i 0)) (Finset.fold max (Ideal.ofBits FTy.f32 4286578688#32) (fun x => e (ix2 i x)) Finset.univ))
      + ∑ x, Ideal.exp (e (ix2 i x) - max (m (ix3 0 i 0)) (Finset.fold max (Ideal.ofBits FTy.f32 4286578688#32) (fun x => e (ix2 i x)) Finset.univ)) * h (ix2 x d) = q →
      k2_pay32 h e m a (ix3 0 i d) = q := by
    intro q hq
    pointwise [k2_pay32, k2_pay30, k2_pay31, k2_pay29, k2_pay28]
    exact hq
  exact key _ rfl

/-- One block of one row. -/
theorem HeldRow.step {E : Fin 5000 → ℝ} {H : Fin 5000 → Fin 128 → ℝ} {n : ℕ} (hn : n < 5000) {e : FVec Ideal S256x512 .f32} {h : FVec Ideal S512x128 .f32}
    {m l : Vec Ideal S1x256x1 .f32} {a : Vec Ideal S1x256x128 .f32} {i : Fin 256}
    (hs : ∀ (q : Fin 512) (hq : n + q.val < 5000), e (ix2 i q) = (E ⟨n + q.val, hq⟩ : EReal))
    (hp : ∀ q : Fin 512, 5000 ≤ n + q.val → e (ix2 i q) = ⊥)
    (hv : ∀ (q : Fin 512) (hq : n + q.val < 5000) (d : Fin 128), h (ix2 q d) = (H ⟨n + q.val, hq⟩ d : EReal))
    (hH : (n = 0 ∧ m (ix3 0 i 0) = ⊥ ∧ l (ix3 0 i 0) = 0 ∧ ∀ d, a (ix3 0 i d) = 0) ∨ HeldRow E H n m l a i) :
    HeldRow E H (n + 512) (k2_pay34 e m) (k2_pay33 e m l) (k2_pay32 h e m a) i := by
  intro d
  rw [max_raw, sum_raw _ _ _ _ _ rfl, acc_raw _ _ _ _ _ _ _ rfl]
  exact Held.step hn hs hp (fun q hq => hv q hq d) (hH.imp (fun ⟨h0, h1, h2, h3⟩ => ⟨h0, h1, h2, h3 d⟩) fun h => h d)

theorem start_max (i : Fin 256) : k2_pay1 (F := Ideal) (ix3 0 i 0) = (⊥ : EReal) := by
  have key : ∀ q, Ideal.ofBits FTy.f32 4286578688#32 = q → k2_pay1 (F := Ideal) (ix3 0 i 0) = q := by
    intro q hq
    pointwise [k2_pay1]
    exact hq
  exact key _ negInf
theorem start_sum (i : Fin 256) : k2_pay2 (F := Ideal) (ix3 0 i 0) = (0 : EReal) := by
  pointwise [k2_pay2]
theorem start_acc (i : Fin 256) (d : Fin 128) : k2_pay3 (F := Ideal) (ix3 0 i d) = (0 : EReal) := by
  pointwise [k2_pay3]
theorem start_max4 (k : Fin 4) (i : Fin 256) : k1_pay8 (F := Ideal) (ix3 k i 0) = (⊥ : EReal) := by
  have key : ∀ q, Ideal.ofBits FTy.f32 4286578688#32 = q → k1_pay8 (F := Ideal) (ix3 k i 0) = q := by
    intro q hq
    pointwise [k1_pay8]
    exact hq
  exact key _ negInf
theorem start_sum4 (k : Fin 4) (i : Fin 256) : k1_pay9 (F := Ideal) (ix3 k i 0) = (0 : EReal) := by
  pointwise [k1_pay9]
theorem start_acc4 (k : Fin 4) (i : Fin 256) (d : Fin 128) : k1_pay10 (F := Ideal) (ix3 k i d) = (0 : EReal) := by
  pointwise [k1_pay10]

theorem slice_at {b n : ℕ} (h : Fin 4) (X : (⟨3, ![4, b, n]⟩ : Shape).Idx → EReal) (i : Fin b) (d : Fin n) : slice h X (ix3 0 i d) = X (ix3 h i d) := by
  unfold slice
  congr 1
  funext a
  apply Fin.ext
  fin_cases a
  · rfl
  · show 0 + 1 * i.val = i.val
    omega
  · show 0 + 1 * d.val = d.val
    omega
end Cert.Proof
-- ==== Proof.Host0.lean ====
/-
  The operations between the kernels, read at an index.
-/
module

public import proofs.«01_k».proof.Proof.Fold
public import proofs.«01_k».proof.Proof.Frame
public import Idealize.ShloMosaic.Lib.Routing.OpsOne

@[expose] public section

set_option maxRecDepth 16384

noncomputable section

namespace Cert.Proof

open Idealize.ShloMosaic Idealize.ShloMosaic.TcCoe
open Cert.KernelIdeal Cert.KernelIdeal.Gen

variable (X : Valuation τ sig (Elt Ideal))

theorem read_v0 (k : Fin 4) (c : Fin 128) : (StableHlo.after hostOps0 X (Proc.devRef .tc main_v0) : Vec Ideal S4x128x1 .f32) (ix3 k c 0)
    = (X (Proc.devRef .tc main_arg5) : Vec Ideal S4x128 .f32) (ix2 k c) := by
  unfold hostOps0
  after_results
  pointwise []
theorem read_v1 (k : Fin 4) (c : Fin 128) : (StableHlo.after hostOps0 X (Proc.devRef .tc main_v1) : Vec Ideal S4x128x1 .f32) (ix3 k c 0)
    = (X (Proc.devRef .tc main_arg6) : Vec Ideal S4x128 .f32) (ix2 k c) := by
  unfold hostOps0
  after_results
  pointwise []
theorem read_v7 (c : Fin 128) (r : Fin 16) : (StableHlo.after hostOps0 X (Proc.devRef .tc main_v7) : Vec Ideal S128x16 .f32) (ix2 c r)
    = (X (Proc.devRef .tc main_arg1) : Vec Ideal S16x128 .f32) (ix2 r c) := by
  unfold hostOps0
  after_results
  pointwise []
theorem read_v9 (k : Fin 4) (j : Fin 5120) : (StableHlo.after hostOps1 X (Proc.devRef .tc main_v9) : Vec Ideal S4x1x5120 .f32) (ix3 k 0 j)
    = (X (Proc.devRef .tc main_v8_2) : Vec Ideal S4x5120x1 .f32) (ix3 k j 0) := by
  unfold hostOps1
  after_results
  pointwise []
theorem read_v10 (c : Fin 128) : (StableHlo.after hostOps1 X (Proc.devRef .tc main_v10) : Vec Ideal S128x1 .f32) (ix2 c 0)
    = (X (Proc.devRef .tc main_arg9) : Vec Ideal S128 .f32) (ix1 c) := by
  unfold hostOps1
  after_results
  pointwise []
theorem read_v11 (c : Fin 128) : (StableHlo.after hostOps1 X (Proc.devRef .tc main_v11) : Vec Ideal S128x1 .f32) (ix2 c 0)
    = (X (Proc.devRef .tc main_arg10) : Vec Ideal S128 .f32) (ix1 c) := by
  unfold hostOps1
  after_results
  pointwise []
theorem read_v13 (j : Fin 5120) : (StableHlo.after hostOps2 X (Proc.devRef .tc main_v13) : Vec Ideal S1x5120 .f32) (ix2 0 j)
    = (X (Proc.devRef .tc main_v12_2) : Vec Ideal S5120x1 .f32) (ix2 j 0) := by
  unfold hostOps2
  after_results
  pointwise []
theorem read_v14 (e : Fin 64) : (StableHlo.after hostOps2 X (Proc.devRef .tc main_v14) : Vec Ideal S1x64 .f32) (ix2 0 e)
    = (X (Proc.devRef .tc main_arg13) : Vec Ideal S64 .f32) (ix1 e) := by
  unfold hostOps2
  after_results
  pointwise []
theorem read_v16 (r : Fin 5000) (e : Fin 64) : (StableHlo.after hostOps3 X (Proc.devRef .tc main_v16) : Vec Ideal S5000x64 .f32) (ix2 r e)
    = (X (Proc.devRef .tc main_v15) : Vec Ideal S5120x64 .f32) (ix2 (r.castLE (by decide)) e) := by
  unfold hostOps3
  after_results
  have key : ∀ Y : Vec Ideal S5120x64 .f32, extractStridedSlice S5000x64 ![0, 0] Y slices_S5120x64_S5000x64_0_0 (ix2 r e) = Y (ix2 (r.castLE (by decide)) e) := by
    intro Y
    show Y _ = Y _
    congr 1
    funext a
    apply Fin.ext
    fin_cases a
    · exact Nat.zero_add _
    · exact Nat.zero_add _
  exact key _

/-- The first heads' relation vectors, set in the first four rows. -/
abbrev setHeads := scatter_S8x128_S1_S4x128_01_n_0_0
/-- The second layer's relation vector, set in the fifth row. -/
abbrev setLast := scatter_S8x128_S1_S128_0_0_0_0

/-- Where a row of the four is set. -/
theorem heads_lands (k : S4x128.Idx) (idx : IVec S1 32) (h : ∀ i, idx i = 0#32) (r : Fin 8) (c : Fin 128) :
    setHeads.resultIdx? k idx = some (ix2 r c) ↔ (k 0).val = r.val ∧ (k 1).val = c.val := by
  have s0 : setHeads.start k idx 0 = 0 := congrArg BitVec.toInt (h _)
  have s1 : setHeads.start k idx 1 = 0 := rfl
  have w0 : setHeads.window k 0 = (k 0).val := rfl
  have w1 : setHeads.window k 1 = (k 1).val := rfl
  refine (Routing.resultIdx?_ix2 setHeads k idx r c).trans ?_
  rw [s0, s1, w0, w1]
  omega

/-- Where the fifth row is set. -/
theorem last_lands (k : S128.Idx) (idx : IVec S1 32) (h : ∀ i, idx i = 4#32) (r : Fin 8) (c : Fin 128) :
    setLast.resultIdx? k idx = some (ix2 r c) ↔ 4 = r.val ∧ (k 0).val = c.val := by
  have s0 : setLast.start k idx 0 = 4 := congrArg BitVec.toInt (h _)
  have s1 : setLast.start k idx 1 = 0 := rfl
  have w0 : setLast.window k 0 = 0 := rfl
  have w1 : setLast.window k 1 = (k 0).val := rfl
  refine (Routing.resultIdx?_ix2 setLast k idx r c).trans ?_
  rw [s0, s1, w0, w1]
  omega

theorem read_heads (x : Vec Ideal S8x128 .f32) (i0 i4 : IVec S1 32) (h0 : ∀ i, i0 i = 0#32) (h4 : ∀ i, i4 i = 4#32) (u : Vec Ideal S4x128 .f32) (v : Vec Ideal S128 .f32)
    (k : Fin 4) (c : Fin 128) : Host.scatter setLast (fun _ b => b) (Host.scatter setHeads (fun _ b => b) x i0 u) i4 v (ix2 (k.castLE (by decide)) c) = u (ix2 k c) := by
  refine (Routing.scatter_set_miss setLast _ _ _ _ fun j hj => ?_).trans
    (Routing.scatter_set_hit setHeads _ _ _ _ _ (fun j hj => ?_) (ix2 k c) ((heads_lands _ _ h0 _ _).2 ⟨rfl, rfl⟩))
  · have e := ((last_lands _ _ h4 _ _).1 hj).1
    have : (k.castLE (by decide) : Fin 8).val < 4 := k.isLt
    omega
  · have e := (heads_lands _ _ h0 _ _).1 hj
    congr 1
    funext a
    apply Fin.ext
    fin_cases a
    · exact e.1
    · exact e.2

theorem read_last (x : Vec Ideal S8x128 .f32) (i4 : IVec S1 32) (h4 : ∀ i, i4 i = 4#32) (v : Vec Ideal S128 .f32)
    (c : Fin 128) : Host.scatter setLast (fun _ b => b) x i4 v (ix2 4 c) = v (ix1 c) := by
  refine Routing.scatter_set_hit setLast _ _ _ _ _ (fun j hj => ?_) (ix1 c) ((last_lands _ _ h4 _ _).2 ⟨rfl, rfl⟩)
  have e := (last_lands _ _ h4 _ _).1 hj
  congr 1
  funext a
  apply Fin.ext
  fin_cases a
  exact e.2

theorem read_v6 (k : Fin 4) (c : Fin 128) : (StableHlo.after hostOps0 X (Proc.devRef .tc main_v6) : Vec Ideal S8x128 .f32) (ix2 (k.castLE (by decide)) c)
    = (X (Proc.devRef .tc main_arg7) : Vec Ideal S4x128 .f32) (ix2 k c) := by
  unfold hostOps0
  after_results
  exact read_heads _ _ _ (fun _ => rfl) (fun _ => rfl) _ _ k c
theorem read_v6_last (c : Fin 128) : (StableHlo.after hostOps0 X (Proc.devRef .tc main_v6) : Vec Ideal S8x128 .f32) (ix2 4 c)
    = (X (Proc.devRef .tc main_arg11) : Vec Ideal S128 .f32) (ix1 c) := by
  unfold hostOps0
  after_results
  exact read_last _ _ (fun _ => rfl) _ c

end Cert.Proof
-- ==== Proof.Read2.lean ====
/-
  The second attention kernel at an index: what its windows' blocks hold, the scratch buffers after each point, and the row
  block written after the last column block.
-/
module

public import proofs.«01_k».proof.Proof.Fold
public import proofs.«01_k».proof.Proof.Data2
public import Idealize.ShloMosaic.Lib.Pipeline.ValueKit

@[expose] public section

set_option maxRecDepth 16384

noncomputable section

namespace Cert.Proof.Two

open Idealize.ShloMosaic Idealize.ShloMosaic.TcCoe
open Idealize.ShloMosaic.Pipeline
open Cert.KernelIdeal Cert.KernelIdeal.Gen

theorem index0 : ∀ t : Fin cfg2.N, win2_0.index t = ![t.val / 10, t.val % 10] := by decide +kernel
theorem index1 : ∀ t : Fin cfg2.N, win2_1.index t = ![t.val / 10, t.val % 10] := by decide +kernel
theorem index2 : ∀ t : Fin cfg2.N, win2_2.index t = ![0, 0] := by decide +kernel
theorem index3 : ∀ t : Fin cfg2.N, win2_3.index t = ![t.val / 10, 0] := by decide +kernel
theorem index4 : ∀ t : Fin cfg2.N, win2_4.index t = ![0, t.val % 10] := by decide +kernel
theorem index5 : ∀ t : Fin cfg2.N, win2_5.index t = ![0, 0] := by decide +kernel
theorem index6 : ∀ t : Fin cfg2.N, win2_6.index t = ![0, 0] := by decide +kernel
theorem index7 : ∀ t : Fin cfg2.N, win2_7.index t = ![0, 0] := by decide +kernel
theorem index8 : ∀ t : Fin cfg2.N, win2_8.index t = ![t.val / 10, 0] := by decide +kernel

/-- How much of a block of the matrices is inside. -/
theorem inside0 : ∀ t : Fin cfg2.N, (cfg2.win 0).xsize (cfg2.grid.coords t) 0 = min 256 (5000 - 256 * (t.val / 10))
    ∧ (cfg2.win 0).xsize (cfg2.grid.coords t) 1 = min 512 (5000 - 512 * (t.val % 10)) := by decide +kernel
theorem inside1 : ∀ t : Fin cfg2.N, (cfg2.win 1).xsize (cfg2.grid.coords t) 0 = min 256 (5000 - 256 * (t.val / 10))
    ∧ (cfg2.win 1).xsize (cfg2.grid.coords t) 1 = min 512 (5000 - 512 * (t.val % 10)) := by decide +kernel

theorem column : ∀ t : Fin cfg2.N, (grid2.coords t 1).val = t.val % 10 := by decide +kernel
theorem first : ∀ t : Fin cfg2.N, decide (isFirst (grid2.coords t) = 1#1) = decide (t.val % 10 = 0) := by decide +kernel
theorem last : ∀ t : Fin cfg2.N, decide (k2_cond2 (grid2.coords t) = 1#1) = decide (t.val % 10 = 9) := by decide +kernel
theorem offset : ∀ t : Fin cfg2.N, k2_off1 (grid2.coords t) = ![512 * (t.val % 10), 0] := by decide +kernel
theorem points : cfg2.N = 200 := by decide +kernel

variable {F : FTy → Type} [FloatOps F] [Named F] (W : Valuation τ sig (Elt F))

theorem blk2_at (t : Fin cfg2.N) (j : Fin 5120) (d : Fin 128) :
    blk W 2 t (ix2 j d) = (W (Proc.devRef .tc main_v12_0) : Vec F S5120x128 .f32) (ix2 j d) := by
  blk_ext [blk, index2]
theorem blk3_at (t : Fin cfg2.N) (i : Fin 256) (R : Fin 5120) (hR : R.val = 256 * (t.val / 10) + i.val) :
    blk W 3 t (ix2 i 0) = (W (Proc.devRef .tc main_v12_1) : Vec F S5120x1 .f32) (ix2 R 0) := by
  blk_ext [blk, index3]
theorem blk4_at (t : Fin cfg2.N) (j : Fin 512) (C : Fin 5120) (hC : C.val = 512 * (t.val % 10) + j.val) :
    blk W 4 t (ix2 0 j) = (W (Proc.devRef .tc main_v13) : Vec F S1x5120 .f32) (ix2 0 C) := by
  blk_ext [blk, index4]
theorem blk5_at (t : Fin cfg2.N) (r : Fin 8) (n : Fin 16)  :
    blk W 5 t (ix2 r n) = (W (Proc.devRef .tc main_v8_3) : Vec F S8x16 .f32) (ix2 r n) := by
  blk_ext [blk, index5]
theorem blk6_at (t : Fin cfg2.N) (x : Fin 128) (e : Fin 64)  :
    blk W 6 t (ix2 x e) = (W (Proc.devRef .tc main_arg12) : Vec F S128x64 .f32) (ix2 x e) := by
  blk_ext [blk, index6]
theorem blk7_at (t : Fin cfg2.N) (e : Fin 64)  :
    blk W 7 t (ix2 0 e) = (W (Proc.devRef .tc main_v14) : Vec F S1x64 .f32) (ix2 0 e) := by
  blk_ext [blk, index7]

theorem adj_at (t : Fin cfg2.N) (d : Vec F S256x512 .i32) (i : Fin 256) (j : Fin 512) (R C : Fin 5000) (hR : R.val = 256 * (t.val / 10) + i.val)
    (hC : C.val = 512 * (t.val % 10) + j.val) :
    adj W t d (ix2 i j) = (W (Proc.devRef .tc main_arg3) : IVec S5000x5000 32) (ix2 R C) := by
  unfold adj Window.fill
  have hm : (cfg2.win 0).moved (cfg2.grid.coords t) (ix2 i j) = true := by
    rw [Window.moved_iff]
    intro a
    have hR' := R.isLt
    have hC' := C.isLt
    fin_cases a
    · exact lt_of_lt_of_eq (show i.val < min 256 (5000 - 256 * (t.val / 10)) by omega) (inside0 t).1.symm
    · exact lt_of_lt_of_eq (show j.val < min 512 (5000 - 512 * (t.val % 10)) by omega) (inside0 t).2.symm
  rw [dif_pos hm]
  blk_ext [blk, index0]
theorem ids_at (t : Fin cfg2.N) (d : Vec F S256x512 .i32) (i : Fin 256) (j : Fin 512) (R C : Fin 5000) (hR : R.val = 256 * (t.val / 10) + i.val)
    (hC : C.val = 512 * (t.val % 10) + j.val) :
    ids W t d (ix2 i j) = (W (Proc.devRef .tc main_arg2) : IVec S5000x5000 32) (ix2 R C) := by
  unfold ids Window.fill
  have hm : (cfg2.win 1).moved (cfg2.grid.coords t) (ix2 i j) = true := by
    rw [Window.moved_iff]
    intro a
    have hR' := R.isLt
    have hC' := C.isLt
    fin_cases a
    · exact lt_of_lt_of_eq (show i.val < min 256 (5000 - 256 * (t.val / 10)) by omega) (inside1 t).1.symm
    · exact lt_of_lt_of_eq (show j.val < min 512 (5000 - 512 * (t.val % 10)) by omega) (inside1 t).2.symm
  rw [dif_pos hm]
  blk_ext [blk, index1]

theorem hblk_at (t : Fin cfg2.N) (X : Vec F S5120x128 .f32) (q : Fin 512) (d : Fin 128) (C : Fin 5120) (hC : C.val = 512 * (t.val % 10) + q.val) :
    hblk (grid2.coords t) X (ix2 q d) = X (ix2 C d) := by
  have e : k2_pay7 (View.ld X (Rect.unit (s := S5120x128) (k2_off1 (grid2.coords t)) S512x128.size (k2_off1_inb (grid2.coords t))))
      = View.ld X (Rect.unit (s := S5120x128) (k2_off1 (grid2.coords t)) S512x128.size (k2_off1_inb (grid2.coords t))) := shapeCast_self _ _
  unfold hblk
  rw [e]
  show X ((Rect.unit (s := S5120x128) (k2_off1 (grid2.coords t)) S512x128.size (k2_off1_inb (grid2.coords t))).idx (ix2 q d)) = _
  congr 1
  funext a
  apply Fin.ext
  have h := congrFun (offset t)
  fin_cases a
  · show k2_off1 (grid2.coords t) 0 + 1 * q.val = C.val
    rw [h 0]
    show 512 * (t.val % 10) + 1 * q.val = C.val
    omega
  · show k2_off1 (grid2.coords t) 1 + 1 * d.val = d.val
    rw [h 1]
    show 0 + 1 * d.val = d.val
    omega

/-- What the second attention kernel reads: a layer's features, row and column terms, biases, words. -/
structure Reads (W : Valuation τ sig (Elt Ideal)) (H : Fin 5000 → Fin 128 → ℝ) (u v : Fin 5000 → ℝ) (rb : Fin 16 → ℝ)
    (idw adw : Fin 5000 → Fin 5000 → BitVec 32) : Prop where
  ids : ∀ i j, (W (Proc.devRef .tc main_arg2) : IVec S5000x5000 32) (ix2 i j) = idw i j
  adj : ∀ i j, (W (Proc.devRef .tc main_arg3) : IVec S5000x5000 32) (ix2 i j) = adw i j
  H : ∀ (j : Fin 5000) d, (W (Proc.devRef .tc main_v12_0) : Vec Ideal S5120x128 .f32) (ix2 (j.castLE (by decide)) d) = (H j d : EReal)
  u : ∀ j : Fin 5000, (W (Proc.devRef .tc main_v12_1) : Vec Ideal S5120x1 .f32) (ix2 (j.castLE (by decide)) 0) = (u j : EReal)
  v : ∀ j : Fin 5000, (W (Proc.devRef .tc main_v13) : Vec Ideal S1x5120 .f32) (ix2 0 (j.castLE (by decide))) = (v j : EReal)
  rb : ∀ r, (W (Proc.devRef .tc main_v8_3) : Vec Ideal S8x16 .f32) (ix2 4 r) = (rb r : EReal)
  small : ∀ i j, (idw i j).toNat < 16

theorem all2_at {e : EltTy} {a b : ℕ} (X : (⟨2, ![a, b]⟩ : Shape).Idx → Elt F e)
    (h : ∀ k, (![0, 0] : Fin 2 → ℕ) k + (⟨2, ![a, b]⟩ : Shape).size k ≤ (⟨2, ![a, b]⟩ : Shape).size k) (i : Fin a) (j : Fin b) :
    all2 X h (ix2 i j) = X (ix2 i j) := by
  show X ((Rect.unit (s := ⟨2, ![a, b]⟩) ![0, 0] (⟨2, ![a, b]⟩ : Shape).size h).idx (ix2 i j)) = _
  congr 1
  funext k
  apply Fin.ext
  fin_cases k
  · show 0 + 1 * i.val = i.val
    omega
  · show 0 + 1 * j.val = j.val
    omega

section Ideal

variable {W : Valuation τ sig (Elt Ideal)} {H : Fin 5000 → Fin 128 → ℝ} {u v : Fin 5000 → ℝ} {rb : Fin 16 → ℝ} {idw adw : Fin 5000 → Fin 5000 → BitVec 32}

/-- One point, at a row inside the matrix. -/
theorem Reads.point (R : Reads W H u v rb idw adw) (t : Fin cfg2.N) (m l : Vec Ideal S1x256x1 .f32) (a : Vec Ideal S1x256x128 .f32)
    (d e : Vec Ideal S256x512 .i32) (i : Fin 256) (r : Fin 5000) (hr : r.val = 256 * (t.val / 10) + i.val)
    (h : t.val % 10 = 0 ∨ HeldRow (fun j => logit (adw r j) (u r + v j + rb (relOf (idw r j)))) H (512 * (t.val % 10)) m l a i) :
    HeldRow (fun j => logit (adw r j) (u r + v j + rb (relOf (idw r j)))) H (512 * (t.val % 10) + 512) (newM W t d e m) (newL W t d e m l) (newA W t d e m a) i := by
  have hb : t.val % 10 < 10 := Nat.mod_lt _ (by decide)
  have hg : (grid2.coords t 1).val = (⟨t.val % 10, hb⟩ : Fin 10).val := column t
  have hf := first t
  refine HeldRow.step (by omega) (fun q hq => ?_) (fun q hq => ?_) (fun q hq x => ?_) ?_
  · exact scores_in (grid2.coords t) ⟨t.val % 10, hb⟩ hg 4 _ _ _ _ _ i q hq
      ((all2_at _ _ _ _).trans <| (blk3_at W t i (r.castLE (by decide)) hr).trans (R.u r))
      ((all2_at _ _ _ _).trans <| (blk4_at W t q (Fin.castLE (by decide) ⟨512 * (t.val % 10) + q.val, hq⟩) rfl).trans (R.v ⟨512 * (t.val % 10) + q.val, hq⟩))
      (fun n => (blk5_at W t 4 n).trans (R.rb n))
      ((ids_at W t e i q r ⟨512 * (t.val % 10) + q.val, hq⟩ hr rfl).trans (R.ids _ _)) (R.small _ _)
      ((adj_at W t d i q r ⟨512 * (t.val % 10) + q.val, hq⟩ hr rfl).trans (R.adj _ _))
  · exact scores_out (grid2.coords t) ⟨t.val % 10, hb⟩ hg 4 _ _ _ _ _ i q hq
  · exact (hblk_at t _ q x (Fin.castLE (by decide) ⟨512 * (t.val % 10) + q.val, hq⟩) rfl).trans ((blk2_at W t _ x).trans (R.H ⟨_, hq⟩ x))
  · by_cases h0 : t.val % 10 = 0
    · have h1 : isFirst (grid2.coords t) = 1#1 := by simpa [h0] using hf
      refine Or.inl ⟨by omega, ?_, ?_, fun x => ?_⟩
      · rw [startM, if_pos h1]; exact start_max i
      · rw [startL, if_pos h1]; exact start_sum i
      · rw [startA, if_pos h1]; exact start_acc i x
    · have h1 : ¬ isFirst (grid2.coords t) = 1#1 := by simpa [h0] using hf
      rw [startM, if_neg h1, startL, if_neg h1, startA, if_neg h1]
      exact Or.inr (h.resolve_left h0)

/-- After a point, every row inside the matrix holds the columns met so far. -/
theorem Reads.held (R : Reads W H u v rb idw adw) : ∀ (n : ℕ) (m l : Vec Ideal S1x256x1 .f32) (a : Vec Ideal S1x256x128 .f32), Reach W (n + 1) m l a →
    ∀ (i : Fin 256) (r : Fin 5000), r.val = 256 * (n / 10) + i.val →
      HeldRow (fun j => logit (adw r j) (u r + v j + rb (relOf (idw r j)))) H (512 * (n % 10) + 512) m l a i := by
  intro n
  induction n with
  | zero =>
    rintro m' l' a' ⟨h, m, l, a, d, e, -, rfl, rfl, rfl⟩ i r hr
    exact R.point ⟨0, h⟩ m l a d e i r hr (Or.inl rfl)
  | succ n ih =>
    rintro m' l' a' ⟨h, m, l, a, d, e, hR, rfl, rfl, rfl⟩ i r hr
    refine R.point ⟨n + 1, h⟩ m l a d e i r hr ?_
    by_cases h0 : (n + 1) % 10 = 0
    · exact Or.inl h0
    · have e1 : n / 10 = (n + 1) / 10 := by omega
      have e2 : 512 * (n % 10) + 512 = 512 * ((n + 1) % 10) := by omega
      have := ih m l a hR i r (by rw [e1]; exact hr)
      rw [e2] at this
      exact Or.inr this

theorem last_raw (a : Vec Ideal S1x256x128 .f32) (l : Vec Ideal S1x256x1 .f32) (w : Vec Ideal S128x64 .f32) (b : Vec Ideal S1x64 .f32) (i : Fin 256) (e : Fin 64) :
    k2_pay35 a l w b (ix2 i e) = logSoft (fun e => ∑ x, Ideal.div (a (ix3 0 i x)) (l (ix3 0 i 0)) * w (ix2 x e) + b (ix2 0 e)) e := by
  unfold logSoft
  rw [← negInf]
  pointwise [k2_pay35]

/-- What the last point of a row block leaves, at a row inside the matrix. -/
theorem Reads.left (R : Reads W H u v rb idw adw) (t : Fin cfg2.N) (ht : t.val % 10 = 9) (X : Vec Ideal S256x64 .f32) (hX : Rl W 8 t X)
    (i : Fin 256) (r : Fin 5000) (hr : r.val = 256 * (t.val / 10) + i.val) (e : Fin 64) :
    X (ix2 i e) = logSoft (fun e => ∑ x, (att (fun j => logit (adw r j) (u r + v j + rb (relOf (idw r j)))) (fun j => H j x) : EReal)
        * (W (Proc.devRef .tc main_arg12) : Vec Ideal S128x64 .f32) (ix2 x e) + (W (Proc.devRef .tc main_v14) : Vec Ideal S1x64 .f32) (ix2 0 e)) e := by
  obtain ⟨m, l, a, hR, rfl⟩ := hX (by have := last t; simpa [ht] using this)
  have hh := R.held t.val m l a hR i r hr
  rw [ht] at hh
  rw [last_raw]
  congr 1
  funext e
  rw [all2_at, blk7_at]
  congr 1
  refine Finset.sum_congr rfl fun x _ => ?_
  rw [all2_at, blk6_at, Held.out (hh x)]

end Ideal
end Cert.Proof.Two
-- ==== Proof.Wrote.lean ====
/-
  What is known of an array that a region has written: a property of every element that a write-back may have written.
-/
module

public import proofs.«01_k».proof.Proof.Frame
public import Idealize.ShloMosaic.Lib.Pipeline.ValueKit

@[expose] public section

set_option maxRecDepth 16384

noncomputable section

namespace Cert.Proof

open Idealize.ShloMosaic Idealize.ShloMosaic.TcCoe
open Idealize.ShloMosaic.Pipeline
open Cert.KernelIdeal Cert.KernelIdeal.Gen

variable {F : FTy → Type} [FloatOps F] [Named F]

/-- Every element of a covered output array has the property of what the body may have left there. -/
theorem wrote {q : Fin 3} {c : Dev nD} {W W' : Valuation τ sig (Elt F)} (h : (bodies F).Leaves q c W W') (w : Fin (pin (pcfgs (F := F)) adm q).W)
    (hm : (bodies F).fg q w = true) (hcov : ((pin (pcfgs (F := F)) adm q).win w).Covers) (harr : ((pin (pcfgs (F := F)) adm q).win w).arr.IsWhole)
    (P : (((pin (pcfgs (F := F)) adm q).win w).arr.view.loc (c.tc : Thread nD τ)).2.ty.Idx → Elt F (((pin (pcfgs (F := F)) adm q).win w).arr.view.loc (c.tc : Thread nD τ)).2.ty.elt → Prop)
    (hP : ∀ t, ((pin (pcfgs (F := F)) adm q).win w).flush t = true → ∀ X, (bodies F).Rl W q c w t X →
      ∀ y : (((pin (pcfgs (F := F)) adm q).win w).xblock ((pin (pcfgs (F := F)) adm q).grid.coords t)).Idx,
        P ((((pin (pcfgs (F := F)) adm q).win w).blk t).view.emb y)
          (_root_.cast (congrArg (Elt F) (((pin (pcfgs (F := F)) adm q).win w).blk t).view.elt_eq.symm)
            (X (((pin (pcfgs (F := F)) adm q).win w).xinj ((pin (pcfgs (F := F)) adm q).grid.coords t) y))))
    (i : (((pin (pcfgs (F := F)) adm q).win w).arr.view.loc (c.tc : Thread nD τ)).2.ty.Idx) :
    P i ((W' (Proc.devRef .tc (arrRef (pin (pcfgs (F := F)) adm q).spec w)) : Buf (Elt F) (((pin (pcfgs (F := F)) adm q).win w).arr.view.loc (c.tc : Thread nD τ))) i) := by
  obtain ⟨⟨after, hl, ha⟩, -⟩ := h
  rw [← ha w]
  exact Dat.arrAt_forall_of_covers (RDat.withAfter (rdats ((bodies F).dat W) (bodies F).fg ((bodies F).Rl W) q c) after) w P hcov
    (fun t hf y => hP t hf _ (Dat.toRRel_leaves _ hm (hl w t hf)) y) i harr

end Cert.Proof
-- ==== Proof.Read0.lean ====
/-
  The projection kernel at an index: what its windows' blocks hold, and what it leaves of the heads' features, their row and column
  terms and the relation biases.
-/
module

public import proofs.«01_k».proof.Proof.Fold
public import proofs.«01_k».proof.Proof.Data0
public import proofs.«01_k».proof.Proof.Read2
public import proofs.«01_k».proof.Proof.Wrote

@[expose] public section

set_option maxRecDepth 16384

noncomputable section

namespace Cert.Proof.Zero

open Idealize.ShloMosaic Idealize.ShloMosaic.TcCoe
open Idealize.ShloMosaic.Pipeline
open Cert.KernelIdeal Cert.KernelIdeal.Gen
open Cert.Proof.Two (all2_at)

theorem index0 : ∀ t : Fin cfg0.N, win0_0.index t = ![0, 0] := by decide +kernel
theorem index1 : ∀ t : Fin cfg0.N, win0_1.index t = ![t.val, 0, 0] := by decide +kernel
theorem index2 : ∀ t : Fin cfg0.N, win0_2.index t = ![t.val, 0, 0] := by decide +kernel
theorem index3 : ∀ t : Fin cfg0.N, win0_3.index t = ![t.val, 0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![t.val, 0, 0] := by decide +kernel
theorem index7 : ∀ t : Fin cfg0.N, win0_7.index t = ![t.val, 0, 0] := by decide +kernel
theorem index8 : ∀ t : Fin cfg0.N, win0_8.index t = ![t.val, 0, 0] := by decide +kernel
theorem index9 : ∀ t : Fin cfg0.N, win0_9.index t = ![0, 0] := by decide +kernel

theorem covers6 : (cfg0.win 6).Covers := by decide +kernel
theorem covers7 : (cfg0.win 7).Covers := by decide +kernel
theorem covers8 : (cfg0.win 8).Covers := by decide +kernel
theorem covers9 : (cfg0.win 9).Covers := by decide +kernel

/-- The head of a point. -/
def headAt (t : Fin cfg0.N) : Fin 4 := ⟨t.val, t.isLt⟩

section Blocks

variable {F : FTy → Type} [FloatOps F] [Named F] (W : Valuation τ sig (Elt F))

theorem blk0_at (t : Fin cfg0.N) (i : Fin 5000) (c : Fin 128) : blk W 0 t (ix2 i c) = (W (Proc.devRef .tc main_arg0) : Vec F S5000x128 .f32) (ix2 i c) := by
  blk_ext [blk, index0]
theorem blk1_at (t : Fin cfg0.N) (k : Fin 4) (hk : k.val = t.val) (c d : Fin 128) :
    blk W 1 t (ix3 0 c d) = (W (Proc.devRef .tc main_arg4) : Vec F S4x128x128 .f32) (ix3 k c d) := by
  blk_ext [blk, index1]
theorem blk2_at (t : Fin cfg0.N) (k : Fin 4) (hk : k.val = t.val) (c : Fin 128) :
    blk W 2 t (ix3 0 c 0) = (W (Proc.devRef .tc main_v0) : Vec F S4x128x1 .f32) (ix3 k c 0) := by
  blk_ext [blk, index2]
theorem blk3_at (t : Fin cfg0.N) (k : Fin 4) (hk : k.val = t.val) (c : Fin 128) :
    blk W 3 t (ix3 0 c 0) = (W (Proc.devRef .tc main_v1) : Vec F S4x128x1 .f32) (ix3 k c 0) := by
  blk_ext [blk, index3]
theorem blk4_at (t : Fin cfg0.N) (q : Fin 8) (c : Fin 128) : blk W 4 t (ix2 q c) = (W (Proc.devRef .tc main_v6) : Vec F S8x128 .f32) (ix2 q c) := by
  blk_ext [blk, index4]
theorem blk5_at (t : Fin cfg0.N) (c : Fin 128) (r : Fin 16) : blk W 5 t (ix2 c r) = (W (Proc.devRef .tc main_v7) : Vec F S128x16 .f32) (ix2 c r) := by
  blk_ext [blk, index5]

end Blocks

theorem all3_at {F : FTy → Type} {e : EltTy} {a b c : ℕ} (X : (⟨3, ![a, b, c]⟩ : Shape).Idx → Elt F e)
    (h : ∀ k, (![0, 0, 0] : Fin 3 → ℕ) k + (⟨3, ![a, b, c]⟩ : Shape).size k ≤ (⟨3, ![a, b, c]⟩ : Shape).size k) (i : Fin a) (j : Fin b) (l : Fin c) :
    all3 X h (ix3 i j l) = X (ix3 i j l) := by
  show X ((Rect.unit (s := ⟨3, ![a, b, c]⟩) ![0, 0, 0] (⟨3, ![a, b, c]⟩ : Shape).size h).idx (ix3 i j l)) = _
  congr 1
  funext k
  apply Fin.ext
  fin_cases k
  · show 0 + 1 * i.val = i.val
    omega
  · show 0 + 1 * j.val = j.val
    omega
  · show 0 + 1 * l.val = l.val
    omega

theorem rows_low {α : Type} {n : ℕ} (p : (⟨3, ![1, 5000, n]⟩ : Shape).Idx → α) (q : (⟨3, ![1, 120, n]⟩ : Shape).Idx → α) (r : Fin 5000) (d : Fin n) :
    rows p q (ix3 0 (r.castLE (by decide)) d) = p (ix3 0 r d) := by
  have h : ((ix3 0 (r.castLE (by decide)) d : (⟨3, ![1, 5120, n]⟩ : Shape).Idx) 1).val < 5000 := r.isLt
  unfold rows
  rw [dif_pos h]
  congr 1
  funext a
  fin_cases a <;> rfl

theorem proj_raw (x : Vec Ideal S5000x128 .f32) (w : Vec Ideal S1x128x128 .f32) (i : Fin 5000) (d : Fin 128) :
    k0_pay5 x w (ix3 0 i d) = ∑ c, x (ix2 i c) * w (ix3 0 c d) := by
  have key : ∀ q, ∑ c, x (ix2 i c) * w (ix3 0 c d) = q → k0_pay5 x w (ix3 0 i d) = q := by
    intro q hq
    pointwise [k0_pay5, k0_pay4]
    exact hq
  exact key _ rfl
theorem row_raw (x : Vec Ideal S5000x128 .f32) (w : Vec Ideal S1x128x128 .f32) (a : Vec Ideal S1x128x1 .f32) (i : Fin 5000) :
    k0_pay6 x w a (ix3 0 i 0) = ∑ d, (∑ c, x (ix2 i c) * w (ix3 0 c d)) * a (ix3 0 d 0) := by
  have key : ∀ q, ∑ d, (∑ c, x (ix2 i c) * w (ix3 0 c d)) * a (ix3 0 d 0) = q → k0_pay6 x w a (ix3 0 i 0) = q := by
    intro q hq
    pointwise [k0_pay6, k0_pay4]
    exact hq
  exact key _ rfl
theorem col_raw (x : Vec Ideal S5000x128 .f32) (w : Vec Ideal S1x128x128 .f32) (a : Vec Ideal S1x128x1 .f32) (i : Fin 5000) :
    k0_pay7 x w a (ix3 0 i 0) = ∑ d, (∑ c, x (ix2 i c) * w (ix3 0 c d)) * a (ix3 0 d 0) := by
  have key : ∀ q, ∑ d, (∑ c, x (ix2 i c) * w (ix3 0 c d)) * a (ix3 0 d 0) = q → k0_pay7 x w a (ix3 0 i 0) = q := by
    intro q hq
    pointwise [k0_pay7, k0_pay4]
    exact hq
  exact key _ rfl
theorem bias_raw (x : Vec Ideal S8x128 .f32) (w : Vec Ideal S128x16 .f32) (q : Fin 8) (r : Fin 16) :
    k0_pay3 x w (ix2 q r) = ∑ c, x (ix2 q c) * w (ix2 c r) := by
  have key : ∀ z, ∑ c, x (ix2 q c) * w (ix2 c r) = z → k0_pay3 x w (ix2 q r) = z := by
    intro z hz
    pointwise [k0_pay3]
    exact hz
  exact key _ rfl

/-- What the projection kernel reads. -/
structure Reads (W : Valuation τ sig (Elt Ideal)) (A : Args) : Prop where
  x : ∀ i c, (W (Proc.devRef .tc main_arg0) : Vec Ideal S5000x128 .f32) (ix2 i c) = (A.x i c : EReal)
  w : ∀ k c d, (W (Proc.devRef .tc main_arg4) : Vec Ideal S4x128x128 .f32) (ix3 k c d) = (A.W k c d : EReal)
  a1 : ∀ k c, (W (Proc.devRef .tc main_v0) : Vec Ideal S4x128x1 .f32) (ix3 k c 0) = (A.a1 k c : EReal)
  a2 : ∀ k c, (W (Proc.devRef .tc main_v1) : Vec Ideal S4x128x1 .f32) (ix3 k c 0) = (A.a2 k c : EReal)
  ar : ∀ (k : Fin 4) c, (W (Proc.devRef .tc main_v6) : Vec Ideal S8x128 .f32) (ix2 (k.castLE (by decide)) c) = (A.ar k c : EReal)
  aro : ∀ c, (W (Proc.devRef .tc main_v6) : Vec Ideal S8x128 .f32) (ix2 4 c) = (A.aro c : EReal)
  rel : ∀ c r, (W (Proc.devRef .tc main_v7) : Vec Ideal S128x16 .f32) (ix2 c r) = (A.rel r c : EReal)

variable {W W' : Valuation τ sig (Elt Ideal)} {A : Args}

theorem Reads.feat (R : Reads W A) (t : Fin cfg0.N) (k : Fin 4) (hk : k.val = t.val) (r : Fin 5000) (d : Fin 128) :
    ∑ c, (all2 (blk W 0 t) inb_S5000x128_S5000x128_0_0 : Vec Ideal S5000x128 .f32) (ix2 r c)
      * (all3 (blk W 1 t) inb_S1x128x128_S1x128x128_0_0_0 : Vec Ideal S1x128x128 .f32) (ix3 0 c d) = (A.h1 k r d : EReal) :=
  dot_coe (fun c => (all2_at _ _ _ _).trans ((blk0_at W t r c).trans (R.x r c)))
    fun c => (all3_at _ _ _ _ _).trans ((blk1_at W t k hk c d).trans (R.w k c d))

theorem Reads.left6 (R : Reads W A) (t : Fin cfg0.N) (k : Fin 4) (hk : k.val = t.val) (X : Vec Ideal S1x5120x128 .f32) (hX : Rl W 6 t X) (r : Fin 5000) (d : Fin 128) :
    X (ix3 0 (r.castLE (by decide)) d) = (A.h1 k r d : EReal) := by
  cases hX
  exact (rows_low _ _ r d).trans ((proj_raw _ _ r d).trans (R.feat t k hk r d))

theorem Reads.left7 (R : Reads W A) (t : Fin cfg0.N) (k : Fin 4) (hk : k.val = t.val) (X : Vec Ideal S1x5120x1 .f32) (hX : Rl W 7 t X) (r : Fin 5000) :
    X (ix3 0 (r.castLE (by decide)) 0) = (dot (A.h1 k r) (A.a1 k) : EReal) := by
  cases hX
  exact (rows_low _ _ r 0).trans ((row_raw _ _ _ r).trans (dot_coe (fun d => R.feat t k hk r d)
    fun d => (all3_at _ _ _ _ _).trans ((blk2_at W t k hk d).trans (R.a1 k d))))

theorem Reads.left8 (R : Reads W A) (t : Fin cfg0.N) (k : Fin 4) (hk : k.val = t.val) (X : Vec Ideal S1x5120x1 .f32) (hX : Rl W 8 t X) (r : Fin 5000) :
    X (ix3 0 (r.castLE (by decide)) 0) = (dot (A.h1 k r) (A.a2 k) : EReal) := by
  cases hX
  exact (rows_low _ _ r 0).trans ((col_raw _ _ _ r).trans (dot_coe (fun d => R.feat t k hk r d)
    fun d => (all3_at _ _ _ _ _).trans ((blk3_at W t k hk d).trans (R.a2 k d))))

theorem Reads.left9 (R : Reads W A) (t : Fin cfg0.N) (X : Vec Ideal S8x16 .f32) (hX : Rl W 9 t X) (q : Fin 8) (y : Fin 128 → ℝ)
    (hy : ∀ c, (W (Proc.devRef .tc main_v6) : Vec Ideal S8x128 .f32) (ix2 q c) = (y c : EReal)) (r : Fin 16) :
    X (ix2 q r) = (dot (A.rel r) y : EReal) := by
  cases hX
  rw [dot_comm]
  exact (bias_raw _ _ q r).trans (dot_coe (fun c => (all2_at _ _ _ _).trans ((blk4_at W t q c).trans (hy c)))
    fun c => (all2_at _ _ _ _).trans ((blk5_at W t c r).trans (R.rel c r)))

theorem place6 (t : Fin cfg0.N) (y : ((cfg0.win 6).xblock (cfg0.grid.coords t)).Idx) :
    ((((cfg0.win 6).blk t).view.emb y) 0).val = t.val + (y 0).val ∧ ((((cfg0.win 6).blk t).view.emb y) 1).val = (y 1).val
      ∧ ((((cfg0.win 6).blk t).view.emb y) 2).val = (y 2).val := by
  refine ⟨?_, ?_, ?_⟩ <;> blk_simp [index6]
theorem place7 (t : Fin cfg0.N) (y : ((cfg0.win 7).xblock (cfg0.grid.coords t)).Idx) :
    ((((cfg0.win 7).blk t).view.emb y) 0).val = t.val + (y 0).val ∧ ((((cfg0.win 7).blk t).view.emb y) 1).val = (y 1).val := by
  refine ⟨?_, ?_⟩ <;> blk_simp [index7]
theorem place8 (t : Fin cfg0.N) (y : ((cfg0.win 8).xblock (cfg0.grid.coords t)).Idx) :
    ((((cfg0.win 8).blk t).view.emb y) 0).val = t.val + (y 0).val ∧ ((((cfg0.win 8).blk t).view.emb y) 1).val = (y 1).val := by
  refine ⟨?_, ?_⟩ <;> blk_simp [index8]
theorem place9 (t : Fin cfg0.N) (y : ((cfg0.win 9).xblock (cfg0.grid.coords t)).Idx) :
    ((((cfg0.win 9).blk t).view.emb y) 0).val = (y 0).val ∧ ((((cfg0.win 9).blk t).view.emb y) 1).val = (y 1).val := by
  refine ⟨?_, ?_⟩ <;> blk_simp [index9]

/-- The heads' features. -/
theorem Reads.leaves6 (R : Reads W A) (c : Dev nD) (h : (bodies Ideal).Leaves 0 c W W') (k : Fin 4) (r : Fin 5000) (d : Fin 128) :
    (W' (Proc.devRef .tc main_v8_0) : Vec Ideal S4x5120x128 .f32) (ix3 k (r.castLE (by decide)) d) = (A.h1 k r d : EReal) := by
  refine wrote h (6 : Fin cfg0.W) rfl covers6 (Memref.isWhole_whole _)
    (fun i w => ∀ (k : Fin 4) (r : Fin 5000) (d : Fin 128), (i 0).val = k.val → (i 1).val = r.val → (i 2).val = d.val → w = (A.h1 k r d : EReal))
    (fun t _ X hX y k r d h0 h1 h2 => ?_) (ix3 k (r.castLE (by decide)) d) k r d rfl rfl rfl
  have hp := place6 t y
  have hy : (y 0).val < 1 := (y 0).isLt
  have hk : k.val = t.val := (h0.symm.trans hp.1).trans (by rw [Nat.lt_one_iff.1 hy, Nat.add_zero])
  refine Eq.trans ?_ (R.left6 t k hk X hX r d)
  refine congrArg X ?_
  funext a
  apply Fin.ext
  fin_cases a
  · exact Nat.lt_one_iff.1 hy
  · exact (hp.2.1.symm.trans h1)
  · exact (hp.2.2.symm.trans h2)

/-- The heads' row terms. -/
theorem Reads.leaves7 (R : Reads W A) (c : Dev nD) (h : (bodies Ideal).Leaves 0 c W W') (k : Fin 4) (r : Fin 5000) :
    (W' (Proc.devRef .tc main_v8_1) : Vec Ideal S4x5120x1 .f32) (ix3 k (r.castLE (by decide)) 0) = (dot (A.h1 k r) (A.a1 k) : EReal) := by
  refine wrote h (7 : Fin cfg0.W) rfl covers7 (Memref.isWhole_whole _)
    (fun i w => ∀ (k : Fin 4) (r : Fin 5000), (i 0).val = k.val → (i 1).val = r.val → w = (dot (A.h1 k r) (A.a1 k) : EReal))
    (fun t _ X hX y k r h0 h1 => ?_) (ix3 k (r.castLE (by decide)) 0) k r rfl rfl
  have hp := place7 t y
  have hy : (y 0).val < 1 := (y 0).isLt
  have hk : k.val = t.val := (h0.symm.trans hp.1).trans (by rw [Nat.lt_one_iff.1 hy, Nat.add_zero])
  refine Eq.trans ?_ (R.left7 t k hk X hX r)
  refine congrArg X ?_
  funext a
  apply Fin.ext
  fin_cases a
  · exact Nat.lt_one_iff.1 hy
  · exact (hp.2.symm.trans h1)
  · exact Nat.lt_one_iff.1 (show (y 2).val < 1 from (y 2).isLt)

/-- The heads' column terms. -/
theorem Reads.leaves8 (R : Reads W A) (c : Dev nD) (h : (bodies Ideal).Leaves 0 c W W') (k : Fin 4) (r : Fin 5000) :
    (W' (Proc.devRef .tc main_v8_2) : Vec Ideal S4x5120x1 .f32) (ix3 k (r.castLE (by decide)) 0) = (dot (A.h1 k r) (A.a2 k) : EReal) := by
  refine wrote h (8 : Fin cfg0.W) rfl covers8 (Memref.isWhole_whole _)
    (fun i w => ∀ (k : Fin 4) (r : Fin 5000), (i 0).val = k.val → (i 1).val = r.val → w = (dot (A.h1 k r) (A.a2 k) : EReal))
    (fun t _ X hX y k r h0 h1 => ?_) (ix3 k (r.castLE (by decide)) 0) k r rfl rfl
  have hp := place8 t y
  have hy : (y 0).val < 1 := (y 0).isLt
  have hk : k.val = t.val := (h0.symm.trans hp.1).trans (by rw [Nat.lt_one_iff.1 hy, Nat.add_zero])
  refine Eq.trans ?_ (R.left8 t k hk X hX r)
  refine congrArg X ?_
  funext a
  apply Fin.ext
  fin_cases a
  · exact Nat.lt_one_iff.1 hy
  · exact (hp.2.symm.trans h1)
  · exact Nat.lt_one_iff.1 (show (y 2).val < 1 from (y 2).isLt)

/-- A relation bias. -/
theorem Reads.leaves9 (R : Reads W A) (c : Dev nD) (h : (bodies Ideal).Leaves 0 c W W') (q : Fin 8) (z : Fin 128 → ℝ)
    (hz : ∀ c, (W (Proc.devRef .tc main_v6) : Vec Ideal S8x128 .f32) (ix2 q c) = (z c : EReal)) (r : Fin 16) :
    (W' (Proc.devRef .tc main_v8_3) : Vec Ideal S8x16 .f32) (ix2 q r) = (dot (A.rel r) z : EReal) := by
  refine wrote h (9 : Fin cfg0.W) rfl covers9 (Memref.isWhole_whole _)
    (fun i w => ∀ (r : Fin 16), (i 0).val = q.val → (i 1).val = r.val → w = (dot (A.rel r) z : EReal))
    (fun t _ X hX y r h0 h1 => ?_) (ix2 q r) r rfl rfl
  have hp := place9 t y
  refine Eq.trans ?_ (R.left9 t X hX q z hz r)
  refine congrArg X ?_
  funext a
  apply Fin.ext
  fin_cases a
  · exact (hp.1.symm.trans h0)
  · exact (hp.2.symm.trans h1)

end Cert.Proof.Zero
-- ==== Proof.Read1.lean ====
/-
  The first attention kernel at an index: what its windows' blocks hold, the four heads' scratch buffers after each point, and
  the row blocks written after the last column block.
-/
module

public import proofs.«01_k».proof.Proof.Fold
public import proofs.«01_k».proof.Proof.Data1
public import proofs.«01_k».proof.Proof.Read2

@[expose] public section

set_option maxRecDepth 16384

noncomputable section

namespace Cert.Proof.One

open Idealize.ShloMosaic Idealize.ShloMosaic.TcCoe
open Idealize.ShloMosaic.Pipeline
open Cert.KernelIdeal Cert.KernelIdeal.Gen
open Cert.Proof.Two (all2_at)

theorem index0 : ∀ t : Fin cfg1.N, win1_0.index t = ![t.val / 10, t.val % 10] := by decide +kernel
theorem index1 : ∀ t : Fin cfg1.N, win1_1.index t = ![t.val / 10, t.val % 10] := by decide +kernel
theorem index2 : ∀ t : Fin cfg1.N, win1_2.index t = ![0, 0, 0] := by decide +kernel
theorem index3 : ∀ t : Fin cfg1.N, win1_3.index t = ![0, t.val / 10, 0] := by decide +kernel
theorem index4 : ∀ t : Fin cfg1.N, win1_4.index t = ![0, 0, t.val % 10] := by decide +kernel
theorem index5 : ∀ t : Fin cfg1.N, win1_5.index t = ![0, 0] := by decide +kernel
theorem index6 : ∀ t : Fin cfg1.N, win1_6.index t = ![0, 0] := by decide +kernel
theorem index7 : ∀ t : Fin cfg1.N, win1_7.index t = ![0, 0] := by decide +kernel
theorem index8 : ∀ t : Fin cfg1.N, win1_8.index t = ![0, 0] := by decide +kernel
theorem index9 : ∀ t : Fin cfg1.N, win1_9.index t = ![t.val / 10, 0] := by decide +kernel
theorem index10 : ∀ t : Fin cfg1.N, win1_10.index t = ![t.val / 10, 0] := by decide +kernel
theorem index11 : ∀ t : Fin cfg1.N, win1_11.index t = ![t.val / 10, 0] := by decide +kernel

/-- How much of a block of the matrices is inside. -/
theorem inside0 : ∀ t : Fin cfg1.N, (cfg1.win 0).xsize (cfg1.grid.coords t) 0 = min 256 (5000 - 256 * (t.val / 10))
    ∧ (cfg1.win 0).xsize (cfg1.grid.coords t) 1 = min 512 (5000 - 512 * (t.val % 10)) := by decide +kernel
theorem inside1 : ∀ t : Fin cfg1.N, (cfg1.win 1).xsize (cfg1.grid.coords t) 0 = min 256 (5000 - 256 * (t.val / 10))
    ∧ (cfg1.win 1).xsize (cfg1.grid.coords t) 1 = min 512 (5000 - 512 * (t.val % 10)) := by decide +kernel

theorem column : ∀ t : Fin cfg1.N, (grid1.coords t 1).val = t.val % 10 := by decide +kernel
theorem first : ∀ t : Fin cfg1.N, decide (isFirst (grid1.coords t) = 1#1) = decide (t.val % 10 = 0) := by decide +kernel
theorem last : ∀ t : Fin cfg1.N, decide (k1_cond2 (grid1.coords t) = 1#1) = decide (t.val % 10 = 9) := by decide +kernel
theorem rowBlock : ∀ t : Fin cfg1.N, (grid1.coords t 0).val = t.val / 10 := by decide +kernel
theorem offset : ∀ t : Fin cfg1.N, k1_off1 (grid1.coords t) = ![0, 512 * (t.val % 10), 0] ∧ k1_off2 (grid1.coords t) = ![1, 512 * (t.val % 10), 0]
    ∧ k1_off3 (grid1.coords t) = ![2, 512 * (t.val % 10), 0] ∧ k1_off4 (grid1.coords t) = ![3, 512 * (t.val % 10), 0] := by decide +kernel

variable {F : FTy → Type} [FloatOps F] [Named F] (W : Valuation τ sig (Elt F))

theorem blk2_at (t : Fin cfg1.N) (k : Fin 4) (j : Fin 5120) (d : Fin 128) :
    blk W 2 t (ix3 k j d) = (W (Proc.devRef .tc main_v8_0) : Vec F S4x5120x128 .f32) (ix3 k j d) := by
  blk_ext [blk, index2]
theorem blk3_at (t : Fin cfg1.N) (k : Fin 4) (i : Fin 256) (R : Fin 5120) (hR : R.val = 256 * (t.val / 10) + i.val) :
    blk W 3 t (ix3 k i 0) = (W (Proc.devRef .tc main_v8_1) : Vec F S4x5120x1 .f32) (ix3 k R 0) := by
  blk_ext [blk, index3]
theorem blk4_at (t : Fin cfg1.N) (k : Fin 4) (j : Fin 512) (C : Fin 5120) (hC : C.val = 512 * (t.val % 10) + j.val) :
    blk W 4 t (ix3 k 0 j) = (W (Proc.devRef .tc main_v9) : Vec F S4x1x5120 .f32) (ix3 k 0 C) := by
  blk_ext [blk, index4]
theorem blk5_at (t : Fin cfg1.N) (r : Fin 8) (n : Fin 16)  :
    blk W 5 t (ix2 r n) = (W (Proc.devRef .tc main_v8_3) : Vec F S8x16 .f32) (ix2 r n) := by
  blk_ext [blk, index5]
theorem blk6_at (t : Fin cfg1.N) (x : Fin 128) (e : Fin 128)  :
    blk W 6 t (ix2 x e) = (W (Proc.devRef .tc main_arg8) : Vec F S128x128 .f32) (ix2 x e) := by
  blk_ext [blk, index6]
theorem blk7_at (t : Fin cfg1.N) (e : Fin 128)  :
    blk W 7 t (ix2 e 0) = (W (Proc.devRef .tc main_v10) : Vec F S128x1 .f32) (ix2 e 0) := by
  blk_ext [blk, index7]
theorem blk8_at (t : Fin cfg1.N) (e : Fin 128)  :
    blk W 8 t (ix2 e 0) = (W (Proc.devRef .tc main_v11) : Vec F S128x1 .f32) (ix2 e 0) := by
  blk_ext [blk, index8]

theorem adj_at (t : Fin cfg1.N) (d : Vec F S256x512 .i32) (i : Fin 256) (j : Fin 512) (R C : Fin 5000) (hR : R.val = 256 * (t.val / 10) + i.val)
    (hC : C.val = 512 * (t.val % 10) + j.val) :
    adj W t d (ix2 i j) = (W (Proc.devRef .tc main_arg3) : IVec S5000x5000 32) (ix2 R C) := by
  unfold adj Window.fill
  have hm : (cfg1.win 0).moved (cfg1.grid.coords t) (ix2 i j) = true := by
    rw [Window.moved_iff]
    intro a
    have hR' := R.isLt
    have hC' := C.isLt
    fin_cases a
    · exact lt_of_lt_of_eq (show i.val < min 256 (5000 - 256 * (t.val / 10)) by omega) (inside0 t).1.symm
    · exact lt_of_lt_of_eq (show j.val < min 512 (5000 - 512 * (t.val % 10)) by omega) (inside0 t).2.symm
  rw [dif_pos hm]
  blk_ext [blk, index0]
theorem ids_at (t : Fin cfg1.N) (d : Vec F S256x512 .i32) (i : Fin 256) (j : Fin 512) (R C : Fin 5000) (hR : R.val = 256 * (t.val / 10) + i.val)
    (hC : C.val = 512 * (t.val % 10) + j.val) :
    ids W t d (ix2 i j) = (W (Proc.devRef .tc main_arg2) : IVec S5000x5000 32) (ix2 R C) := by
  unfold ids Window.fill
  have hm : (cfg1.win 1).moved (cfg1.grid.coords t) (ix2 i j) = true := by
    rw [Window.moved_iff]
    intro a
    have hR' := R.isLt
    have hC' := C.isLt
    fin_cases a
    · exact lt_of_lt_of_eq (show i.val < min 256 (5000 - 256 * (t.val / 10)) by omega) (inside1 t).1.symm
    · exact lt_of_lt_of_eq (show j.val < min 512 (5000 - 512 * (t.val % 10)) by omega) (inside1 t).2.symm
  rw [dif_pos hm]
  blk_ext [blk, index1]

theorem rowTerm_at (f : Vec Ideal S4x256x1 .f32) (k : Fin 4) (i : Fin 256) : rowTerm f k (ix2 i 0) = f (ix3 k i 0) := by
  have key : ∀ q, slice k f (ix3 0 i 0) = q → k1_pay19 (slice k f) (ix2 i 0) = q := by
    intro q hq
    pointwise [k1_pay19]
    exact hq
  exact key _ (slice_at _ _ _ _)
theorem colTerm_at (f : Vec Ideal S4x1x512 .f32) (k : Fin 4) (j : Fin 512) : colTerm f k (ix2 0 j) = f (ix3 k 0 j) := by
  have key : ∀ q, slice k f (ix3 0 0 j) = q → k1_pay20 (slice k f) (ix2 0 j) = q := by
    intro q hq
    pointwise [k1_pay20]
    exact hq
  exact key _ (slice_at _ _ _ _)

/-- A head's rows of the features, cut at an offset. -/
theorem rows_at (X : Vec Ideal S4x5120x128 .f32) (off : Fin 3 → ℕ) (inb : ∀ a, off a + S1x512x128.size a ≤ S4x5120x128.size a) (k : Fin 4) (b : ℕ)
    (ho : off = ![k.val, 512 * b, 0]) (q : Fin 512) (d : Fin 128) (C : Fin 5120) (hC : C.val = 512 * b + q.val) :
    k1_pay18 (View.ld X (Rect.unit (s := S4x5120x128) off S1x512x128.size inb)) (ix2 q d) = X (ix3 k C d) := by
  subst ho
  have key : ∀ (Y : Vec Ideal S1x512x128 .f32) z, Y (ix3 0 q d) = z → k1_pay18 Y (ix2 q d) = z := by
    intro Y z hz
    pointwise [k1_pay18]
    exact hz
  refine key _ _ ?_
  show X ((Rect.unit (s := S4x5120x128) ![k.val, 512 * b, 0] S1x512x128.size inb).idx (ix3 0 q d)) = _
  congr 1
  funext a
  apply Fin.ext
  fin_cases a
  · rfl
  · show 512 * b + 1 * q.val = C.val
    omega
  · show 0 + 1 * d.val = d.val
    omega

theorem hblk_at (t : Fin cfg1.N) (X : Vec Ideal S4x5120x128 .f32) (k : Fin 4) (q : Fin 512) (d : Fin 128) (C : Fin 5120)
    (hC : C.val = 512 * (t.val % 10) + q.val) : hblk (grid1.coords t) X k (ix2 q d) = X (ix3 k C d) := by
  obtain ⟨h0, h1, h2, h3⟩ := offset t
  fin_cases k
  · exact rows_at X _ _ 0 _ h0 q d C hC
  · exact rows_at X _ _ 1 _ h1 q d C hC
  · exact rows_at X _ _ 2 _ h2 q d C hC
  · exact rows_at X _ _ 3 _ h3 q d C hC

/-- What the first attention kernel reads: four heads' features, row and column terms, biases; the words; the next weights. -/
structure Reads (W : Valuation τ sig (Elt Ideal)) (H : Fin 4 → Fin 5000 → Fin 128 → ℝ) (u v : Fin 4 → Fin 5000 → ℝ) (rb : Fin 4 → Fin 16 → ℝ)
    (idw adw : Fin 5000 → Fin 5000 → BitVec 32) (Wo : Fin 128 → Fin 128 → ℝ) (b1 b2 : Fin 128 → ℝ) : Prop where
  ids : ∀ i j, (W (Proc.devRef .tc main_arg2) : IVec S5000x5000 32) (ix2 i j) = idw i j
  adj : ∀ i j, (W (Proc.devRef .tc main_arg3) : IVec S5000x5000 32) (ix2 i j) = adw i j
  H : ∀ k (j : Fin 5000) d, (W (Proc.devRef .tc main_v8_0) : Vec Ideal S4x5120x128 .f32) (ix3 k (j.castLE (by decide)) d) = (H k j d : EReal)
  u : ∀ k (j : Fin 5000), (W (Proc.devRef .tc main_v8_1) : Vec Ideal S4x5120x1 .f32) (ix3 k (j.castLE (by decide)) 0) = (u k j : EReal)
  v : ∀ k (j : Fin 5000), (W (Proc.devRef .tc main_v9) : Vec Ideal S4x1x5120 .f32) (ix3 k 0 (j.castLE (by decide))) = (v k j : EReal)
  rb : ∀ (k : Fin 4) r, (W (Proc.devRef .tc main_v8_3) : Vec Ideal S8x16 .f32) (ix2 (k.castLE (by decide)) r) = (rb k r : EReal)
  small : ∀ i j, (idw i j).toNat < 16
  Wo : ∀ c d, (W (Proc.devRef .tc main_arg8) : Vec Ideal S128x128 .f32) (ix2 c d) = (Wo c d : EReal)
  b1 : ∀ c, (W (Proc.devRef .tc main_v10) : Vec Ideal S128x1 .f32) (ix2 c 0) = (b1 c : EReal)
  b2 : ∀ c, (W (Proc.devRef .tc main_v11) : Vec Ideal S128x1 .f32) (ix2 c 0) = (b2 c : EReal)

variable {W : Valuation τ sig (Elt Ideal)} {H : Fin 4 → Fin 5000 → Fin 128 → ℝ} {u v : Fin 4 → Fin 5000 → ℝ} {rb : Fin 4 → Fin 16 → ℝ}
  {idw adw : Fin 5000 → Fin 5000 → BitVec 32} {Wo : Fin 128 → Fin 128 → ℝ} {b1 b2 : Fin 128 → ℝ}

/-- One point, at a head and a row inside the matrix. -/
theorem Reads.point (R : Reads W H u v rb idw adw Wo b1 b2) (t : Fin cfg1.N) (m l : Vec Ideal S4x256x1 .f32) (a : Vec Ideal S4x256x128 .f32)
    (d e : Vec Ideal S256x512 .i32) (k : Fin 4) (i : Fin 256) (r : Fin 5000) (hr : r.val = 256 * (t.val / 10) + i.val)
    (h : t.val % 10 = 0 ∨ HeldRow (fun j => logit (adw r j) (u k r + v k j + rb k (relOf (idw r j)))) (H k) (512 * (t.val % 10)) (slice k m) (slice k l) (slice k a) i) :
    HeldRow (fun j => logit (adw r j) (u k r + v k j + rb k (relOf (idw r j)))) (H k) (512 * (t.val % 10) + 512)
      (slice k (newM (grid1.coords t) (One.adj W t d) (One.ids W t e) (blk W 3 t) (blk W 4 t) (blk W 5 t) m))
      (slice k (newL (grid1.coords t) (One.adj W t d) (One.ids W t e) (blk W 3 t) (blk W 4 t) (blk W 5 t) m l))
      (slice k (newA (grid1.coords t) (One.adj W t d) (One.ids W t e) (blk W 2 t) (blk W 3 t) (blk W 4 t) (blk W 5 t) m a)) i := by
  have hb : t.val % 10 < 10 := Nat.mod_lt _ (by decide)
  have hg : (grid1.coords t 1).val = (⟨t.val % 10, hb⟩ : Fin 10).val := column t
  have hf := first t
  unfold newM newL newA
  rw [slice_stack, slice_stack, slice_stack]
  refine HeldRow.step (by omega) (fun q hq => ?_) (fun q hq => ?_) (fun q hq x => ?_) ?_
  · exact scores_in (grid1.coords t) ⟨t.val % 10, hb⟩ hg (k.castLE (by decide)) _ _ _ _ _ i q hq
      ((rowTerm_at _ _ _).trans <| (blk3_at W t k i (r.castLE (by decide)) hr).trans (R.u k r))
      ((colTerm_at _ _ _).trans <| (blk4_at W t k q (Fin.castLE (by decide) ⟨512 * (t.val % 10) + q.val, hq⟩) rfl).trans (R.v k ⟨512 * (t.val % 10) + q.val, hq⟩))
      (fun n => (blk5_at W t _ n).trans (R.rb k n))
      ((ids_at W t e i q r ⟨512 * (t.val % 10) + q.val, hq⟩ hr rfl).trans (R.ids _ _)) (R.small _ _)
      ((adj_at W t d i q r ⟨512 * (t.val % 10) + q.val, hq⟩ hr rfl).trans (R.adj _ _))
  · exact scores_out (grid1.coords t) ⟨t.val % 10, hb⟩ hg _ _ _ _ _ _ i q hq
  · exact (hblk_at t _ k q x (Fin.castLE (by decide) ⟨512 * (t.val % 10) + q.val, hq⟩) rfl).trans ((blk2_at W t k _ x).trans (R.H k ⟨_, hq⟩ x))
  · by_cases h0 : t.val % 10 = 0
    · have h1 : isFirst (grid1.coords t) = 1#1 := by simpa [h0] using hf
      refine Or.inl ⟨by omega, ?_, ?_, fun x => ?_⟩
      · rw [startM, if_pos h1]; exact (slice_at _ _ _ _).trans (start_max4 k i)
      · rw [startL, if_pos h1]; exact (slice_at _ _ _ _).trans (start_sum4 k i)
      · rw [startA, if_pos h1]; exact (slice_at _ _ _ _).trans (start_acc4 k i x)
    · have h1 : ¬ isFirst (grid1.coords t) = 1#1 := by simpa [h0] using hf
      rw [startM, if_neg h1, startL, if_neg h1, startA, if_neg h1]
      exact Or.inr (h.resolve_left h0)

/-- After a point, every row inside the matrix holds the columns met so far. -/
theorem Reads.held (R : Reads W H u v rb idw adw Wo b1 b2) (k : Fin 4) : ∀ (n : ℕ) (m l : Vec Ideal S4x256x1 .f32) (a : Vec Ideal S4x256x128 .f32), Reach W (n + 1) m l a →
    ∀ (i : Fin 256) (r : Fin 5000), r.val = 256 * (n / 10) + i.val →
      HeldRow (fun j => logit (adw r j) (u k r + v k j + rb k (relOf (idw r j)))) (H k) (512 * (n % 10) + 512) (slice k m) (slice k l) (slice k a) i := by
  intro n
  induction n with
  | zero =>
    rintro m' l' a' ⟨h, m, l, a, d, e, -, rfl, rfl, rfl⟩ i r hr
    exact R.point ⟨0, h⟩ m l a d e k i r hr (Or.inl rfl)
  | succ n ih =>
    rintro m' l' a' ⟨h, m, l, a, d, e, hR, rfl, rfl, rfl⟩ i r hr
    refine R.point ⟨n + 1, h⟩ m l a d e k i r hr ?_
    by_cases h0 : (n + 1) % 10 = 0
    · exact Or.inl h0
    · have e1 : n / 10 = (n + 1) / 10 := by omega
      have e2 : 512 * (n % 10) + 512 = 512 * ((n + 1) % 10) := by omega
      have := ih m l a hR i r (by rw [e1]; exact hr)
      rw [e2] at this
      exact Or.inr this

/-- A row number's test, for the grid's row blocks. -/
theorem row_bit (b : Fin 20) (i : Fin 256) (h : 256 * b.val + i.val < 5000) :
    IntOp.cmpi .slt (IntOp.addi (Scalar.muli (BitVec.ofNat 32 b.val) 256#32) (BitVec.ofNat 32 i.val)) 5000#32 = 1#1 := by
  have hb := b.isLt
  have hi := i.isLt
  have e : IntOp.addi (Scalar.muli (BitVec.ofNat 32 b.val) 256#32) (BitVec.ofNat 32 i.val) = BitVec.ofNat 32 (256 * b.val + i.val) := by
    apply BitVec.eq_of_toNat_eq
    simp [IntOp.addi, Scalar.muli, IntOp.muli, BitVec.toNat_add, BitVec.toNat_mul]
    omega
  rw [e]
  have e2 : (BitVec.ofNat 32 (256 * b.val + i.val)).slt 5000#32 = true := by
    rw [BitVec.slt_eq_decide, BitVec.toInt_eq_toNat_of_lt (by simp; omega), BitVec.toInt_eq_toNat_of_lt (by decide)]
    simp
    omega
  show BitVec.ofBool ((BitVec.ofNat 32 (256 * b.val + i.val)).slt 5000#32) = _
  rw [e2]
  rfl

theorem elu_at {x : EReal} {z : ℝ} (hx : x = z) : (if 0 < x then x else Ideal.exp x - 1) = (elu z : EReal) := by
  subst hx
  unfold elu
  by_cases h : 0 < z
  · rw [if_pos (EReal.coe_pos.2 h), if_pos h]
  · have h' : ¬ (0 : EReal) < z := fun c => h (EReal.coe_pos.1 c)
    rw [if_neg h', if_neg h, Ideal.exp_coe]
    rfl

theorem two_raw (a0 a1 : Vec Ideal S1x256x128 .f32) (l0 l1 : Vec Ideal S1x256x1 .f32) (i : Fin 256) (d : Fin 128) (z0 z1 : ℝ)
    (h0 : Ideal.div (a0 (ix3 0 i d)) (l0 (ix3 0 i 0)) = z0) (h1 : Ideal.div (a1 (ix3 0 i d)) (l1 (ix3 0 i 0)) = z1) :
    k1_pay2 a0 l0 a1 l1 (ix2 i d) = ((elu z0 + elu z1 : ℝ) : EReal) := by
  have key : ∀ q, ((if 0 < Ideal.div (a0 (ix3 0 i d)) (l0 (ix3 0 i 0)) then Ideal.div (a0 (ix3 0 i d)) (l0 (ix3 0 i 0))
      else Ideal.exp (Ideal.div (a0 (ix3 0 i d)) (l0 (ix3 0 i 0))) - 1) +
      if 0 < Ideal.div (a1 (ix3 0 i d)) (l1 (ix3 0 i 0)) then Ideal.div (a1 (ix3 0 i d)) (l1 (ix3 0 i 0))
      else Ideal.exp (Ideal.div (a1 (ix3 0 i d)) (l1 (ix3 0 i 0))) - 1) = q → k1_pay2 a0 l0 a1 l1 (ix2 i d) = q := by
    intro q hq
    pointwise [k1_pay2]
    exact hq
  exact key _ (by rw [elu_at h0, elu_at h1]; rfl)

theorem third_raw (a : Vec Ideal S1x256x128 .f32) (l : Vec Ideal S1x256x1 .f32) (i : Fin 256) (d : Fin 128) (z : ℝ)
    (h : Ideal.div (a (ix3 0 i d)) (l (ix3 0 i 0)) = z) :
    Scalar.select (k1_pay4 a l (ix2 i d)) (k1_pay3 a l (ix2 i d)) (k1_pay5 a l (ix2 i d) - 1) = (elu z : EReal) := by
  have e4 : k1_pay4 a l (ix2 i d) = BitVec.ofBool (decide (0 < k1_pay3 a l (ix2 i d))) := by pointwise [k1_pay4]
  have e5 : k1_pay5 a l (ix2 i d) = Ideal.exp (k1_pay3 a l (ix2 i d)) := by pointwise [k1_pay5]
  have e3 : k1_pay3 a l (ix2 i d) = z := by
    have key : ∀ q, Ideal.div (a (ix3 0 i d)) (l (ix3 0 i 0)) = q → k1_pay3 a l (ix2 i d) = q := by
      intro q hq
      pointwise [k1_pay3]
      exact hq
    exact key _ h
  rw [e4, e5, e3]
  refine Eq.trans ?_ (elu_at rfl)
  by_cases hz : (0 : EReal) < z <;> simp [hz, Scalar.select]

theorem out_raw (g : BitVec 32) (m0 m1 m2 : FVec Ideal S256x128 .f32) (b : IVec S256x128 1) (a : Vec Ideal S1x256x128 .f32) (l : Vec Ideal S1x256x1 .f32)
    (wo : Vec Ideal S128x128 .f32) (i : Fin 256) (d : Fin 128) (y z w : Fin 128 → ℝ) (o : Fin 128 → ℝ)
    (hg : IntOp.cmpi .slt (IntOp.addi (Scalar.muli g 256#32) (BitVec.ofNat 32 i.val)) 5000#32 = 1#1)
    (h0 : ∀ x, m0 (ix2 i x) = y x) (h2 : ∀ x, Scalar.select (b (ix2 i x)) (m1 (ix2 i x)) (m2 (ix2 i x) - 1) = (z x : EReal))
    (h3 : ∀ x, Ideal.div (a (ix3 0 i x)) (l (ix3 0 i 0)) = w x) (ho : ∀ x, wo (ix2 x d) = o x) :
    k1_pay6 g m0 m1 b m2 a l wo (ix2 i d) = (dot (fun x => (y x + z x + elu (w x)) / 4) o : EReal) := by
  have key : ∀ q, ∑ x,
      Scalar.select (IntOp.cmpi CmpIPredicate.slt (IntOp.addi (Scalar.muli g 256#32) (BitVec.ofNat 32 i.val)) 5000#32)
        ((m0 (ix2 i x) + Scalar.select (b (ix2 i x)) (m1 (ix2 i x)) (m2 (ix2 i x) - 1) +
              if 0 < Ideal.div (a (ix3 0 i x)) (l (ix3 0 i 0)) then Ideal.div (a (ix3 0 i x)) (l (ix3 0 i 0))
              else Ideal.exp (Ideal.div (a (ix3 0 i x)) (l (ix3 0 i 0))) - 1) *
            Ideal.ofBits FTy.f32 1048576000#32 * wo (ix2 x d)) 0 = q → k1_pay6 g m0 m1 b m2 a l wo (ix2 i d) = q := by
    intro q hq
    pointwise [k1_pay6]
    exact hq
  refine key _ ((Finset.sum_congr rfl fun x _ => ?_).trans (dot_coe (x := fun x => ((((y x + z x + elu (w x)) / 4 : ℝ)) : EReal)) (fun _ => rfl) ho))
  rw [hg, h0, h2, elu_at (h3 x), quarter_eq]
  show ((y x : EReal) + z x + elu (w x)) * ((1 / 4 : ℝ) : EReal) * wo (ix2 x d) = _
  rw [← EReal.coe_add, ← EReal.coe_add, ← EReal.coe_mul, mul_one_div]

theorem term_raw (h : FVec Ideal S256x128 .f32) (a : Vec Ideal S128x1 .f32) (i : Fin 256) : k1_pay1 h a (ix2 i 0) = ∑ x, h (ix2 i x) * a (ix2 x 0) := by
  have key : ∀ q, ∑ x, h (ix2 i x) * a (ix2 x 0) = q → k1_pay1 h a (ix2 i 0) = q := by
    intro q hq
    pointwise [k1_pay1]
    exact hq
  exact key _ rfl

/-- The second layer's features of a row, in terms of what the first attention kernel reads. -/
def feats (H : Fin 4 → Fin 5000 → Fin 128 → ℝ) (u v : Fin 4 → Fin 5000 → ℝ) (rb : Fin 4 → Fin 16 → ℝ) (idw adw : Fin 5000 → Fin 5000 → BitVec 32)
    (Wo : Fin 128 → Fin 128 → ℝ) (r : Fin 5000) (d : Fin 128) : ℝ :=
  dot (fun x => (∑ k, elu (att (fun j => logit (adw r j) (u k r + v k j + rb k (relOf (idw r j)))) fun j => H k j x)) / 4) fun c => Wo c d

/-- What the last point of a row block leaves of the features, at a row inside the matrix. -/
theorem Reads.out (R : Reads W H u v rb idw adw Wo b1 b2) (t : Fin cfg1.N) (ht : t.val % 10 = 9) (m l : Vec Ideal S4x256x1 .f32) (a : Vec Ideal S4x256x128 .f32)
    (hR : Reach W (t.val + 1) m l a) (i : Fin 256) (r : Fin 5000) (hr : r.val = 256 * (t.val / 10) + i.val) (d : Fin 128) :
    outH (grid1.coords t) l a (blk W 6 t) (ix2 i d) = (feats H u v rb idw adw Wo r d : EReal) := by
  have hh : ∀ (k : Fin 4) x, Ideal.div (slice k a (ix3 0 i x)) (slice k l (ix3 0 i 0))
      = (att (fun j => logit (adw r j) (u k r + v k j + rb k (relOf (idw r j)))) (fun j => H k j x) : EReal) := fun k x => by
    have h := R.held k t.val m l a hR i r hr
    rw [ht] at h
    exact Held.out (h x)
  have hb : t.val / 10 < 20 := by
    have : t.val < 200 := t.isLt
    omega
  refine (out_raw _ _ _ _ _ _ _ _ i d _ _ _ (fun c => Wo c d) ?_ (fun x => two_raw _ _ _ _ i x _ _ (hh 0 x) (hh 1 x)) (fun x => third_raw _ _ i x _ (hh 2 x)) (fun x => hh 3 x)
    (fun x => (all2_at _ _ _ _).trans ((blk6_at W t x d).trans (R.Wo x d)))).trans ?_
  · rw [rowBlock t]
    exact row_bit ⟨t.val / 10, hb⟩ i (hr ▸ r.isLt)
  · unfold feats
    simp only [Fin.sum_univ_four]

theorem Reads.left9 (R : Reads W H u v rb idw adw Wo b1 b2) (t : Fin cfg1.N) (ht : t.val % 10 = 9) (X : Vec Ideal S256x128 .f32) (hX : Rl W 9 t X)
    (i : Fin 256) (r : Fin 5000) (hr : r.val = 256 * (t.val / 10) + i.val) (d : Fin 128) : X (ix2 i d) = (feats H u v rb idw adw Wo r d : EReal) := by
  obtain ⟨m, l, a, hR, rfl⟩ := hX (by have := last t; simpa [ht] using this)
  exact R.out t ht m l a hR i r hr d

theorem Reads.left10 (R : Reads W H u v rb idw adw Wo b1 b2) (t : Fin cfg1.N) (ht : t.val % 10 = 9) (X : Vec Ideal S256x1 .f32) (hX : Rl W 10 t X)
    (i : Fin 256) (r : Fin 5000) (hr : r.val = 256 * (t.val / 10) + i.val) : X (ix2 i 0) = (dot (feats H u v rb idw adw Wo r) b1 : EReal) := by
  obtain ⟨m, l, a, hR, rfl⟩ := hX (by have := last t; simpa [ht] using this)
  exact (term_raw _ _ i).trans (dot_coe (fun x => R.out t ht m l a hR i r hr x) fun x => (all2_at _ _ _ _).trans ((blk7_at W t x).trans (R.b1 x)))

theorem Reads.left11 (R : Reads W H u v rb idw adw Wo b1 b2) (t : Fin cfg1.N) (ht : t.val % 10 = 9) (X : Vec Ideal S256x1 .f32) (hX : Rl W 11 t X)
    (i : Fin 256) (r : Fin 5000) (hr : r.val = 256 * (t.val / 10) + i.val) : X (ix2 i 0) = (dot (feats H u v rb idw adw Wo r) b2 : EReal) := by
  obtain ⟨m, l, a, hR, rfl⟩ := hX (by have := last t; simpa [ht] using this)
  exact (term_raw _ _ i).trans (dot_coe (fun x => R.out t ht m l a hR i r hr x) fun x => (all2_at _ _ _ _).trans ((blk8_at W t x).trans (R.b2 x)))

end Cert.Proof.One
-- ==== Proof.Leave1.lean ====
/-
  The arrays that the first attention kernel leaves, at a row of the matrix.
-/
module

public import proofs.«01_k».proof.Proof.Read1
public import proofs.«01_k».proof.Proof.Wrote

@[expose] public section

set_option maxRecDepth 16384

noncomputable section

namespace Cert.Proof.One

open Idealize.ShloMosaic Idealize.ShloMosaic.TcCoe
open Idealize.ShloMosaic.Pipeline
open Cert.KernelIdeal Cert.KernelIdeal.Gen

theorem covers9 : (cfg1.win 9).Covers := by decide +kernel
theorem covers10 : (cfg1.win 10).Covers := by decide +kernel
theorem covers11 : (cfg1.win 11).Covers := by decide +kernel

/-- Where a block of the features lies. -/
theorem place9 (t : Fin cfg1.N) (y : ((cfg1.win 9).xblock (cfg1.grid.coords t)).Idx) :
    ((((cfg1.win 9).blk t).view.emb y) 0).val = 256 * (t.val / 10) + (y 0).val ∧ ((((cfg1.win 9).blk t).view.emb y) 1).val = (y 1).val := by
  constructor
  · blk_simp [index9]
    omega
  · blk_simp [index9]
/-- Where a block of the row terms lies. -/
theorem place10 (t : Fin cfg1.N) (y : ((cfg1.win 10).xblock (cfg1.grid.coords t)).Idx) :
    ((((cfg1.win 10).blk t).view.emb y) 0).val = 256 * (t.val / 10) + (y 0).val := by
  blk_simp [index10]
  omega
/-- Where a block of the column terms lies. -/
theorem place11 (t : Fin cfg1.N) (y : ((cfg1.win 11).xblock (cfg1.grid.coords t)).Idx) :
    ((((cfg1.win 11).blk t).view.emb y) 0).val = 256 * (t.val / 10) + (y 0).val := by
  blk_simp [index11]
  omega

variable {W W' : Valuation τ sig (Elt Ideal)} {H : Fin 4 → Fin 5000 → Fin 128 → ℝ} {u v : Fin 4 → Fin 5000 → ℝ} {rb : Fin 4 → Fin 16 → ℝ}
  {idw adw : Fin 5000 → Fin 5000 → BitVec 32} {Wo : Fin 128 → Fin 128 → ℝ} {b1 b2 : Fin 128 → ℝ}

/-- The features. -/
theorem Reads.leaves9 (R : Reads W H u v rb idw adw Wo b1 b2) (c : Dev nD) (h : (bodies Ideal).Leaves 1 c W W') (r : Fin 5000) (e : Fin 128) :
    (W' (Proc.devRef .tc main_v12_0) : Vec Ideal S5120x128 .f32) (ix2 (r.castLE (by decide)) e) = (feats H u v rb idw adw Wo r e : EReal) := by
  refine wrote h (9 : Fin cfg1.W) rfl covers9 (Memref.isWhole_whole _)
    (fun i w => ∀ (r : Fin 5000) (e : Fin 128), (i 0).val = r.val → (i 1).val = e.val → w = (feats H u v rb idw adw Wo r e : EReal))
    (fun t hf X hX y r e h0 h1 => ?_) (ix2 (r.castLE (by decide)) e) r e rfl rfl
  have hp := place9 t y
  have hr : r.val = 256 * (t.val / 10) + (y 0).val := h0.symm.trans hp.1
  have he : e = y 1 := Fin.ext (h1.symm.trans hp.2)
  subst he
  refine Eq.trans ?_ (R.left9 t ((flush1_9 t).1 hf) X hX (y 0) r hr (y 1))
  refine congrArg X ?_
  funext a
  fin_cases a <;> rfl

/-- The row terms. -/
theorem Reads.leaves10 (R : Reads W H u v rb idw adw Wo b1 b2) (c : Dev nD) (h : (bodies Ideal).Leaves 1 c W W') (r : Fin 5000) :
    (W' (Proc.devRef .tc main_v12_1) : Vec Ideal S5120x1 .f32) (ix2 (r.castLE (by decide)) 0) = (dot (feats H u v rb idw adw Wo r) b1 : EReal) := by
  refine wrote h (10 : Fin cfg1.W) rfl covers10 (Memref.isWhole_whole _)
    (fun i w => ∀ (r : Fin 5000), (i 0).val = r.val → w = (dot (feats H u v rb idw adw Wo r) b1 : EReal))
    (fun t hf X hX y r h0 => ?_) (ix2 (r.castLE (by decide)) 0) r rfl
  have hr : r.val = 256 * (t.val / 10) + (y 0).val := h0.symm.trans (place10 t y)
  refine Eq.trans ?_ (R.left10 t ((flush1_10 t).1 hf) X hX (y 0) r hr)
  refine congrArg X ?_
  funext a
  fin_cases a
  · rfl
  · exact Subsingleton.elim (α := Fin 1) _ _

/-- The column terms. -/
theorem Reads.leaves11 (R : Reads W H u v rb idw adw Wo b1 b2) (c : Dev nD) (h : (bodies Ideal).Leaves 1 c W W') (r : Fin 5000) :
    (W' (Proc.devRef .tc main_v12_2) : Vec Ideal S5120x1 .f32) (ix2 (r.castLE (by decide)) 0) = (dot (feats H u v rb idw adw Wo r) b2 : EReal) := by
  refine wrote h (11 : Fin cfg1.W) rfl covers11 (Memref.isWhole_whole _)
    (fun i w => ∀ (r : Fin 5000), (i 0).val = r.val → w = (dot (feats H u v rb idw adw Wo r) b2 : EReal))
    (fun t hf X hX y r h0 => ?_) (ix2 (r.castLE (by decide)) 0) r rfl
  have hr : r.val = 256 * (t.val / 10) + (y 0).val := h0.symm.trans (place11 t y)
  refine Eq.trans ?_ (R.left11 t ((flush1_11 t).1 hf) X hX (y 0) r hr)
  refine congrArg X ?_
  funext a
  fin_cases a
  · rfl
  · exact Subsingleton.elim (α := Fin 1) _ _

end Cert.Proof.One
-- ==== Proof.Leave2.lean ====
/-
  The array that the second attention kernel leaves, at a row of the matrix.
-/
module

public import proofs.«01_k».proof.Proof.Read2
public import proofs.«01_k».proof.Proof.Wrote

@[expose] public section

set_option maxRecDepth 16384

noncomputable section

namespace Cert.Proof.Two

open Idealize.ShloMosaic Idealize.ShloMosaic.TcCoe
open Idealize.ShloMosaic.Pipeline
open Cert.KernelIdeal Cert.KernelIdeal.Gen
theorem covers8 : (cfg2.win 8).Covers := by decide +kernel

/-- Where a block of the result lies. -/
theorem place8 (t : Fin cfg2.N) (y : ((cfg2.win 8).xblock (cfg2.grid.coords t)).Idx) :
    ((((cfg2.win 8).blk t).view.emb y) 0).val = 256 * (t.val / 10) + (y 0).val
      ∧ ((((cfg2.win 8).blk t).view.emb y) 1).val = (y 1).val := by
  constructor
  · blk_simp [index8]
    omega
  · blk_simp [index8]

variable {W W' : Valuation τ sig (Elt Ideal)} {H : Fin 5000 → Fin 128 → ℝ} {u v : Fin 5000 → ℝ} {rb : Fin 16 → ℝ} {idw adw : Fin 5000 → Fin 5000 → BitVec 32}

theorem Reads.leaves (R : Reads W H u v rb idw adw) (c : Dev nD) (h : (bodies Ideal).Leaves 2 c W W') (r : Fin 5000) (e : Fin 64) :
    (W' (Proc.devRef .tc main_v15) : Vec Ideal S5120x64 .f32) (ix2 (r.castLE (by decide)) e)
      = logSoft (fun e => ∑ x, (att (fun j => logit (adw r j) (u r + v j + rb (relOf (idw r j)))) (fun j => H j x) : EReal)
        * (W (Proc.devRef .tc main_arg12) : Vec Ideal S128x64 .f32) (ix2 x e) + (W (Proc.devRef .tc main_v14) : Vec Ideal S1x64 .f32) (ix2 0 e)) e := by
  refine wrote h (8 : Fin cfg2.W) rfl covers8 (Memref.isWhole_whole _)
    (fun i w => ∀ (r : Fin 5000) (e : Fin 64), (i 0).val = r.val → (i 1).val = e.val → w = logSoft (fun e => ∑ x, (att (fun j => logit (adw r j) (u r + v j + rb (relOf (idw r j)))) (fun j => H j x) : EReal)
        * (W (Proc.devRef .tc main_arg12) : Vec Ideal S128x64 .f32) (ix2 x e) + (W (Proc.devRef .tc main_v14) : Vec Ideal S1x64 .f32) (ix2 0 e)) e)
    (fun t hf X hX y r e h0 h1 => ?_) (ix2 (r.castLE (by decide)) e) r e rfl rfl
  have hp := place8 t y
  have hr : r.val = 256 * (t.val / 10) + (y 0).val := h0.symm.trans hp.1
  have he : e = y 1 := Fin.ext (h1.symm.trans hp.2)
  subst he
  refine Eq.trans ?_ (R.left t ((flush2_8 t).1 hf) X hX (y 0) r hr (y 1))
  refine congrArg X ?_
  funext a
  fin_cases a <;> rfl

end Cert.Proof.Two
-- ==== Proof.Whole.lean ====
/-
  The whole kernel program at an index: the three regions and the operations between them, composed.
-/
module

public import proofs.«01_k».proof.Proof.Host0
public import proofs.«01_k».proof.Proof.Read0
public import proofs.«01_k».proof.Proof.Leave1
public import proofs.«01_k».proof.Proof.Leave2

@[expose] public section

set_option maxRecDepth 16384

noncomputable section

namespace Cert.Proof

open Idealize.ShloMosaic Idealize.ShloMosaic.TcCoe
open Idealize.ShloMosaic.Pipeline
open Cert.KernelIdeal Cert.KernelIdeal.Gen

/-- The kernel's argument arrays hold the arguments `A`. -/
structure Holds (X : Valuation τ sig (Elt Ideal)) (A : Args) : Prop where
  x : ∀ i c, (X (Proc.devRef .tc main_arg0) : Vec Ideal S5000x128 .f32) (ix2 i c) = (A.x i c : EReal)
  rel : ∀ r c, (X (Proc.devRef .tc main_arg1) : Vec Ideal S16x128 .f32) (ix2 r c) = (A.rel r c : EReal)
  ids : ∀ i j, (X (Proc.devRef .tc main_arg2) : IVec S5000x5000 32) (ix2 i j) = A.ids i j
  adj : ∀ i j, (X (Proc.devRef .tc main_arg3) : IVec S5000x5000 32) (ix2 i j) = A.adj i j
  w : ∀ k c d, (X (Proc.devRef .tc main_arg4) : Vec Ideal S4x128x128 .f32) (ix3 k c d) = (A.W k c d : EReal)
  a1 : ∀ k c, (X (Proc.devRef .tc main_arg5) : Vec Ideal S4x128 .f32) (ix2 k c) = (A.a1 k c : EReal)
  a2 : ∀ k c, (X (Proc.devRef .tc main_arg6) : Vec Ideal S4x128 .f32) (ix2 k c) = (A.a2 k c : EReal)
  ar : ∀ k c, (X (Proc.devRef .tc main_arg7) : Vec Ideal S4x128 .f32) (ix2 k c) = (A.ar k c : EReal)
  wo : ∀ c d, (X (Proc.devRef .tc main_arg8) : Vec Ideal S128x128 .f32) (ix2 c d) = (A.Wo c d : EReal)
  a1o : ∀ c, (X (Proc.devRef .tc main_arg9) : Vec Ideal S128 .f32) (ix1 c) = (A.a1o c : EReal)
  a2o : ∀ c, (X (Proc.devRef .tc main_arg10) : Vec Ideal S128 .f32) (ix1 c) = (A.a2o c : EReal)
  aro : ∀ c, (X (Proc.devRef .tc main_arg11) : Vec Ideal S128 .f32) (ix1 c) = (A.aro c : EReal)
  small : ∀ i j, (A.ids i j).toNat < 16

/-- The first region's outputs are none of the second's. -/
theorem apart1 : ∀ w : Fin 12, (spec1 w).isOut = true → main_v8_3 ≠ arrRef spec1 w := by decide

section
variable {W W' : Valuation τ sig (Elt Ideal)} {A : Args} {c : Dev nD} {q : Fin 3}

/-- An argument through the first host operations. -/
theorem through0 {b : Ref sig .tc} (h : b ∉ hostOps0_W) : StableHlo.after (hostOps0 (F := Ideal)) W (Proc.devRef .tc b) = W (Proc.devRef .tc b) :=
  StableHlo.after_of_writes_sub hostOps0 _ hostOps0_writes h
theorem through1 {b : Ref sig .tc} (h : b ∉ hostOps1_W) : StableHlo.after (hostOps1 (F := Ideal)) W (Proc.devRef .tc b) = W (Proc.devRef .tc b) :=
  StableHlo.after_of_writes_sub hostOps1 _ hostOps1_writes h
theorem through2 {b : Ref sig .tc} (h : b ∉ hostOps2_W) : StableHlo.after (hostOps2 (F := Ideal)) W (Proc.devRef .tc b) = W (Proc.devRef .tc b) :=
  StableHlo.after_of_writes_sub hostOps2 _ hostOps2_writes h

/-- A buffer that is no region's output, through a region. -/
theorem past (h : (bodies Ideal).Leaves q c W W') {b : Ref sig .tc} (hb : b ∉ written) : W' (Proc.devRef .tc b) = W (Proc.devRef .tc b) :=
  h.keep _ _ (out_ne hb)

theorem past1 (h : (bodies Ideal).Leaves 1 c W W') : W' (Proc.devRef .tc main_v8_3) = W (Proc.devRef .tc main_v8_3) :=
  h.keep _ _ fun w ho => StableHlo.devRef_ne_of_ne (apart1 w ho)
end

section
variable {X W1 W2 W3 : Valuation τ sig (Elt Ideal)} {A : Args} {c : Dev nD}

/-- What the first region is entered with. -/
theorem Holds.enter0 (H : Holds X A) : Zero.Reads (StableHlo.after hostOps0 X) A where
  x i c := (congrFun (through0 (by decide)) _).trans (H.x i c)
  w k c d := (congrFun (through0 (by decide)) _).trans (H.w k c d)
  a1 k c := (read_v0 X k c).trans (H.a1 k c)
  a2 k c := (read_v1 X k c).trans (H.a2 k c)
  ar k c := (read_v6 X k c).trans (H.ar k c)
  aro c := (read_v6_last X c).trans (H.aro c)
  rel c r := (read_v7 X c r).trans (H.rel r c)

/-- An argument when the second region is entered. -/
theorem kept1 (h : (bodies Ideal).Leaves 0 c (StableHlo.after hostOps0 X) W1) {b : Ref sig .tc} (hw : b ∉ written) (h0 : b ∉ hostOps0_W) (h1 : b ∉ hostOps1_W) :
    StableHlo.after hostOps1 W1 (Proc.devRef .tc b) = X (Proc.devRef .tc b) :=
  (through1 h1).trans <| (past h hw).trans (through0 h0)

/-- What the second region is entered with. -/
theorem Holds.enter1 (H : Holds X A) (h : (bodies Ideal).Leaves 0 c (StableHlo.after hostOps0 X) W1) :
    One.Reads (StableHlo.after hostOps1 W1) A.h1 (fun k j => dot (A.h1 k j) (A.a1 k)) (fun k j => dot (A.h1 k j) (A.a2 k)) A.rb A.ids A.adj A.Wo A.a1o A.a2o where
  ids i j := (congrFun (kept1 h (by decide) (by decide) (by decide)) _).trans (H.ids i j)
  adj i j := (congrFun (kept1 h (by decide) (by decide) (by decide)) _).trans (H.adj i j)
  H k j d := (congrFun (through1 (by decide)) _).trans (H.enter0.leaves6 c h k j d)
  u k j := (congrFun (through1 (by decide)) _).trans (H.enter0.leaves7 c h k j)
  v k j := (read_v9 W1 k _).trans (H.enter0.leaves8 c h k j)
  rb k r := (congrFun (through1 (by decide)) _).trans (H.enter0.leaves9 c h _ _ (H.enter0.ar k) r)
  small := H.small
  Wo c d := (congrFun (kept1 h (by decide) (by decide) (by decide)) _).trans (H.wo c d)
  b1 c := (read_v10 W1 c).trans <| (congrFun ((past h (by decide)).trans (through0 (by decide))) _).trans (H.a1o c)
  b2 c := (read_v11 W1 c).trans <| (congrFun ((past h (by decide)).trans (through0 (by decide))) _).trans (H.a2o c)

/-- The second region's features are the second layer's. -/
theorem feats_h2 : One.feats A.h1 (fun k j => dot (A.h1 k j) (A.a1 k)) (fun k j => dot (A.h1 k j) (A.a2 k)) A.rb A.ids A.adj A.Wo = A.h2 := rfl

/-- An argument when the third region is entered. -/
theorem kept2 (h : (bodies Ideal).Leaves 0 c (StableHlo.after hostOps0 X) W1) (h' : (bodies Ideal).Leaves 1 c (StableHlo.after hostOps1 W1) W2)
    {b : Ref sig .tc} (hw : b ∉ written) (h0 : b ∉ hostOps0_W) (h1 : b ∉ hostOps1_W) (h2 : b ∉ hostOps2_W) :
    StableHlo.after hostOps2 W2 (Proc.devRef .tc b) = X (Proc.devRef .tc b) :=
  (through2 h2).trans <| (past h' hw).trans (kept1 h hw h0 h1)

/-- What the third region is entered with. -/
theorem Holds.enter2 (H : Holds X A) (h : (bodies Ideal).Leaves 0 c (StableHlo.after hostOps0 X) W1) (h' : (bodies Ideal).Leaves 1 c (StableHlo.after hostOps1 W1) W2) :
    Two.Reads (StableHlo.after hostOps2 W2) A.h2 (fun j => dot (A.h2 j) A.a1o) (fun j => dot (A.h2 j) A.a2o) A.rbo A.ids A.adj where
  ids i j := (congrFun (kept2 h h' (by decide) (by decide) (by decide) (by decide)) _).trans (H.ids i j)
  adj i j := (congrFun (kept2 h h' (by decide) (by decide) (by decide) (by decide)) _).trans (H.adj i j)
  H j d := (congrFun (through2 (by decide)) _).trans (feats_h2 ▸ (H.enter1 h).leaves9 c h' j d)
  u j := (congrFun (through2 (by decide)) _).trans (feats_h2 ▸ (H.enter1 h).leaves10 c h' j)
  v j := (read_v13 W2 _).trans (feats_h2 ▸ (H.enter1 h).leaves11 c h' j)
  rb r := (congrFun ((through2 (by decide)).trans ((past1 h').trans (through1 (by decide)))) _).trans (H.enter0.leaves9 c h _ _ H.enter0.aro r)
  small := H.small

/-- The kernel's result at an index. -/
theorem Holds.result (m : (ℓ : Loc nD τ sig) → Buf (Elt Ideal) ℓ) (H : Holds (V0 m c) A) {V : Valuation τ sig (Elt Ideal)} (h : (bodies Ideal).Ends m c V)
    (i : Fin 5000) (d : Fin 64) : (V (Proc.devRef .tc main_v16) : Vec Ideal S5000x64 .f32) (ix2 i d)
      = logSoft (fun e => ∑ x, (A.out i x : EReal) * (V0 m c (Proc.devRef .tc main_arg12) : Vec Ideal S128x64 .f32) (ix2 x e)
          + (V0 m c (Proc.devRef .tc main_arg13) : Vec Ideal S64 .f32) (ix1 e)) d := by
  obtain ⟨W1, W2, W3, h1, h2, h3, rfl⟩ := h
  refine (read_v16 W3 i d).trans (((H.enter2 h1 h2).leaves c h3 i d).trans ?_)
  have e12 : StableHlo.after hostOps2 W2 (Proc.devRef .tc main_arg12) = V0 m c (Proc.devRef .tc main_arg12) :=
    kept2 h1 h2 (by decide) (by decide) (by decide) (by decide)
  have e13 : W2 (Proc.devRef .tc main_arg13) = V0 m c (Proc.devRef .tc main_arg13) :=
    (past h2 (by decide)).trans (kept1 h1 (by decide) (by decide) (by decide))
  have e14 : ∀ e, (StableHlo.after hostOps2 W2 (Proc.devRef .tc main_v14) : Vec Ideal S1x64 .f32) (ix2 0 e)
      = (V0 m c (Proc.devRef .tc main_arg13) : Vec Ideal S64 .f32) (ix1 e) := fun e => (read_v14 W2 e).trans (congrFun e13 _)
  simp only [e14, e12]
  rfl
end

end Cert.Proof
-- ==== Proof.RefLayer.lean ====
/-
  One attention layer of the reference program, read at an index: its whole-array operations are the layer over the reals.
-/
module

public import proofs.«01_k».proof.Proof.Gen.ReferenceIdeal.Run
public import proofs.«01_k».proof.Proof.Spec
public import Idealize.ShloMosaic.Lib.Tactic

@[expose] public section

set_option maxRecDepth 16384

noncomputable section

namespace Cert.Proof

open Idealize.ShloMosaic Idealize.ShloMosaic.TcCoe

/-- What holds of the sixteen relation numbers holds of a word below sixteen. -/
theorem of_small {P : BitVec 32 → Prop} (h : ∀ k : Fin 16, P (BitVec.ofNat 32 k.val)) {w : BitVec 32} (hw : w.toNat < 16) : P w := by
  have := h ⟨w.toNat, hw⟩
  rwa [BitVec.ofNat_toNat, BitVec.setWidth_eq] at this

/-- A chosen word. -/
theorem sel_true {α : Type} {c : BitVec 1} (h : c = 1#1) (x y : α) : Scalar.select c x y = x := by subst h; rfl
theorem sel_false {α : Type} {c : BitVec 1} (h : c = 0#1) (x y : α) : Scalar.select c x y = y := by subst h; rfl

/-- Greater than zero, as a bit. -/
theorem sgt_bit (a : BitVec 32) : IntOp.cmpi CmpIPredicate.sgt a 0#32 = BitVec.ofBool ((0#32).slt a) := rfl

end Cert.Proof

namespace Cert.Proof.Ref

open Idealize.ShloMosaic Idealize.ShloMosaic.TcCoe
open Cert.ReferenceIdeal Cert.ReferenceIdeal.Gen Cert.ReferenceIdeal.Value

/-- The relation numbers, a negative one counted from the end. -/
def wrap (ids : IVec S5000x5000 32) : IVec S5000x5000x1 32 :=
  broadcastInDim S5000x5000x1 ![0, 1] bcast_S5000x5000_S5000x5000x1_0_1 (select (cmpi .slt ids (broadcastInDim S5000x5000 ![] bcast_S_S5000x5000 (constantI S_ 32 0#32))) (addi ids (broadcastInDim S5000x5000 ![] bcast_S_S5000x5000 (constantI S_ 32 16#32))) ids)

/-- Each pair's relation bias. -/
def bias (rb : FVec Ideal S16 .f32) (w : IVec S5000x5000x1 32) : FVec Ideal S5000x5000 .f32 :=
  select (Host.reduce IntOp.andi (andi (cmpi .sge w (broadcastInDim S5000x5000x1 ![] bcast_S_S5000x5000x1 (constantI S_ 32 0#32))) (cmpi .sle w (broadcastInDim S5000x5000x1 ![0, 1, 2] bcast_S1x1x1_S5000x5000x1_0_1_2 (broadcastInDim S1x1x1 ![2] bcast_S1_S1x1x1_2 (constantI S1 32 15#32))))) (constantI S_ 1 1#1) reducesTo_S5000x5000x1_S5000x5000_d2 h_S_) (Host.gather gather_S16_S5000x5000x1_S5000x5000_n_0_n_n_0_2_1 rb w) (broadcastInDim S5000x5000 ![] bcast_S_S5000x5000 (constant S_ .f32 0x7FC00000#32))

/-- The sum of a pair's three terms. -/
def terms (h : FVec Ideal S5000x128 .f32) (a1 a2 : FVec Ideal S128 .f32) (b : FVec Ideal S5000x5000 .f32) : FVec Ideal S5000x5000 .f32 :=
  addf (addf (broadcastInDim S5000x5000 ![0, 1] bcast_S5000x1_S5000x5000_0_1 (broadcastInDim S5000x1 ![0] bcast_S5000_S5000x1_0 (Host.dotGeneral dot_S5000x128_S128_S5000_1_0_0_n_n_n none h a1))) (broadcastInDim S5000x5000 ![0, 1] bcast_S1x5000_S5000x5000_0_1 (broadcastInDim S1x5000 ![1] bcast_S5000_S1x5000_1 (Host.dotGeneral dot_S5000x128_S128_S5000_1_0_0_n_n_n none h a2)))) b

/-- The masked scores. -/
def masked (adj : IVec S5000x5000 32) (e : FVec Ideal S5000x5000 .f32) : FVec Ideal S5000x5000 .f32 :=
  select (cmpi .sgt adj (broadcastInDim S5000x5000 ![] bcast_S_S5000x5000 (constantI S_ 32 0#32))) (select (cmpf .oge e (broadcastInDim S5000x5000 ![] bcast_S_S5000x5000 (constant S_ .f32 0x00000000#32))) e (mulf (broadcastInDim S5000x5000 ![] bcast_S_S5000x5000 (id (constant S_ .f32 0x3E4CCCCD#32))) e)) (broadcastInDim S5000x5000 ![] bcast_S_S5000x5000 (constant S_ .f32 0xD9FFCB9E#32))

/-- The exponentials. -/
def exps (e : FVec Ideal S5000x5000 .f32) : FVec Ideal S5000x5000 .f32 :=
  Host.exp (subf e (broadcastInDim S5000x5000 ![0, 1] bcast_S5000x1_S5000x5000_0_1 (broadcastInDim S5000x1 ![0] bcast_S5000_S5000x1_0 (maximumf (broadcastInDim S5000 ![] bcast_S_S5000 (constant S_ .f32 0xFF800000#32)) (Host.reduce FloatOps.maximumf e (constant S_ .f32 0xFF800000#32) reducesTo_S5000x5000_S5000_d1 h_S_)))))

/-- The weighted rows. -/
def mix (p : FVec Ideal S5000x5000 .f32) (h : FVec Ideal S5000x128 .f32) : FVec Ideal S5000x128 .f32 :=
  Host.dotGeneral dot_S5000x5000_S5000x128_S5000x128_1_0_0_1_n_n none (Host.divf p (broadcastInDim S5000x5000 ![0, 1] bcast_S5000x1_S5000x5000_0_1 (broadcastInDim S5000x1 ![0] bcast_S5000_S5000x1_0 (Host.reduceAdd p (constant S_ .f32 0x00000000#32) reducesTo_S5000x5000_S5000_d1 h_S_)))) h

theorem wrap_at (ids : IVec S5000x5000 32) (i j : Fin 5000) (hw : (ids (ix2 i j)).toNat < 16) : wrap ids (ix3 i j 0) = ids (ix2 i j) := by
  have key : ∀ q, Scalar.select (IntOp.cmpi CmpIPredicate.slt (ids (ix2 i j)) 0#32) (IntOp.addi (ids (ix2 i j)) 16#32) (ids (ix2 i j)) = q →
      wrap ids (ix3 i j 0) = q := by
    intro q hq
    pointwise [wrap]
    exact hq
  exact key _ (of_small (P := fun w => Scalar.select (IntOp.cmpi CmpIPredicate.slt w 0#32) (IntOp.addi w 16#32) w = w) (by decide) hw)

theorem bias_at (rb : FVec Ideal S16 .f32) (w : IVec S5000x5000x1 32) (i j : Fin 5000) (hw : (w (ix3 i j 0)).toNat < 16) :
    bias rb w (ix2 i j) = rb (ix1 (relOf (w (ix3 i j 0)))) := by
  have key : ∀ q, Scalar.select
      (Finset.fold IntOp.andi (1#1)
        (fun x : Fin 1 =>
          IntOp.andi (IntOp.cmpi CmpIPredicate.sge (w (ix3 i j x)) 0#32)
            (IntOp.cmpi CmpIPredicate.sle (w (ix3 i j x)) 15#32))
        Finset.univ)
      (Host.gather gather_S16_S5000x5000x1_S5000x5000_n_0_n_n_0_2_1 rb w (ix2 i j))
      (Ideal.ofBits FTy.f32 2143289344#32) = q → bias rb w (ix2 i j) = q := by
    intro q hq
    pointwise [bias]
    exact hq
  refine key _ ?_
  rw [Finset.univ_unique, Finset.fold_singleton]
  refine (sel_true ?_ _ _).trans ?_
  · exact of_small (P := fun w => IntOp.andi (IntOp.andi (IntOp.cmpi CmpIPredicate.sge w 0#32) (IntOp.cmpi CmpIPredicate.sle w 15#32)) 1#1 = 1#1)
      (by decide) hw
  · refine (ValueIdx.gather_take_apply (by decide) gather_S16_S5000x5000x1_S5000x5000_n_0_n_n_0_2_1.wf rb w (ix2 i j)).trans ?_
    have e : ValueIdx.takeIdx (ix2 i j) = ix3 i j (0 : Fin 1) := by
      funext a
      match a with
      | ⟨0, _⟩ => rfl
      | ⟨1, _⟩ => rfl
      | ⟨2, _⟩ => rfl
    refine congrArg rb ((ix1_eq_valueIdx _).symm.trans (congrArg ix1 (Fin.ext ?_)))
    show min (w (ValueIdx.takeIdx (ix2 i j))).toInt.toNat (16 - 1) = _
    rw [e]
    exact of_small (P := fun w => min w.toInt.toNat (16 - 1) = w.toNat % 16) (by decide) hw

theorem terms_at (h : FVec Ideal S5000x128 .f32) (a1 a2 : FVec Ideal S128 .f32) (b : FVec Ideal S5000x5000 .f32) (i j : Fin 5000) (q : EReal)
    (hq : ∑ k, h (ix2 i k) * a1 (ix1 k) + ∑ k, h (ix2 j k) * a2 (ix1 k) + b (ix2 i j) = q) : terms h a1 a2 b (ix2 i j) = q := by
  pointwise [terms]
  exact hq

theorem masked_at (adj : IVec S5000x5000 32) (e : FVec Ideal S5000x5000 .f32) (i j : Fin 5000) (z : ℝ) (hz : e (ix2 i j) = (z : EReal)) :
    masked adj e (ix2 i j) = (logit (adj (ix2 i j)) z : EReal) := by
  have key : ∀ q, Scalar.select (IntOp.cmpi CmpIPredicate.sgt (adj (ix2 i j)) 0#32)
      (if 0 ≤ e (ix2 i j) then e (ix2 i j) else Ideal.ofBits .f32 1045220557#32 * e (ix2 i j))
      (Ideal.ofBits FTy.f32 3657419678#32) = q → masked adj e (ix2 i j) = q := by
    intro q hq
    pointwise [masked]
    exact hq
  refine key _ ?_
  rw [hz, slope_eq, low_eq, sgt_bit]
  unfold logit
  cases (0#32).slt (adj (ix2 i j))
  · rfl
  · refine (sel_true rfl _ _).trans ?_
    rw [if_pos rfl]
    rcases lt_or_ge z 0 with h | h
    · rw [if_neg (by exact_mod_cast not_le.2 h), leak_of_neg h, EReal.coe_mul]
    · rw [if_pos (by exact_mod_cast h), leak_of_nonneg h]

theorem row_at (M : FVec Ideal S5000 .f32) (i j : Fin 5000) (q : EReal) (hq : M (ix1 i) = q) :
    broadcastInDim S5000x5000 ![0, 1] bcast_S5000x1_S5000x5000_0_1 (broadcastInDim S5000x1 ![0] bcast_S5000_S5000x1_0 M) (ix2 i j) = q := by
  pointwise
  exact hq

theorem capped_at (M : FVec Ideal S5000 .f32) (i : Fin 5000) (q : EReal) (hq : max (Ideal.ofBits FTy.f32 4286578688#32) (M (ix1 i)) = q) :
    maximumf (broadcastInDim S5000 ![] bcast_S_S5000 (constant S_ .f32 0xFF800000#32)) M (ix1 i) = q := by
  pointwise
  exact hq

theorem greatest_at (e : FVec Ideal S5000x5000 .f32) (i : Fin 5000) (q : EReal)
    (hq : Finset.fold max (Ideal.ofBits FTy.f32 4286578688#32) (fun x => e (ix2 i x)) Finset.univ = q) :
    Host.reduce FloatOps.maximumf e (constant S_ .f32 0xFF800000#32) reducesTo_S5000x5000_S5000_d1 h_S_ (ix1 i) = q := by
  pointwise
  exact hq

theorem expsub_at (e M : FVec Ideal S5000x5000 .f32) (i j : Fin 5000) (q : EReal) (hq : Ideal.exp (e (ix2 i j) - M (ix2 i j)) = q) :
    Host.exp (subf e M) (ix2 i j) = q := by
  pointwise
  exact hq

theorem exps_at (e : FVec Ideal S5000x5000 .f32) (i j : Fin 5000) (E : Fin 5000 → EReal) (hE : ∀ x, e (ix2 i x) = E x) :
    exps e (ix2 i j) = Ideal.exp (E j - max ⊥ (Finset.univ.fold max ⊥ E)) := by
  unfold exps
  refine expsub_at _ _ _ _ _ ?_
  rw [hE, row_at _ _ _ _ (capped_at _ _ _ rfl), greatest_at e i (Finset.univ.fold max ⊥ E) ?_, negInf]
  rw [negInf]
  exact congrArg (fun f => Finset.fold max ⊥ f Finset.univ) (funext hE)

theorem weighted_at (p : FVec Ideal S5000x5000 .f32) (h : FVec Ideal S5000x128 .f32) (i : Fin 5000) (d : Fin 128) (q : EReal)
    (P : Fin 5000 → EReal) (hP : ∀ x, p (ix2 i x) = P x) (hq : ∑ x, Ideal.div (P x) (∑ x, P x) * h (ix2 x d) = q) : mix p h (ix2 i d) = q := by
  pointwise [mix]
  simp only [hP]
  exact hq

theorem mix_at (e : FVec Ideal S5000x5000 .f32) (h : FVec Ideal S5000x128 .f32) (i : Fin 5000) (d : Fin 128) (E v : Fin 5000 → ℝ)
    (he : ∀ j, e (ix2 i j) = (E j : EReal)) (hv : ∀ j, h (ix2 j d) = (v j : EReal)) :
    mix (exps e) h (ix2 i d) = (att E v : EReal) :=
  weighted_at _ _ _ _ _ _ (fun x => exps_at e i x _ he) (att_divided E v _ _ (fun _ => rfl) hv)

/-- A layer of the reference. -/
def layerOf (ids adj : IVec S5000x5000 32) (h : FVec Ideal S5000x128 .f32) (a1 a2 : FVec Ideal S128 .f32) (rb : FVec Ideal S16 .f32) :
    FVec Ideal S5000x128 .f32 :=
  mix (exps (masked adj (terms h a1 a2 (bias rb (wrap ids))))) h

/-- It is the layer over the reals. -/
theorem layerOf_at (ids adj : IVec S5000x5000 32) (h : FVec Ideal S5000x128 .f32) (a1 a2 : FVec Ideal S128 .f32) (rb : FVec Ideal S16 .f32)
    (hw : ∀ i j : Fin 5000, (ids (ix2 i j)).toNat < 16) {H : Fin 5000 → Fin 128 → ℝ} {b1 b2 : Fin 128 → ℝ} {r : Fin 16 → ℝ}
    (hh : ∀ i d, h (ix2 i d) = (H i d : EReal)) (h1 : ∀ k, a1 (ix1 k) = (b1 k : EReal)) (h2 : ∀ k, a2 (ix1 k) = (b2 k : EReal))
    (hr : ∀ k, rb (ix1 k) = (r k : EReal)) (i : Fin 5000) (d : Fin 128) :
    layerOf ids adj h a1 a2 rb (ix2 i d)
      = (layer H b1 b2 r (fun i j => ids (ix2 i j)) (fun i j => adj (ix2 i j)) i d : EReal) := by
  refine mix_at _ _ _ _ _ _ (fun j => masked_at _ _ _ _ _ (terms_at _ _ _ _ _ _ _ ?_)) (fun j => hh j d)
  rw [bias_at _ _ _ _ (by rw [wrap_at _ _ _ (hw i j)]; exact hw i j), wrap_at _ _ _ (hw i j), hr,
    dot_coe (fun k => hh i k) h1, dot_coe (fun k => hh j k) h2, EReal.coe_add, EReal.coe_add]

end Cert.Proof.Ref
-- ==== Proof.RefRead.lean ====
/-
  The reference program's arrays, read at an index: the four heads, their mean, and the second layer.
-/
module

public import proofs.«01_k».proof.Proof.RefLayer

@[expose] public section

set_option maxRecDepth 16384

noncomputable section

namespace Cert.Proof.Ref

open Idealize.ShloMosaic Idealize.ShloMosaic.TcCoe
open Cert.ReferenceIdeal Cert.ReferenceIdeal.Gen Cert.ReferenceIdeal.Value

/-- The rectified head. -/
def eluOf (x : FVec Ideal S5000x128 .f32) : FVec Ideal S5000x128 .f32 :=
  select (cmpf .ogt x (broadcastInDim S5000x128 ![] bcast_S_S5000x128 (constant S_ .f32 0x00000000#32))) x (mulf (broadcastInDim S5000x128 ![] bcast_S_S5000x128 (constant S_ .f32 0x3F800000#32)) (Host.expm1 (select (cmpf .ogt x (broadcastInDim S5000x128 ![] bcast_S_S5000x128 (constant S_ .f32 0x00000000#32))) (broadcastInDim S5000x128 ![] bcast_S_S5000x128 (id (constant S_ .f32 0x00000000#32))) x)))

/-- The mean of four arrays. -/
def meanOf (x0 x1 x2 x3 : FVec Ideal S5000x128 .f32) : FVec Ideal S5000x128 .f32 :=
  Host.divf (Host.reduceAdd (concatenate S4x5000x128 0 [⟨S1x5000x128, broadcastInDim S1x5000x128 ![1, 2] bcast_S5000x128_S1x5000x128_1_2 x0⟩,
    ⟨S1x5000x128, broadcastInDim S1x5000x128 ![1, 2] bcast_S5000x128_S1x5000x128_1_2 x1⟩,
    ⟨S1x5000x128, broadcastInDim S1x5000x128 ![1, 2] bcast_S5000x128_S1x5000x128_1_2 x2⟩,
    ⟨S1x5000x128, broadcastInDim S1x5000x128 ![1, 2] bcast_S5000x128_S1x5000x128_1_2 x3⟩]
    concatenates_S1x5000x128_S1x5000x128_S1x5000x128_S1x5000x128_S4x5000x128_d0) (constant S_ .f32 0x00000000#32) reducesTo_S4x5000x128_S5000x128_d0 h_S_)
    (broadcastInDim S5000x128 ![] bcast_S_S5000x128 (constant S_ .f32 0x40800000#32))

/-- The features of a layer. -/
def proj (x : FVec Ideal S5000x128 .f32) (W : FVec Ideal S128x128 .f32) : FVec Ideal S5000x128 .f32 :=
  Host.dotGeneral dot_S5000x128_S128x128_S5000x128_1_0_0_1_n_n none x W

/-- The bias of each relation. -/
def relb (x : FVec Ideal S16x128 .f32) (a : FVec Ideal S128 .f32) : FVec Ideal S16 .f32 :=
  Host.dotGeneral dot_S16x128_S128_S16_1_0_0_n_n_n none x a

/-- A head's row of a stack of four rows. -/
def row (k : Fin 4) (hs : S4x128.Slices ![(k : ℕ), 0] S1x128) (a : FVec Ideal S4x128 .f32) : FVec Ideal S128 .f32 :=
  shapeCast S128 (extractStridedSlice S1x128 ![(k : ℕ), 0] a hs) shapeCasts_S1x128_S128

/-- A head's matrix of a stack of four. -/
def mat (k : Fin 4) (hs : S4x128x128.Slices ![(k : ℕ), 0, 0] S1x128x128) (W : FVec Ideal S4x128x128 .f32) : FVec Ideal S128x128 .f32 :=
  shapeCast S128x128 (extractStridedSlice S1x128x128 ![(k : ℕ), 0, 0] W hs) shapeCasts_S1x128x128_S128x128

theorem eluOf_at (x : FVec Ideal S5000x128 .f32) (i : Fin 5000) (d : Fin 128) (z : ℝ) (hz : x (ix2 i d) = z) :
    eluOf x (ix2 i d) = (elu z : EReal) := by
  have key : ∀ q, (if 0 < x (ix2 i d) then x (ix2 i d)
      else Ideal.exp (if 0 < x (ix2 i d) then id (constant (F := Ideal) S_ FTy.f32 0#32) ix0 else x (ix2 i d)) - 1) = q → eluOf x (ix2 i d) = q := by
    intro q hq
    pointwise [eluOf]
    exact hq
  refine key _ ?_
  rw [hz]
  unfold elu
  by_cases h : 0 < z
  · rw [if_pos (EReal.coe_pos.2 h), if_pos h]
  · have h' : ¬ (0 : EReal) < z := fun c => h (EReal.coe_pos.1 c)
    rw [if_neg h', if_neg h', if_neg h, Ideal.exp_coe]
    rfl

theorem meanOf_at (x0 x1 x2 x3 : FVec Ideal S5000x128 .f32) (i : Fin 5000) (d : Fin 128) (z : Fin 4 → ℝ)
    (h0 : x0 (ix2 i d) = z 0) (h1 : x1 (ix2 i d) = z 1) (h2 : x2 (ix2 i d) = z 2) (h3 : x3 (ix2 i d) = z 3) :
    meanOf x0 x1 x2 x3 (ix2 i d) = (((∑ k, z k) / 4 : ℝ) : EReal) := by
  have key : ∀ q, Ideal.div
      (∑ x : Fin 4, if h : (x : ℕ) < 1 then x0 (ix2 i d)
        else if h : (x : ℕ) - 1 < 1 then x1 (ix2 i d) else if h : (x : ℕ) - 1 - 1 < 1 then x2 (ix2 i d) else x3 (ix2 i d))
      (Ideal.ofBits FTy.f32 1082130432#32) = q → meanOf x0 x1 x2 x3 (ix2 i d) = q := by
    intro q hq
    pointwise [meanOf]
    exact hq
  refine key _ ?_
  rw [four_eq, ← div_coe _ _ (by norm_num), coe_sum]
  congr 1
  refine Finset.sum_congr rfl fun k _ => ?_
  fin_cases k
  · exact h0
  · exact h1
  · exact h2
  · exact h3

theorem proj_at (x : FVec Ideal S5000x128 .f32) (W : FVec Ideal S128x128 .f32) (i : Fin 5000) (d : Fin 128) (a b : Fin 128 → ℝ)
    (hx : ∀ c, x (ix2 i c) = a c) (hW : ∀ c, W (ix2 c d) = b c) : proj x W (ix2 i d) = (dot a b : EReal) := by
  have key : ∀ q, ∑ k, x (ix2 i k) * W (ix2 k d) = q → proj x W (ix2 i d) = q := by
    intro q hq
    pointwise [proj]
    exact hq
  exact key _ (dot_coe hx hW)

theorem relb_at (x : FVec Ideal S16x128 .f32) (a : FVec Ideal S128 .f32) (r : Fin 16) (u v : Fin 128 → ℝ)
    (hx : ∀ c, x (ix2 r c) = u c) (ha : ∀ c, a (ix1 c) = v c) : relb x a (ix1 r) = (dot u v : EReal) := by
  have key : ∀ q, ∑ k, x (ix2 r k) * a (ix1 k) = q → relb x a (ix1 r) = q := by
    intro q hq
    pointwise [relb]
    exact hq
  exact key _ (dot_coe hx ha)

theorem pick_at (k : Fin 4) (hs : S4x128.Slices ![(k : ℕ), 0] S1x128) (a : FVec Ideal S4x128 .f32) (c : Fin 128) :
    row k hs a (ix1 c) = a (ix2 k c) := by
  fin_cases k <;> pointwise [row]

theorem face_at (k : Fin 4) (hs : S4x128x128.Slices ![(k : ℕ), 0, 0] S1x128x128) (W : FVec Ideal S4x128x128 .f32) (c d : Fin 128) :
    mat k hs W (ix2 c d) = W (ix3 k c d) := by
  fin_cases k <;> pointwise [mat]

/-- The argument arrays hold the given reals and words. -/
structure Reads (V : Valuation τ sig (Elt Ideal)) (A : Args) : Prop where
  x : ∀ i c, (V (Proc.devRef .tc main_arg0) : FVec Ideal S5000x128 .f32) (ix2 i c) = (A.x i c : EReal)
  rel : ∀ r c, (V (Proc.devRef .tc main_arg1) : FVec Ideal S16x128 .f32) (ix2 r c) = (A.rel r c : EReal)
  ids : ∀ i j, (V (Proc.devRef .tc main_arg2) : IVec S5000x5000 32) (ix2 i j) = A.ids i j
  adj : ∀ i j, (V (Proc.devRef .tc main_arg3) : IVec S5000x5000 32) (ix2 i j) = A.adj i j
  W : ∀ k c d, (V (Proc.devRef .tc main_arg4) : FVec Ideal S4x128x128 .f32) (ix3 k c d) = (A.W k c d : EReal)
  a1 : ∀ k c, (V (Proc.devRef .tc main_arg5) : FVec Ideal S4x128 .f32) (ix2 k c) = (A.a1 k c : EReal)
  a2 : ∀ k c, (V (Proc.devRef .tc main_arg6) : FVec Ideal S4x128 .f32) (ix2 k c) = (A.a2 k c : EReal)
  ar : ∀ k c, (V (Proc.devRef .tc main_arg7) : FVec Ideal S4x128 .f32) (ix2 k c) = (A.ar k c : EReal)
  Wo : ∀ c d, (V (Proc.devRef .tc main_arg8) : FVec Ideal S128x128 .f32) (ix2 c d) = (A.Wo c d : EReal)
  a1o : ∀ c, (V (Proc.devRef .tc main_arg9) : FVec Ideal S128 .f32) (ix1 c) = (A.a1o c : EReal)
  a2o : ∀ c, (V (Proc.devRef .tc main_arg10) : FVec Ideal S128 .f32) (ix1 c) = (A.a2o c : EReal)
  aro : ∀ c, (V (Proc.devRef .tc main_arg11) : FVec Ideal S128 .f32) (ix1 c) = (A.aro c : EReal)
  small : ∀ i j, (A.ids i j).toNat < 16

variable {V : Valuation τ sig (Elt Ideal)} {A : Args}

/-- A head of the reference, from the argument arrays. -/
def headArr (V : Valuation τ sig (Elt Ideal)) (k : Fin 4) (hv : S4x128.Slices ![(k : ℕ), 0] S1x128)
    (hm : S4x128x128.Slices ![(k : ℕ), 0, 0] S1x128x128) : FVec Ideal S5000x128 .f32 :=
  layerOf (V (Proc.devRef .tc main_arg2)) (V (Proc.devRef .tc main_arg3)) (proj (V (Proc.devRef .tc main_arg0)) (mat k hm (V (Proc.devRef .tc main_arg4))))
    (row k hv (V (Proc.devRef .tc main_arg5))) (row k hv (V (Proc.devRef .tc main_arg6)))
    (relb (V (Proc.devRef .tc main_arg1)) (row k hv (V (Proc.devRef .tc main_arg7))))

/-- A layer's words and numbers read off the arguments. -/
theorem Reads.layer (R : Reads V A) (h : FVec Ideal S5000x128 .f32) (a1 a2 : FVec Ideal S128 .f32) (rb : FVec Ideal S16 .f32)
    {H : Fin 5000 → Fin 128 → ℝ} {b1 b2 : Fin 128 → ℝ} {r : Fin 16 → ℝ}
    (hh : ∀ i d, h (ix2 i d) = (H i d : EReal)) (h1 : ∀ k, a1 (ix1 k) = (b1 k : EReal)) (h2 : ∀ k, a2 (ix1 k) = (b2 k : EReal))
    (hr : ∀ k, rb (ix1 k) = (r k : EReal)) (i : Fin 5000) (d : Fin 128) :
    layerOf (V (Proc.devRef .tc main_arg2)) (V (Proc.devRef .tc main_arg3)) h a1 a2 rb (ix2 i d)
      = (Proof.layer H b1 b2 r A.ids A.adj i d : EReal) := by
  rw [layerOf_at _ _ _ _ _ _ (fun i j => (congrArg BitVec.toNat (R.ids i j)).trans_lt (R.small i j)) hh h1 h2 hr]
  have e1 : (fun i j => (V (Proc.devRef .tc main_arg2) : IVec S5000x5000 32) (ix2 i j)) = A.ids := funext fun i => funext fun j => R.ids i j
  have e2 : (fun i j => (V (Proc.devRef .tc main_arg3) : IVec S5000x5000 32) (ix2 i j)) = A.adj := funext fun i => funext fun j => R.adj i j
  exact congrArg₂ (fun u v => ((Proof.layer H b1 b2 r u v i d : ℝ) : EReal)) e1 e2

theorem Reads.head (R : Reads V A) (k : Fin 4) (hv : S4x128.Slices ![(k : ℕ), 0] S1x128)
    (hm : S4x128x128.Slices ![(k : ℕ), 0, 0] S1x128x128) (i : Fin 5000) (d : Fin 128) : headArr V k hv hm (ix2 i d) = (A.head k i d : EReal) :=
  R.layer _ _ _ _ (fun i d => proj_at _ _ _ _ _ _ (R.x i) fun c => (face_at _ _ _ _ _).trans (R.W k c d))
    (fun c => (pick_at _ _ _ _).trans (R.a1 k c)) (fun c => (pick_at _ _ _ _).trans (R.a2 k c))
    (fun r => relb_at _ _ _ _ _ (R.rel r) fun c => (pick_at _ _ _ _).trans (R.ar k c)) i d

theorem head0_eq : res_main_v35 V = headArr V 0 slices_S4x128_S1x128_0_0 slices_S4x128x128_S1x128x128_0_0_0 := rfl
theorem head1_eq : res_main_v72 V = headArr V 1 slices_S4x128_S1x128_1_0 slices_S4x128x128_S1x128x128_1_0_0 := rfl
theorem head2_eq : res_main_v109 V = headArr V 2 slices_S4x128_S1x128_2_0 slices_S4x128x128_S1x128x128_2_0_0 := rfl
theorem head3_eq : res_main_v146 V = headArr V 3 slices_S4x128_S1x128_3_0 slices_S4x128x128_S1x128x128_3_0_0 := rfl

theorem feats_eq : res_main_v156 V = proj (meanOf (eluOf (res_main_v35 V)) (eluOf (res_main_v72 V)) (eluOf (res_main_v109 V)) (eluOf (res_main_v146 V)))
    (V (Proc.devRef .tc main_arg8)) := rfl

/-- The second layer's features. -/
theorem Reads.feats (R : Reads V A) (i : Fin 5000) (d : Fin 128) : res_main_v156 V (ix2 i d) = (A.h2 i d : EReal) := by
  rw [feats_eq]
  refine proj_at _ _ _ _ (A.mean i) _ (fun c => ?_) fun c => R.Wo c d
  refine meanOf_at _ _ _ _ _ _ (fun k => elu (A.head k i c)) ?_ ?_ ?_ ?_
  · exact eluOf_at _ _ _ _ (by rw [head0_eq]; exact R.head 0 _ _ i c)
  · exact eluOf_at _ _ _ _ (by rw [head1_eq]; exact R.head 1 _ _ i c)
  · exact eluOf_at _ _ _ _ (by rw [head2_eq]; exact R.head 2 _ _ i c)
  · exact eluOf_at _ _ _ _ (by rw [head3_eq]; exact R.head 3 _ _ i c)

/-- The second layer of the reference. -/
def secondArr (V : Valuation τ sig (Elt Ideal)) : FVec Ideal S5000x128 .f32 :=
  layerOf (V (Proc.devRef .tc main_arg2)) (V (Proc.devRef .tc main_arg3)) (res_main_v156 V) (V (Proc.devRef .tc main_arg9))
    (V (Proc.devRef .tc main_arg10)) (relb (V (Proc.devRef .tc main_arg1)) (V (Proc.devRef .tc main_arg11)))

theorem Reads.second (R : Reads V A) (i : Fin 5000) (d : Fin 128) : secondArr V (ix2 i d) = (A.out i d : EReal) :=
  R.layer _ _ _ _ R.feats R.a1o R.a2o (fun r => relb_at _ _ _ _ _ (R.rel r) R.aro) i d

/-- The last linear layer. -/
def lastLin (y : FVec Ideal S5000x128 .f32) (w : FVec Ideal S128x64 .f32) (b : FVec Ideal S64 .f32) : FVec Ideal S5000x64 .f32 :=
  addf (Host.dotGeneral dot_S5000x128_S128x64_S5000x64_1_0_0_1_n_n none y w) (broadcastInDim S5000x64 ![0, 1] bcast_S1x64_S5000x64_0_1 (broadcastInDim S1x64 ![1] bcast_S64_S1x64_1 b))

/-- Rows less their greatest entry. -/
def lessMax (y : FVec Ideal S5000x64 .f32) : FVec Ideal S5000x64 .f32 :=
  subf y (broadcastInDim S5000x64 ![0, 1] bcast_S5000x1_S5000x64_0_1 (broadcastInDim S5000x1 ![0] bcast_S5000_S5000x1_0 (maximumf (broadcastInDim S5000 ![] bcast_S_S5000 (constant S_ .f32 0xFF800000#32)) (Host.reduce FloatOps.maximumf y (constant S_ .f32 0xFF800000#32) reducesTo_S5000x64_S5000_d1 h_S_))))

theorem lin_eq : res_main_v187 V = lastLin (secondArr V) (V (Proc.devRef .tc main_arg12)) (V (Proc.devRef .tc main_arg13)) := rfl
theorem lessMax_eq : res_main_call19_v5 V = lessMax (res_main_v187 V) := rfl

theorem lastLin_at (y : FVec Ideal S5000x128 .f32) (w : FVec Ideal S128x64 .f32) (b : FVec Ideal S64 .f32) (i : Fin 5000) (d : Fin 64) (q : EReal)
    (hq : ∑ x, y (ix2 i x) * w (ix2 x d) + b (ix1 d) = q) : lastLin y w b (ix2 i d) = q := by
  pointwise [lastLin]
  exact hq

theorem lessMax_at (y : FVec Ideal S5000x64 .f32) (i : Fin 5000) (d : Fin 64) :
    lessMax y (ix2 i d) = y (ix2 i d) - Finset.fold max ⊥ (fun x => y (ix2 i x)) Finset.univ := by
  have key : ∀ q, y (ix2 i d) - max (Ideal.ofBits FTy.f32 4286578688#32)
        (Finset.fold max (Ideal.ofBits FTy.f32 4286578688#32) (fun x => y (ix2 i x)) Finset.univ) = q → lessMax y (ix2 i d) = q := by
    intro q hq
    pointwise [lessMax]
    exact hq
  exact key _ (by rw [negInf, max_eq_right bot_le])

/-- The rows' log-softmax, from rows less their greatest entry. -/
def lessLog (y : FVec Ideal S5000x64 .f32) : FVec Ideal S5000x64 .f32 :=
  subf y (broadcastInDim S5000x64 ![0, 1] bcast_S5000x1_S5000x64_0_1 (Host.log (broadcastInDim S5000x1 ![0] bcast_S5000_S5000x1_0 (Host.reduceAdd (Host.exp y) (constant S_ .f32 0x00000000#32) reducesTo_S5000x64_S5000_d1 h_S_))))

theorem lessLog_at (y : FVec Ideal S5000x64 .f32) (i : Fin 5000) (d : Fin 64) :
    lessLog y (ix2 i d) = y (ix2 i d) - Ideal.log (∑ x, Ideal.exp (y (ix2 i x))) := by
  have key : ∀ q, y (ix2 i d) - Ideal.log (∑ x, Ideal.exp (y (ix2 i x))) = q → lessLog y (ix2 i d) = q := by
    intro q hq
    pointwise [lessLog]
    exact hq
  exact key _ rfl

/-- The reference's result at an index. -/
theorem Reads.result (R : Reads V A) (i : Fin 5000) (d : Fin 64) :
    lessLog (res_main_call19_v5 V) (ix2 i d)
      = logSoft (fun e => ∑ x, (A.out i x : EReal) * (V (Proc.devRef .tc main_arg12) : FVec Ideal S128x64 .f32) (ix2 x e)
          + (V (Proc.devRef .tc main_arg13) : FVec Ideal S64 .f32) (ix1 e)) d := by
  have e1 : ∀ e, res_main_v187 V (ix2 i e) = ∑ x, (A.out i x : EReal) * (V (Proc.devRef .tc main_arg12) : FVec Ideal S128x64 .f32) (ix2 x e)
          + (V (Proc.devRef .tc main_arg13) : FVec Ideal S64 .f32) (ix1 e) := fun e => by
    rw [lin_eq]
    refine lastLin_at _ _ _ _ _ _ ?_
    exact congrArg (· + _) (Finset.sum_congr rfl fun x _ => by rw [R.second])
  rw [lessLog_at, lessMax_eq]
  simp only [lessMax_at]
  unfold logSoft
  simp only [e1]

end Cert.Proof.Ref
-- ==== Proof.Algebraic.lean ====
/-
  The kernel computes the reference, over the extended reals, at every input of the precondition.
-/
module

public import proofs.«01_k».proof.Defs
public import proofs.«01_k».proof.Proof.Claims
public import proofs.«01_k».proof.Proof.Range
public import proofs.«01_k».proof.Proof.Whole
public import proofs.«01_k».proof.Proof.RefRead

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (c : Dev nD)

/-- An argument array of the kernel, as launched. -/
abbrev launched (b : Ref sig .tc) : Buf (Elt Ideal) ((c.tc : Thread nD τ).loc b) := m ((c.tc : Thread nD τ).loc b)

/-- The arguments of a launch. -/
def argsAt : Args :=
  argsOf (launched m c main_arg0) (launched m c main_arg1) (launched m c main_arg2) (launched m c main_arg3) (launched m c main_arg4) (launched m c main_arg5)
    (launched m c main_arg6) (launched m c main_arg7) (launched m c main_arg8) (launched m c main_arg9) (launched m c main_arg10) (launched m c main_arg11)

variable {m}

/-- Under the precondition the kernel's arrays hold them. -/
theorem holds (hpre : Cert.Pre_KernelIdeal_in_range m) : Holds (V0 m c) (argsAt m c) :=
  have f := fine _ _ _ _ _ _ _ _ _ _ _ _ _ _ (hpre c)
  { x := fun _ _ => f.r0 _
    rel := fun _ _ => f.r1 _
    ids := fun _ _ => rfl
    adj := fun _ _ => rfl
    w := fun _ _ _ => f.r4 _
    a1 := fun _ _ => f.r5 _
    a2 := fun _ _ => f.r6 _
    ar := fun _ _ => f.r7 _
    wo := fun _ _ => f.r8 _
    a1o := fun _ => f.r9 _
    a2o := fun _ => f.r10 _
    aro := fun _ => f.r11 _
    small := fun _ _ => f.small _ }

/-- The launch's contents of one of the reference's arrays. -/
abbrev given (m' : (ℓ : Loc Cert.ReferenceIdeal.nD Cert.ReferenceIdeal.τ Cert.ReferenceIdeal.sig) → Buf (Elt Ideal) ℓ) (b : Ref Cert.ReferenceIdeal.sig .tc) :
    Buf (Elt Ideal) ((c.tc : Thread Cert.ReferenceIdeal.nD Cert.ReferenceIdeal.τ).loc b) := m' ((c.tc : Thread Cert.ReferenceIdeal.nD Cert.ReferenceIdeal.τ).loc b)

/-- The reference's arrays, which agree with the kernel's, hold the same arguments. -/
theorem ref_holds (H : Holds (V0 m c) (argsAt m c)) (m' : (ℓ : Loc Cert.ReferenceIdeal.nD Cert.ReferenceIdeal.τ Cert.ReferenceIdeal.sig) → Buf (Elt Ideal) ℓ)
    (g0 : given c m' Cert.ReferenceIdeal.main_arg0 = launched m c main_arg0) (g1 : given c m' Cert.ReferenceIdeal.main_arg1 = launched m c main_arg1)
    (g2 : given c m' Cert.ReferenceIdeal.main_arg2 = launched m c main_arg2) (g3 : given c m' Cert.ReferenceIdeal.main_arg3 = launched m c main_arg3)
    (g4 : given c m' Cert.ReferenceIdeal.main_arg4 = launched m c main_arg4) (g5 : given c m' Cert.ReferenceIdeal.main_arg5 = launched m c main_arg5)
    (g6 : given c m' Cert.ReferenceIdeal.main_arg6 = launched m c main_arg6) (g7 : given c m' Cert.ReferenceIdeal.main_arg7 = launched m c main_arg7)
    (g8 : given c m' Cert.ReferenceIdeal.main_arg8 = launched m c main_arg8) (g9 : given c m' Cert.ReferenceIdeal.main_arg9 = launched m c main_arg9)
    (g10 : given c m' Cert.ReferenceIdeal.main_arg10 = launched m c main_arg10) (g11 : given c m' Cert.ReferenceIdeal.main_arg11 = launched m c main_arg11) :
    Ref.Reads (StableHlo.launchContents m' c) (argsAt m c) where
  x i d := (congrFun g0 _).trans (H.x i d)
  rel r d := (congrFun g1 _).trans (H.rel r d)
  ids i j := (congrFun g2 _).trans (H.ids i j)
  adj i j := (congrFun g3 _).trans (H.adj i j)
  W k x d := (congrFun g4 _).trans (H.w k x d)
  a1 k x := (congrFun g5 _).trans (H.a1 k x)
  a2 k x := (congrFun g6 _).trans (H.a2 k x)
  ar k x := (congrFun g7 _).trans (H.ar k x)
  Wo x d := (congrFun g8 _).trans (H.wo x d)
  a1o x := (congrFun g9 _).trans (H.a1o x)
  a2o x := (congrFun g10 _).trans (H.a2o x)
  aro x := (congrFun g11 _).trans (H.aro x)
  small := H.small

/-- What both programs return. -/
def answer (m : (ℓ : Loc nD τ sig) → Buf (Elt Ideal) ℓ) (c : Dev nD) : Vec Ideal S5000x64 .f32 := fun p =>
  logSoft (fun e => ∑ x, ((argsAt m c).out (p 0) x : EReal) * (launched m c main_arg12 : Vec Ideal S128x64 .f32) (ix2 x e)
    + (launched m c main_arg13 : Vec Ideal S64 .f32) (ix1 e)) (p 1)

/-- Two arrays of the result's shape that agree at every pair of coordinates are equal. -/
theorem ext_pair {X Y : Vec Ideal S5000x64 .f32} (h : ∀ i d, X (ix2 i d) = Y (ix2 i d)) : X = Y := by
  funext p
  have e : p = ix2 (p 0) (p 1) := by
    funext a
    fin_cases a <;> rfl
  rw [e]
  exact h _ _

theorem kernel_answer (H : Holds (V0 m c) (argsAt m c)) {V : Valuation τ sig (Elt Ideal)} (h : (bodies Ideal).Ends m c V) :
    V (Proc.devRef .tc main_v16) = answer m c :=
  ext_pair fun i d => H.result m h i d

theorem frame_pi_pre : Cert.quiescent_KernelIdeal_pre_in_range := fun m g _ => frame_pi m g trivial

theorem frame_ri_pre : Cert.quiescent_ReferenceIdeal_pre_in_range := fun m g _ => frame_ri m g trivial

theorem algebraic : Cert.algebraic_KernelIdeal_ReferenceIdeal_pre_in_range := by
  intro m g m' g' hpre hagree
  refine ⟨fun c => answer m c, ?_, ?_⟩
  · refine (θ_run _ _ _).mono (fun r h c => ?_) ((bodies Ideal).launch m g)
    obtain ⟨V, hV, hr⟩ := h.1 c
    have key : ∀ b : Ref sig .tc, b.isScoped = false → Kept b → r.2.mem ((c.tc : Thread nD τ).loc b) = m ((c.tc : Thread nD τ).loc b) :=
      fun b hs hb => (hr b hs).trans (ends_kept m c V hV b hb)
    exact ⟨(hr _ rfl).trans (kernel_answer c (holds c hpre) hV), key _ rfl (by decide), key _ rfl (by decide), key _ rfl (by decide), key _ rfl (by decide),
      key _ rfl (by decide), key _ rfl (by decide), key _ rfl (by decide), key _ rfl (by decide), key _ rfl (by decide), key _ rfl (by decide),
      key _ rfl (by decide), key _ rfl (by decide), key _ rfl (by decide), key _ rfl (by decide)⟩
  · refine (θ_run _ _ _).mono (fun r h c => ⟨(h c).1.trans ?_, (h c).2⟩) (Cert.ReferenceIdeal.Value.run (F := Ideal) m' g')
    obtain ⟨g0, g1, g2, g3, g4, g5, g6, g7, g8, g9, g10, g11, g12, g13⟩ := hagree c
    have R := ref_holds c (holds c hpre) m' g0 g1 g2 g3 g4 g5 g6 g7 g8 g9 g10 g11
    refine ext_pair fun i d => (R.result i d).trans ?_
    have e12 : StableHlo.launchContents m' c (Proc.devRef .tc Cert.ReferenceIdeal.main_arg12) = launched m c main_arg12 := g12
    have e13 : StableHlo.launchContents m' c (Proc.devRef .tc Cert.ReferenceIdeal.main_arg13) = launched m c main_arg13 := g13
    rw [e12, e13]
    rfl

end Cert.Proof
-- ==== Proof.lean ====
module

public import proofs.«01_k».proof.Proof.Gen.Pre_in_range
public import proofs.«01_k».proof.Defs
public import proofs.«01_k».proof.Proof.Claims
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_in_range.Gen.facts, frame_p, frame_pi, frame_pi_pre, frame_ri, frame_ri_pre, preserves, algebraic⟩

end Cert.Proof

end
